-- ==== Defs.lean ====
def Pre_HgrnProj (m : (ℓ : Loc Cert.HgrnProj.nD Cert.HgrnProj.τ Cert.HgrnProj.sig) → Buf (Elt Bits) ℓ) : Prop :=
  True

def Pre_HgrnProjIdeal (m : (ℓ : Loc Cert.HgrnProjIdeal.nD Cert.HgrnProjIdeal.τ Cert.HgrnProjIdeal.sig) → Buf (Elt Ideal) ℓ) : Prop :=
  True

def Pre_HgrnProjRefIdeal (m : (ℓ : Loc Cert.HgrnProjRefIdeal.nD Cert.HgrnProjRefIdeal.τ Cert.HgrnProjRefIdeal.sig) → Buf (Elt Ideal) ℓ) : Prop :=
  True

def Pre_ConvProj (m : (ℓ : Loc Cert.ConvProj.nD Cert.ConvProj.τ Cert.ConvProj.sig) → Buf (Elt Bits) ℓ) : Prop :=
  True

def Pre_ConvProjIdeal (m : (ℓ : Loc Cert.ConvProjIdeal.nD Cert.ConvProjIdeal.τ Cert.ConvProjIdeal.sig) → Buf (Elt Ideal) ℓ) : Prop :=
  True

def Pre_ConvProjRefIdeal (m : (ℓ : Loc Cert.ConvProjRefIdeal.nD Cert.ConvProjRefIdeal.τ Cert.ConvProjRefIdeal.sig) → Buf (Elt Ideal) ℓ) : Prop :=
  True

def Pre_HgrnOut (m : (ℓ : Loc Cert.HgrnOut.nD Cert.HgrnOut.τ Cert.HgrnOut.sig) → Buf (Elt Bits) ℓ) : Prop :=
  True

def Pre_HgrnOutIdeal (m : (ℓ : Loc Cert.HgrnOutIdeal.nD Cert.HgrnOutIdeal.τ Cert.HgrnOutIdeal.sig) → Buf (Elt Ideal) ℓ) : Prop :=
  True

def Pre_HgrnOutRefIdeal (m : (ℓ : Loc Cert.HgrnOutRefIdeal.nD Cert.HgrnOutRefIdeal.τ Cert.HgrnOutRefIdeal.sig) → Buf (Elt Ideal) ℓ) : Prop :=
  True

def Pre_ConvCols (m : (ℓ : Loc Cert.ConvCols.nD Cert.ConvCols.τ Cert.ConvCols.sig) → Buf (Elt Bits) ℓ) : Prop :=
  True

def Pre_ConvColsIdeal (m : (ℓ : Loc Cert.ConvColsIdeal.nD Cert.ConvColsIdeal.τ Cert.ConvColsIdeal.sig) → Buf (Elt Ideal) ℓ) : Prop :=
  True

def Pre_ConvColsRefIdeal (m : (ℓ : Loc Cert.ConvColsRefIdeal.nD Cert.ConvColsRefIdeal.τ Cert.ConvColsRefIdeal.sig) → Buf (Elt Ideal) ℓ) : Prop :=
  True

def quiescent_HgrnProj [hHgrnProj : Cert.HgrnProj.Facts] : Prop :=
  ∀ (m : (ℓ : Loc Cert.HgrnProj.nD Cert.HgrnProj.τ Cert.HgrnProj.sig) → Buf (Elt Bits) ℓ) (g : Dev Cert.HgrnProj.nD → PrngReg), Pre_HgrnProj m →
    θ_run (Cert.HgrnProj.defs (F := Bits)) (onTc (τ := Cert.HgrnProj.τ) (Cert.HgrnProj.main (F := Bits))) ⟨m, fun _ => 0, g⟩ (fun r => (∀ c : Dev Cert.HgrnProj.nD,
      r.2.mem ((c.tc : Thread Cert.HgrnProj.nD Cert.HgrnProj.τ).loc Cert.HgrnProj.main_arg0) = m ((c.tc : Thread Cert.HgrnProj.nD Cert.HgrnProj.τ).loc Cert.HgrnProj.main_arg0)
      ∧ r.2.mem ((c.tc : Thread Cert.HgrnProj.nD Cert.HgrnProj.τ).loc Cert.HgrnProj.main_arg1) = m ((c.tc : Thread Cert.HgrnProj.nD Cert.HgrnProj.τ).loc Cert.HgrnProj.main_arg1)
      ∧ r.2.mem ((c.tc : Thread Cert.HgrnProj.nD Cert.HgrnProj.τ).loc Cert.HgrnProj.main_arg2) = m ((c.tc : Thread Cert.HgrnProj.nD Cert.HgrnProj.τ).loc Cert.HgrnProj.main_arg2)
      ∧ r.2.mem ((c.tc : Thread Cert.HgrnProj.nD Cert.HgrnProj.τ).loc Cert.HgrnProj.main_arg3) = m ((c.tc : Thread Cert.HgrnProj.nD Cert.HgrnProj.τ).loc Cert.HgrnProj.main_arg3)
      ∧ r.2.mem ((c.tc : Thread Cert.HgrnProj.nD Cert.HgrnProj.τ).loc Cert.HgrnProj.main_arg4) = m ((c.tc : Thread Cert.HgrnProj.nD Cert.HgrnProj.τ).loc Cert.HgrnProj.main_arg4)
      ∧ r.2.mem ((c.tc : Thread Cert.HgrnProj.nD Cert.HgrnProj.τ).loc Cert.HgrnProj.main_arg5) = m ((c.tc : Thread Cert.HgrnProj.nD Cert.HgrnProj.τ).loc Cert.HgrnProj.main_arg5))
      ∧ r.2.sem = fun _ => 0)

def quiescent_HgrnProjIdeal [hHgrnProjIdeal : Cert.HgrnProjIdeal.Facts] : Prop :=
  ∀ (m : (ℓ : Loc Cert.HgrnProjIdeal.nD Cert.HgrnProjIdeal.τ Cert.HgrnProjIdeal.sig) → Buf (Elt Ideal) ℓ) (g : Dev Cert.HgrnProjIdeal.nD → PrngReg), Pre_HgrnProjIdeal m →
    θ_run (Cert.HgrnProjIdeal.defs (F := Ideal)) (onTc (τ := Cert.HgrnProjIdeal.τ) (Cert.HgrnProjIdeal.main (F := Ideal))) ⟨m, fun _ => 0, g⟩ (fun r => (∀ c : Dev Cert.HgrnProjIdeal.nD,
      r.2.mem ((c.tc : Thread Cert.HgrnProjIdeal.nD Cert.HgrnProjIdeal.τ).loc Cert.HgrnProjIdeal.main_arg0) = m ((c.tc : Thread Cert.HgrnProjIdeal.nD Cert.HgrnProjIdeal.τ).loc Cert.HgrnProjIdeal.main_arg0)
      ∧ r.2.mem ((c.tc : Thread Cert.HgrnProjIdeal.nD Cert.HgrnProjIdeal.τ).loc Cert.HgrnProjIdeal.main_arg1) = m ((c.tc : Thread Cert.HgrnProjIdeal.nD Cert.HgrnProjIdeal.τ).loc Cert.HgrnProjIdeal.main_arg1)
      ∧ r.2.mem ((c.tc : Thread Cert.HgrnProjIdeal.nD Cert.HgrnProjIdeal.τ).loc Cert.HgrnProjIdeal.main_arg2) = m ((c.tc : Thread Cert.HgrnProjIdeal.nD Cert.HgrnProjIdeal.τ).loc Cert.HgrnProjIdeal.main_arg2)
      ∧ r.2.mem ((c.tc : Thread Cert.HgrnProjIdeal.nD Cert.HgrnProjIdeal.τ).loc Cert.HgrnProjIdeal.main_arg3) = m ((c.tc : Thread Cert.HgrnProjIdeal.nD Cert.HgrnProjIdeal.τ).loc Cert.HgrnProjIdeal.main_arg3)
      ∧ r.2.mem ((c.tc : Thread Cert.HgrnProjIdeal.nD Cert.HgrnProjIdeal.τ).loc Cert.HgrnProjIdeal.main_arg4) = m ((c.tc : Thread Cert.HgrnProjIdeal.nD Cert.HgrnProjIdeal.τ).loc Cert.HgrnProjIdeal.main_arg4)
      ∧ r.2.mem ((c.tc : Thread Cert.HgrnProjIdeal.nD Cert.HgrnProjIdeal.τ).loc Cert.HgrnProjIdeal.main_arg5) = m ((c.tc : Thread Cert.HgrnProjIdeal.nD Cert.HgrnProjIdeal.τ).loc Cert.HgrnProjIdeal.main_arg5))
      ∧ r.2.sem = fun _ => 0)

def quiescent_HgrnProjRefIdeal [hHgrnProjRefIdeal : Cert.HgrnProjRefIdeal.Facts] : Prop :=
  ∀ (m : (ℓ : Loc Cert.HgrnProjRefIdeal.nD Cert.HgrnProjRefIdeal.τ Cert.HgrnProjRefIdeal.sig) → Buf (Elt Ideal) ℓ) (g : Dev Cert.HgrnProjRefIdeal.nD → PrngReg), Pre_HgrnProjRefIdeal m →
    θ_run (Cert.HgrnProjRefIdeal.defs (F := Ideal)) (onTc (τ := Cert.HgrnProjRefIdeal.τ) (Cert.HgrnProjRefIdeal.main (F := Ideal))) ⟨m, fun _ => 0, g⟩ (fun r => (∀ c : Dev Cert.HgrnProjRefIdeal.nD,
      r.2.mem ((c.tc : Thread Cert.HgrnProjRefIdeal.nD Cert.HgrnProjRefIdeal.τ).loc Cert.HgrnProjRefIdeal.main_arg0) = m ((c.tc : Thread Cert.HgrnProjRefIdeal.nD Cert.HgrnProjRefIdeal.τ).loc Cert.HgrnProjRefIdeal.main_arg0)
      ∧ r.2.mem ((c.tc : Thread Cert.HgrnProjRefIdeal.nD Cert.HgrnProjRefIdeal.τ).loc Cert.HgrnProjRefIdeal.main_arg1) = m ((c.tc : Thread Cert.HgrnProjRefIdeal.nD Cert.HgrnProjRefIdeal.τ).loc Cert.HgrnProjRefIdeal.main_arg1)
      ∧ r.2.mem ((c.tc : Thread Cert.HgrnProjRefIdeal.nD Cert.HgrnProjRefIdeal.τ).loc Cert.HgrnProjRefIdeal.main_arg2) = m ((c.tc : Thread Cert.HgrnProjRefIdeal.nD Cert.HgrnProjRefIdeal.τ).loc Cert.HgrnProjRefIdeal.main_arg2)
      ∧ r.2.mem ((c.tc : Thread Cert.HgrnProjRefIdeal.nD Cert.HgrnProjRefIdeal.τ).loc Cert.HgrnProjRefIdeal.main_arg3) = m ((c.tc : Thread Cert.HgrnProjRefIdeal.nD Cert.HgrnProjRefIdeal.τ).loc Cert.HgrnProjRefIdeal.main_arg3)
      ∧ r.2.mem ((c.tc : Thread Cert.HgrnProjRefIdeal.nD Cert.HgrnProjRefIdeal.τ).loc Cert.HgrnProjRefIdeal.main_arg4) = m ((c.tc : Thread Cert.HgrnProjRefIdeal.nD Cert.HgrnProjRefIdeal.τ).loc Cert.HgrnProjRefIdeal.main_arg4)
      ∧ r.2.mem ((c.tc : Thread Cert.HgrnProjRefIdeal.nD Cert.HgrnProjRefIdeal.τ).loc Cert.HgrnProjRefIdeal.main_arg5) = m ((c.tc : Thread Cert.HgrnProjRefIdeal.nD Cert.HgrnProjRefIdeal.τ).loc Cert.HgrnProjRefIdeal.main_arg5))
      ∧ r.2.sem = fun _ => 0)

def quiescent_ConvProj [hConvProj : Cert.ConvProj.Facts] : Prop :=
  ∀ (m : (ℓ : Loc Cert.ConvProj.nD Cert.ConvProj.τ Cert.ConvProj.sig) → Buf (Elt Bits) ℓ) (g : Dev Cert.ConvProj.nD → PrngReg), Pre_ConvProj m →
    θ_run (Cert.ConvProj.defs (F := Bits)) (onTc (τ := Cert.ConvProj.τ) (Cert.ConvProj.main (F := Bits))) ⟨m, fun _ => 0, g⟩ (fun r => (∀ c : Dev Cert.ConvProj.nD,
      r.2.mem ((c.tc : Thread Cert.ConvProj.nD Cert.ConvProj.τ).loc Cert.ConvProj.main_arg0) = m ((c.tc : Thread Cert.ConvProj.nD Cert.ConvProj.τ).loc Cert.ConvProj.main_arg0)
      ∧ r.2.mem ((c.tc : Thread Cert.ConvProj.nD Cert.ConvProj.τ).loc Cert.ConvProj.main_arg1) = m ((c.tc : Thread Cert.ConvProj.nD Cert.ConvProj.τ).loc Cert.ConvProj.main_arg1)
      ∧ r.2.mem ((c.tc : Thread Cert.ConvProj.nD Cert.ConvProj.τ).loc Cert.ConvProj.main_arg2) = m ((c.tc : Thread Cert.ConvProj.nD Cert.ConvProj.τ).loc Cert.ConvProj.main_arg2)
      ∧ r.2.mem ((c.tc : Thread Cert.ConvProj.nD Cert.ConvProj.τ).loc Cert.ConvProj.main_arg3) = m ((c.tc : Thread Cert.ConvProj.nD Cert.ConvProj.τ).loc Cert.ConvProj.main_arg3)
      ∧ r.2.mem ((c.tc : Thread Cert.ConvProj.nD Cert.ConvProj.τ).loc Cert.ConvProj.main_arg4) = m ((c.tc : Thread Cert.ConvProj.nD Cert.ConvProj.τ).loc Cert.ConvProj.main_arg4)
      ∧ r.2.mem ((c.tc : Thread Cert.ConvProj.nD Cert.ConvProj.τ).loc Cert.ConvProj.main_arg5) = m ((c.tc : Thread Cert.ConvProj.nD Cert.ConvProj.τ).loc Cert.ConvProj.main_arg5))
      ∧ r.2.sem = fun _ => 0)

def quiescent_ConvProjIdeal [hConvProjIdeal : Cert.ConvProjIdeal.Facts] : Prop :=
  ∀ (m : (ℓ : Loc Cert.ConvProjIdeal.nD Cert.ConvProjIdeal.τ Cert.ConvProjIdeal.sig) → Buf (Elt Ideal) ℓ) (g : Dev Cert.ConvProjIdeal.nD → PrngReg), Pre_ConvProjIdeal m →
    θ_run (Cert.ConvProjIdeal.defs (F := Ideal)) (onTc (τ := Cert.ConvProjIdeal.τ) (Cert.ConvProjIdeal.main (F := Ideal))) ⟨m, fun _ => 0, g⟩ (fun r => (∀ c : Dev Cert.ConvProjIdeal.nD,
      r.2.mem ((c.tc : Thread Cert.ConvProjIdeal.nD Cert.ConvProjIdeal.τ).loc Cert.ConvProjIdeal.main_arg0) = m ((c.tc : Thread Cert.ConvProjIdeal.nD Cert.ConvProjIdeal.τ).loc Cert.ConvProjIdeal.main_arg0)
      ∧ r.2.mem ((c.tc : Thread Cert.ConvProjIdeal.nD Cert.ConvProjIdeal.τ).loc Cert.ConvProjIdeal.main_arg1) = m ((c.tc : Thread Cert.ConvProjIdeal.nD Cert.ConvProjIdeal.τ).loc Cert.ConvProjIdeal.main_arg1)
      ∧ r.2.mem ((c.tc : Thread Cert.ConvProjIdeal.nD Cert.ConvProjIdeal.τ).loc Cert.ConvProjIdeal.main_arg2) = m ((c.tc : Thread Cert.ConvProjIdeal.nD Cert.ConvProjIdeal.τ).loc Cert.ConvProjIdeal.main_arg2)
      ∧ r.2.mem ((c.tc : Thread Cert.ConvProjIdeal.nD Cert.ConvProjIdeal.τ).loc Cert.ConvProjIdeal.main_arg3) = m ((c.tc : Thread Cert.ConvProjIdeal.nD Cert.ConvProjIdeal.τ).loc Cert.ConvProjIdeal.main_arg3)
      ∧ r.2.mem ((c.tc : Thread Cert.ConvProjIdeal.nD Cert.ConvProjIdeal.τ).loc Cert.ConvProjIdeal.main_arg4) = m ((c.tc : Thread Cert.ConvProjIdeal.nD Cert.ConvProjIdeal.τ).loc Cert.ConvProjIdeal.main_arg4)
      ∧ r.2.mem ((c.tc : Thread Cert.ConvProjIdeal.nD Cert.ConvProjIdeal.τ).loc Cert.ConvProjIdeal.main_arg5) = m ((c.tc : Thread Cert.ConvProjIdeal.nD Cert.ConvProjIdeal.τ).loc Cert.ConvProjIdeal.main_arg5))
      ∧ r.2.sem = fun _ => 0)

def quiescent_ConvProjRefIdeal [hConvProjRefIdeal : Cert.ConvProjRefIdeal.Facts] : Prop :=
  ∀ (m : (ℓ : Loc Cert.ConvProjRefIdeal.nD Cert.ConvProjRefIdeal.τ Cert.ConvProjRefIdeal.sig) → Buf (Elt Ideal) ℓ) (g : Dev Cert.ConvProjRefIdeal.nD → PrngReg), Pre_ConvProjRefIdeal m →
    θ_run (Cert.ConvProjRefIdeal.defs (F := Ideal)) (onTc (τ := Cert.ConvProjRefIdeal.τ) (Cert.ConvProjRefIdeal.main (F := Ideal))) ⟨m, fun _ => 0, g⟩ (fun r => (∀ c : Dev Cert.ConvProjRefIdeal.nD,
      r.2.mem ((c.tc : Thread Cert.ConvProjRefIdeal.nD Cert.ConvProjRefIdeal.τ).loc Cert.ConvProjRefIdeal.main_arg0) = m ((c.tc : Thread Cert.ConvProjRefIdeal.nD Cert.ConvProjRefIdeal.τ).loc Cert.ConvProjRefIdeal.main_arg0)
      ∧ r.2.mem ((c.tc : Thread Cert.ConvProjRefIdeal.nD Cert.ConvProjRefIdeal.τ).loc Cert.ConvProjRefIdeal.main_arg1) = m ((c.tc : Thread Cert.ConvProjRefIdeal.nD Cert.ConvProjRefIdeal.τ).loc Cert.ConvProjRefIdeal.main_arg1)
      ∧ r.2.mem ((c.tc : Thread Cert.ConvProjRefIdeal.nD Cert.ConvProjRefIdeal.τ).loc Cert.ConvProjRefIdeal.main_arg2) = m ((c.tc : Thread Cert.ConvProjRefIdeal.nD Cert.ConvProjRefIdeal.τ).loc Cert.ConvProjRefIdeal.main_arg2)
      ∧ r.2.mem ((c.tc : Thread Cert.ConvProjRefIdeal.nD Cert.ConvProjRefIdeal.τ).loc Cert.ConvProjRefIdeal.main_arg3) = m ((c.tc : Thread Cert.ConvProjRefIdeal.nD Cert.ConvProjRefIdeal.τ).loc Cert.ConvProjRefIdeal.main_arg3)
      ∧ r.2.mem ((c.tc : Thread Cert.ConvProjRefIdeal.nD Cert.ConvProjRefIdeal.τ).loc Cert.ConvProjRefIdeal.main_arg4) = m ((c.tc : Thread Cert.ConvProjRefIdeal.nD Cert.ConvProjRefIdeal.τ).loc Cert.ConvProjRefIdeal.main_arg4)
      ∧ r.2.mem ((c.tc : Thread Cert.ConvProjRefIdeal.nD Cert.ConvProjRefIdeal.τ).loc Cert.ConvProjRefIdeal.main_arg5) = m ((c.tc : Thread Cert.ConvProjRefIdeal.nD Cert.ConvProjRefIdeal.τ).loc Cert.ConvProjRefIdeal.main_arg5))
      ∧ r.2.sem = fun _ => 0)

def quiescent_HgrnOut [hHgrnOut : Cert.HgrnOut.Facts] : Prop :=
  ∀ (m : (ℓ : Loc Cert.HgrnOut.nD Cert.HgrnOut.τ Cert.HgrnOut.sig) → Buf (Elt Bits) ℓ) (g : Dev Cert.HgrnOut.nD → PrngReg), Pre_HgrnOut m →
    θ_run (Cert.HgrnOut.defs (F := Bits)) (onTc (τ := Cert.HgrnOut.τ) (Cert.HgrnOut.main (F := Bits))) ⟨m, fun _ => 0, g⟩ (fun r => (∀ c : Dev Cert.HgrnOut.nD,
      r.2.mem ((c.tc : Thread Cert.HgrnOut.nD Cert.HgrnOut.τ).loc Cert.HgrnOut.main_arg0) = m ((c.tc : Thread Cert.HgrnOut.nD Cert.HgrnOut.τ).loc Cert.HgrnOut.main_arg0)
      ∧ r.2.mem ((c.tc : Thread Cert.HgrnOut.nD Cert.HgrnOut.τ).loc Cert.HgrnOut.main_arg1) = m ((c.tc : Thread Cert.HgrnOut.nD Cert.HgrnOut.τ).loc Cert.HgrnOut.main_arg1)
      ∧ r.2.mem ((c.tc : Thread Cert.HgrnOut.nD Cert.HgrnOut.τ).loc Cert.HgrnOut.main_arg2) = m ((c.tc : Thread Cert.HgrnOut.nD Cert.HgrnOut.τ).loc Cert.HgrnOut.main_arg2)
      ∧ r.2.mem ((c.tc : Thread Cert.HgrnOut.nD Cert.HgrnOut.τ).loc Cert.HgrnOut.main_arg3) = m ((c.tc : Thread Cert.HgrnOut.nD Cert.HgrnOut.τ).loc Cert.HgrnOut.main_arg3)
      ∧ r.2.mem ((c.tc : Thread Cert.HgrnOut.nD Cert.HgrnOut.τ).loc Cert.HgrnOut.main_arg4) = m ((c.tc : Thread Cert.HgrnOut.nD Cert.HgrnOut.τ).loc Cert.HgrnOut.main_arg4))
      ∧ r.2.sem = fun _ => 0)

def quiescent_HgrnOutIdeal [hHgrnOutIdeal : Cert.HgrnOutIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg), Pre_HgrnOutIdeal m →
    θ_run (Cert.HgrnOutIdeal.defs (F := Ideal)) (onTc (τ := Cert.HgrnOutIdeal.τ) (Cert.HgrnOutIdeal.main (F := Ideal))) ⟨m, fun _ => 0, g⟩ (fun r => (∀ c : Dev Cert.HgrnOutIdeal.nD,
      r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
      ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
      ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
      ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3)
      ∧ r.2.mem ((c.tc : Thread Cert.HgrnOutIdeal.nD Cert.HgrnOutIdeal.τ).loc Cert.HgrnOutIdeal.main_arg4) = m ((c.tc : Thread Cert.HgrnOutIdeal.nD Cert.HgrnOutIdeal.τ).loc Cert.HgrnOutIdeal.main_arg4))
      ∧ r.2.sem = fun _ => 0)

def quiescent_HgrnOutRefIdeal [hHgrnOutRefIdeal : Cert.HgrnOutRefIdeal.Facts] : Prop :=
  ∀ (m : (ℓ : Loc Cert.HgrnOutRefIdeal.nD Cert.HgrnOutRefIdeal.τ Cert.HgrnOutRefIdeal.sig) → Buf (Elt Ideal) ℓ) (g : Dev Cert.HgrnOutRefIdeal.nD → PrngReg), Pre_HgrnOutRefIdeal m →
    θ_run (Cert.HgrnOutRefIdeal.defs (F := Ideal)) (onTc (τ := Cert.HgrnOutRefIdeal.τ) (Cert.HgrnOutRefIdeal.main (F := Ideal))) ⟨m, fun _ => 0, g⟩ (fun r => (∀ c : Dev Cert.HgrnOutRefIdeal.nD,
      r.2.mem ((c.tc : Thread Cert.HgrnOutRefIdeal.nD Cert.HgrnOutRefIdeal.τ).loc Cert.HgrnOutRefIdeal.main_arg0) = m ((c.tc : Thread Cert.HgrnOutRefIdeal.nD Cert.HgrnOutRefIdeal.τ).loc Cert.HgrnOutRefIdeal.main_arg0)
      ∧ r.2.mem ((c.tc : Thread Cert.HgrnOutRefIdeal.nD Cert.HgrnOutRefIdeal.τ).loc Cert.HgrnOutRefIdeal.main_arg1) = m ((c.tc : Thread Cert.HgrnOutRefIdeal.nD Cert.HgrnOutRefIdeal.τ).loc Cert.HgrnOutRefIdeal.main_arg1)
      ∧ r.2.mem ((c.tc : Thread Cert.HgrnOutRefIdeal.nD Cert.HgrnOutRefIdeal.τ).loc Cert.HgrnOutRefIdeal.main_arg2) = m ((c.tc : Thread Cert.HgrnOutRefIdeal.nD Cert.HgrnOutRefIdeal.τ).loc Cert.HgrnOutRefIdeal.main_arg2)
      ∧ r.2.mem ((c.tc : Thread Cert.HgrnOutRefIdeal.nD Cert.HgrnOutRefIdeal.τ).loc Cert.HgrnOutRefIdeal.main_arg3) = m ((c.tc : Thread Cert.HgrnOutRefIdeal.nD Cert.HgrnOutRefIdeal.τ).loc Cert.HgrnOutRefIdeal.main_arg3)
      ∧ r.2.mem ((c.tc : Thread Cert.HgrnOutRefIdeal.nD Cert.HgrnOutRefIdeal.τ).loc Cert.HgrnOutRefIdeal.main_arg4) = m ((c.tc : Thread Cert.HgrnOutRefIdeal.nD Cert.HgrnOutRefIdeal.τ).loc Cert.HgrnOutRefIdeal.main_arg4))
      ∧ r.2.sem = fun _ => 0)

def quiescent_ConvCols [hConvCols : Cert.ConvCols.Facts] : Prop :=
  ∀ (m : (ℓ : Loc Cert.ConvCols.nD Cert.ConvCols.τ Cert.ConvCols.sig) → Buf (Elt Bits) ℓ) (g : Dev Cert.ConvCols.nD → PrngReg), Pre_ConvCols m →
    θ_run (Cert.ConvCols.defs (F := Bits)) (onTc (τ := Cert.ConvCols.τ) (Cert.ConvCols.main (F := Bits))) ⟨m, fun _ => 0, g⟩ (fun r => (∀ c : Dev Cert.ConvCols.nD,
      r.2.mem ((c.tc : Thread Cert.ConvCols.nD Cert.ConvCols.τ).loc Cert.ConvCols.main_arg0) = m ((c.tc : Thread Cert.ConvCols.nD Cert.ConvCols.τ).loc Cert.ConvCols.main_arg0)
      ∧ r.2.mem ((c.tc : Thread Cert.ConvCols.nD Cert.ConvCols.τ).loc Cert.ConvCols.main_arg1) = m ((c.tc : Thread Cert.ConvCols.nD Cert.ConvCols.τ).loc Cert.ConvCols.main_arg1)
      ∧ r.2.mem ((c.tc : Thread Cert.ConvCols.nD Cert.ConvCols.τ).loc Cert.ConvCols.main_arg2) = m ((c.tc : Thread Cert.ConvCols.nD Cert.ConvCols.τ).loc Cert.ConvCols.main_arg2)
      ∧ r.2.mem ((c.tc : Thread Cert.ConvCols.nD Cert.ConvCols.τ).loc Cert.ConvCols.main_arg3) = m ((c.tc : Thread Cert.ConvCols.nD Cert.ConvCols.τ).loc Cert.ConvCols.main_arg3)
      ∧ r.2.mem ((c.tc : Thread Cert.ConvCols.nD Cert.ConvCols.τ).loc Cert.ConvCols.main_arg4) = m ((c.tc : Thread Cert.ConvCols.nD Cert.ConvCols.τ).loc Cert.ConvCols.main_arg4)
      ∧ r.2.mem ((c.tc : Thread Cert.ConvCols.nD Cert.ConvCols.τ).loc Cert.ConvCols.main_arg5) = m ((c.tc : Thread Cert.ConvCols.nD Cert.ConvCols.τ).loc Cert.ConvCols.main_arg5)
      ∧ r.2.mem ((c.tc : Thread Cert.ConvCols.nD Cert.ConvCols.τ).loc Cert.ConvCols.main_arg6) = m ((c.tc : Thread Cert.ConvCols.nD Cert.ConvCols.τ).loc Cert.ConvCols.main_arg6)
      ∧ r.2.mem ((c.tc : Thread Cert.ConvCols.nD Cert.ConvCols.τ).loc Cert.ConvCols.main_arg7) = m ((c.tc : Thread Cert.ConvCols.nD Cert.ConvCols.τ).loc Cert.ConvCols.main_arg7)
      ∧ r.2.mem ((c.tc : Thread Cert.ConvCols.nD Cert.ConvCols.τ).loc Cert.ConvCols.main_arg8) = m ((c.tc : Thread Cert.ConvCols.nD Cert.ConvCols.τ).loc Cert.ConvCols.main_arg8)
      ∧ r.2.mem ((c.tc : Thread Cert.ConvCols.nD Cert.ConvCols.τ).loc Cert.ConvCols.main_arg9) = m ((c.tc : Thread Cert.ConvCols.nD Cert.ConvCols.τ).loc Cert.ConvCols.main_arg9)
      ∧ r.2.mem ((c.tc : Thread Cert.ConvCols.nD Cert.ConvCols.τ).loc Cert.ConvCols.main_arg10) = m ((c.tc : Thread Cert.ConvCols.nD Cert.ConvCols.τ).loc Cert.ConvCols.main_arg10))
      ∧ r.2.sem = fun _ => 0)

def quiescent_ConvColsIdeal [hConvColsIdeal : Cert.ConvColsIdeal.Facts] : Prop :=
  ∀ (m : (ℓ : Loc Cert.ConvColsIdeal.nD Cert.ConvColsIdeal.τ Cert.ConvColsIdeal.sig) → Buf (Elt Ideal) ℓ) (g : Dev Cert.ConvColsIdeal.nD → PrngReg), Pre_ConvColsIdeal m →
    θ_run (Cert.ConvColsIdeal.defs (F := Ideal)) (onTc (τ := Cert.ConvColsIdeal.τ) (Cert.ConvColsIdeal.main (F := Ideal))) ⟨m, fun _ => 0, g⟩ (fun r => (∀ c : Dev Cert.ConvColsIdeal.nD,
      r.2.mem ((c.tc : Thread Cert.ConvColsIdeal.nD Cert.ConvColsIdeal.τ).loc Cert.ConvColsIdeal.main_arg0) = m ((c.tc : Thread Cert.ConvColsIdeal.nD Cert.ConvColsIdeal.τ).loc Cert.ConvColsIdeal.main_arg0)
      ∧ r.2.mem ((c.tc : Thread Cert.ConvColsIdeal.nD Cert.ConvColsIdeal.τ).loc Cert.ConvColsIdeal.main_arg1) = m ((c.tc : Thread Cert.ConvColsIdeal.nD Cert.ConvColsIdeal.τ).loc Cert.ConvColsIdeal.main_arg1)
      ∧ r.2.mem ((c.tc : Thread Cert.ConvColsIdeal.nD Cert.ConvColsIdeal.τ).loc Cert.ConvColsIdeal.main_arg2) = m ((c.tc : Thread Cert.ConvColsIdeal.nD Cert.ConvColsIdeal.τ).loc Cert.ConvColsIdeal.main_arg2)
      ∧ r.2.mem ((c.tc : Thread Cert.ConvColsIdeal.nD Cert.ConvColsIdeal.τ).loc Cert.ConvColsIdeal.main_arg3) = m ((c.tc : Thread Cert.ConvColsIdeal.nD Cert.ConvColsIdeal.τ).loc Cert.ConvColsIdeal.main_arg3)
      ∧ r.2.mem ((c.tc : Thread Cert.ConvColsIdeal.nD Cert.ConvColsIdeal.τ).loc Cert.ConvColsIdeal.main_arg4) = m ((c.tc : Thread Cert.ConvColsIdeal.nD Cert.ConvColsIdeal.τ).loc Cert.ConvColsIdeal.main_arg4)
      ∧ r.2.mem ((c.tc : Thread Cert.ConvColsIdeal.nD Cert.ConvColsIdeal.τ).loc Cert.ConvColsIdeal.main_arg5) = m ((c.tc : Thread Cert.ConvColsIdeal.nD Cert.ConvColsIdeal.τ).loc Cert.ConvColsIdeal.main_arg5)
      ∧ r.2.mem ((c.tc : Thread Cert.ConvColsIdeal.nD Cert.ConvColsIdeal.τ).loc Cert.ConvColsIdeal.main_arg6) = m ((c.tc : Thread Cert.ConvColsIdeal.nD Cert.ConvColsIdeal.τ).loc Cert.ConvColsIdeal.main_arg6)
      ∧ r.2.mem ((c.tc : Thread Cert.ConvColsIdeal.nD Cert.ConvColsIdeal.τ).loc Cert.ConvColsIdeal.main_arg7) = m ((c.tc : Thread Cert.ConvColsIdeal.nD Cert.ConvColsIdeal.τ).loc Cert.ConvColsIdeal.main_arg7)
      ∧ r.2.mem ((c.tc : Thread Cert.ConvColsIdeal.nD Cert.ConvColsIdeal.τ).loc Cert.ConvColsIdeal.main_arg8) = m ((c.tc : Thread Cert.ConvColsIdeal.nD Cert.ConvColsIdeal.τ).loc Cert.ConvColsIdeal.main_arg8)
      ∧ r.2.mem ((c.tc : Thread Cert.ConvColsIdeal.nD Cert.ConvColsIdeal.τ).loc Cert.ConvColsIdeal.main_arg9) = m ((c.tc : Thread Cert.ConvColsIdeal.nD Cert.ConvColsIdeal.τ).loc Cert.ConvColsIdeal.main_arg9)
      ∧ r.2.mem ((c.tc : Thread Cert.ConvColsIdeal.nD Cert.ConvColsIdeal.τ).loc Cert.ConvColsIdeal.main_arg10) = m ((c.tc : Thread Cert.ConvColsIdeal.nD Cert.ConvColsIdeal.τ).loc Cert.ConvColsIdeal.main_arg10))
      ∧ r.2.sem = fun _ => 0)

def quiescent_ConvColsRefIdeal [hConvColsRefIdeal : Cert.ConvColsRefIdeal.Facts] : Prop :=
  ∀ (m : (ℓ : Loc Cert.ConvColsRefIdeal.nD Cert.ConvColsRefIdeal.τ Cert.ConvColsRefIdeal.sig) → Buf (Elt Ideal) ℓ) (g : Dev Cert.ConvColsRefIdeal.nD → PrngReg), Pre_ConvColsRefIdeal m →
    θ_run (Cert.ConvColsRefIdeal.defs (F := Ideal)) (onTc (τ := Cert.ConvColsRefIdeal.τ) (Cert.ConvColsRefIdeal.main (F := Ideal))) ⟨m, fun _ => 0, g⟩ (fun r => (∀ c : Dev Cert.ConvColsRefIdeal.nD,
      r.2.mem ((c.tc : Thread Cert.ConvColsRefIdeal.nD Cert.ConvColsRefIdeal.τ).loc Cert.ConvColsRefIdeal.main_arg0) = m ((c.tc : Thread Cert.ConvColsRefIdeal.nD Cert.ConvColsRefIdeal.τ).loc Cert.ConvColsRefIdeal.main_arg0)
      ∧ r.2.mem ((c.tc : Thread Cert.ConvColsRefIdeal.nD Cert.ConvColsRefIdeal.τ).loc Cert.ConvColsRefIdeal.main_arg1) = m ((c.tc : Thread Cert.ConvColsRefIdeal.nD Cert.ConvColsRefIdeal.τ).loc Cert.ConvColsRefIdeal.main_arg1)
      ∧ r.2.mem ((c.tc : Thread Cert.ConvColsRefIdeal.nD Cert.ConvColsRefIdeal.τ).loc Cert.ConvColsRefIdeal.main_arg2) = m ((c.tc : Thread Cert.ConvColsRefIdeal.nD Cert.ConvColsRefIdeal.τ).loc Cert.ConvColsRefIdeal.main_arg2)
      ∧ r.2.mem ((c.tc : Thread Cert.ConvColsRefIdeal.nD Cert.ConvColsRefIdeal.τ).loc Cert.ConvColsRefIdeal.main_arg3) = m ((c.tc : Thread Cert.ConvColsRefIdeal.nD Cert.ConvColsRefIdeal.τ).loc Cert.ConvColsRefIdeal.main_arg3)
      ∧ r.2.mem ((c.tc : Thread Cert.ConvColsRefIdeal.nD Cert.ConvColsRefIdeal.τ).loc Cert.ConvColsRefIdeal.main_arg4) = m ((c.tc : Thread Cert.ConvColsRefIdeal.nD Cert.ConvColsRefIdeal.τ).loc Cert.ConvColsRefIdeal.main_arg4)
      ∧ r.2.mem ((c.tc : Thread Cert.ConvColsRefIdeal.nD Cert.ConvColsRefIdeal.τ).loc Cert.ConvColsRefIdeal.main_arg5) = m ((c.tc : Thread Cert.ConvColsRefIdeal.nD Cert.ConvColsRefIdeal.τ).loc Cert.ConvColsRefIdeal.main_arg5)
      ∧ r.2.mem ((c.tc : Thread Cert.ConvColsRefIdeal.nD Cert.ConvColsRefIdeal.τ).loc Cert.ConvColsRefIdeal.main_arg6) = m ((c.tc : Thread Cert.ConvColsRefIdeal.nD Cert.ConvColsRefIdeal.τ).loc Cert.ConvColsRefIdeal.main_arg6)
      ∧ r.2.mem ((c.tc : Thread Cert.ConvColsRefIdeal.nD Cert.ConvColsRefIdeal.τ).loc Cert.ConvColsRefIdeal.main_arg7) = m ((c.tc : Thread Cert.ConvColsRefIdeal.nD Cert.ConvColsRefIdeal.τ).loc Cert.ConvColsRefIdeal.main_arg7)
      ∧ r.2.mem ((c.tc : Thread Cert.ConvColsRefIdeal.nD Cert.ConvColsRefIdeal.τ).loc Cert.ConvColsRefIdeal.main_arg8) = m ((c.tc : Thread Cert.ConvColsRefIdeal.nD Cert.ConvColsRefIdeal.τ).loc Cert.ConvColsRefIdeal.main_arg8)
      ∧ r.2.mem ((c.tc : Thread Cert.ConvColsRefIdeal.nD Cert.ConvColsRefIdeal.τ).loc Cert.ConvColsRefIdeal.main_arg9) = m ((c.tc : Thread Cert.ConvColsRefIdeal.nD Cert.ConvColsRefIdeal.τ).loc Cert.ConvColsRefIdeal.main_arg9)
      ∧ r.2.mem ((c.tc : Thread Cert.ConvColsRefIdeal.nD Cert.ConvColsRefIdeal.τ).loc Cert.ConvColsRefIdeal.main_arg10) = m ((c.tc : Thread Cert.ConvColsRefIdeal.nD Cert.ConvColsRefIdeal.τ).loc Cert.ConvColsRefIdeal.main_arg10))
      ∧ r.2.sem = fun _ => 0)

def preserves_HgrnProj_HgrnProjIdeal : Prop :=
  IdealRules.named_const.Statement Cert.HgrnProjIdeal.κ "inv_ln2" .f32 0x3FB8AA3B#32 (((Real.log 2)⁻¹ : ℝ) : EReal)

def algebraic_HgrnProjIdeal_HgrnProjRefIdeal [hHgrnProjIdeal : Cert.HgrnProjIdeal.Facts] [hHgrnProjRefIdeal : Cert.HgrnProjRefIdeal.Facts] : Prop :=
  ∀ (m : (ℓ : Loc Cert.HgrnProjIdeal.nD Cert.HgrnProjIdeal.τ Cert.HgrnProjIdeal.sig) → Buf (Elt Ideal) ℓ) (g : Dev Cert.HgrnProjIdeal.nD → PrngReg)
    (m' : (ℓ : Loc Cert.HgrnProjRefIdeal.nD Cert.HgrnProjRefIdeal.τ Cert.HgrnProjRefIdeal.sig) → Buf (Elt Ideal) ℓ) (g' : Dev Cert.HgrnProjRefIdeal.nD → PrngReg), Pre_HgrnProjIdeal m →
    (∀ c : Dev Cert.HgrnProjIdeal.nD,
      m' ((c.tc : Thread Cert.HgrnProjRefIdeal.nD Cert.HgrnProjRefIdeal.τ).loc Cert.HgrnProjRefIdeal.main_arg0) = m ((c.tc : Thread Cert.HgrnProjIdeal.nD Cert.HgrnProjIdeal.τ).loc Cert.HgrnProjIdeal.main_arg0)
      ∧ m' ((c.tc : Thread Cert.HgrnProjRefIdeal.nD Cert.HgrnProjRefIdeal.τ).loc Cert.HgrnProjRefIdeal.main_arg1) = m ((c.tc : Thread Cert.HgrnProjIdeal.nD Cert.HgrnProjIdeal.τ).loc Cert.HgrnProjIdeal.main_arg1)
      ∧ m' ((c.tc : Thread Cert.HgrnProjRefIdeal.nD Cert.HgrnProjRefIdeal.τ).loc Cert.HgrnProjRefIdeal.main_arg2) = m ((c.tc : Thread Cert.HgrnProjIdeal.nD Cert.HgrnProjIdeal.τ).loc Cert.HgrnProjIdeal.main_arg2)
      ∧ m' ((c.tc : Thread Cert.HgrnProjRefIdeal.nD Cert.HgrnProjRefIdeal.τ).loc Cert.HgrnProjRefIdeal.main_arg3) = m ((c.tc : Thread Cert.HgrnProjIdeal.nD Cert.HgrnProjIdeal.τ).loc Cert.HgrnProjIdeal.main_arg3)
      ∧ m' ((c.tc : Thread Cert.HgrnProjRefIdeal.nD Cert.HgrnProjRefIdeal.τ).loc Cert.HgrnProjRefIdeal.main_arg4) = m ((c.tc : Thread Cert.HgrnProjIdeal.nD Cert.HgrnProjIdeal.τ).loc Cert.HgrnProjIdeal.main_arg4)
      ∧ m' ((c.tc : Thread Cert.HgrnProjRefIdeal.nD Cert.HgrnProjRefIdeal.τ).loc Cert.HgrnProjRefIdeal.main_arg5) = m ((c.tc : Thread Cert.HgrnProjIdeal.nD Cert.HgrnProjIdeal.τ).loc Cert.HgrnProjIdeal.main_arg5)) →
    ∃ (v0 : (c : Dev Cert.HgrnProjIdeal.nD) → Buf (Elt Ideal) ((c.tc : Thread Cert.HgrnProjIdeal.nD Cert.HgrnProjIdeal.τ).loc Cert.HgrnProjIdeal.main_v8_0)) (v1 : (c : Dev Cert.HgrnProjIdeal.nD) → Buf (Elt Ideal) ((c.tc : Thread Cert.HgrnProjIdeal.nD Cert.HgrnProjIdeal.τ).loc Cert.HgrnProjIdeal.main_v8_1)) (v2 : (c : Dev Cert.HgrnProjIdeal.nD) → Buf (Elt Ideal) ((c.tc : Thread Cert.HgrnProjIdeal.nD Cert.HgrnProjIdeal.τ).loc Cert.HgrnProjIdeal.main_v8_2)) (v3 : (c : Dev Cert.HgrnProjIdeal.nD) → Buf (Elt Ideal) ((c.tc : Thread Cert.HgrnProjIdeal.nD Cert.HgrnProjIdeal.τ).loc Cert.HgrnProjIdeal.main_v8_3)) (v4 : (c : Dev Cert.HgrnProjIdeal.nD) → Buf (Elt Ideal) ((c.tc : Thread Cert.HgrnProjIdeal.nD Cert.HgrnProjIdeal.τ).loc Cert.HgrnProjIdeal.main_v8_4)) (v5 : (c : Dev Cert.HgrnProjIdeal.nD) → Buf (Elt Ideal) ((c.tc : Thread Cert.HgrnProjIdeal.nD Cert.HgrnProjIdeal.τ).loc Cert.HgrnProjIdeal.main_v8_5)) (v6 : (c : Dev Cert.HgrnProjIdeal.nD) → Buf (Elt Ideal) ((c.tc : Thread Cert.HgrnProjIdeal.nD Cert.HgrnProjIdeal.τ).loc Cert.HgrnProjIdeal.main_v8_6)),
      θ_run (Cert.HgrnProjIdeal.defs (F := Ideal)) (onTc (τ := Cert.HgrnProjIdeal.τ) (Cert.HgrnProjIdeal.main (F := Ideal))) ⟨m, fun _ => 0, g⟩ (fun r => ∀ c : Dev Cert.HgrnProjIdeal.nD,
          r.2.mem ((c.tc : Thread Cert.HgrnProjIdeal.nD Cert.HgrnProjIdeal.τ).loc Cert.HgrnProjIdeal.main_v8_0) = v0 c
          ∧ r.2.mem ((c.tc : Thread Cert.HgrnProjIdeal.nD Cert.HgrnProjIdeal.τ).loc Cert.HgrnProjIdeal.main_v8_1) = v1 c
          ∧ r.2.mem ((c.tc : Thread Cert.HgrnProjIdeal.nD Cert.HgrnProjIdeal.τ).loc Cert.HgrnProjIdeal.main_v8_2) = v2 c
          ∧ r.2.mem ((c.tc : Thread Cert.HgrnProjIdeal.nD Cert.HgrnProjIdeal.τ).loc Cert.HgrnProjIdeal.main_v8_3) = v3 c
          ∧ r.2.mem ((c.tc : Thread Cert.HgrnProjIdeal.nD Cert.HgrnProjIdeal.τ).loc Cert.HgrnProjIdeal.main_v8_4) = v4 c
          ∧ r.2.mem ((c.tc : Thread Cert.HgrnProjIdeal.nD Cert.HgrnProjIdeal.τ).loc Cert.HgrnProjIdeal.main_v8_5) = v5 c
          ∧ r.2.mem ((c.tc : Thread Cert.HgrnProjIdeal.nD Cert.HgrnProjIdeal.τ).loc Cert.HgrnProjIdeal.main_v8_6) = v6 c
          ∧ r.2.mem ((c.tc : Thread Cert.HgrnProjIdeal.nD Cert.HgrnProjIdeal.τ).loc Cert.HgrnProjIdeal.main_arg0) = m ((c.tc : Thread Cert.HgrnProjIdeal.nD Cert.HgrnProjIdeal.τ).loc Cert.HgrnProjIdeal.main_arg0)
          ∧ r.2.mem ((c.tc : Thread Cert.HgrnProjIdeal.nD Cert.HgrnProjIdeal.τ).loc Cert.HgrnProjIdeal.main_arg1) = m ((c.tc : Thread Cert.HgrnProjIdeal.nD Cert.HgrnProjIdeal.τ).loc Cert.HgrnProjIdeal.main_arg1)
          ∧ r.2.mem ((c.tc : Thread Cert.HgrnProjIdeal.nD Cert.HgrnProjIdeal.τ).loc Cert.HgrnProjIdeal.main_arg2) = m ((c.tc : Thread Cert.HgrnProjIdeal.nD Cert.HgrnProjIdeal.τ).loc Cert.HgrnProjIdeal.main_arg2)
          ∧ r.2.mem ((c.tc : Thread Cert.HgrnProjIdeal.nD Cert.HgrnProjIdeal.τ).loc Cert.HgrnProjIdeal.main_arg3) = m ((c.tc : Thread Cert.HgrnProjIdeal.nD Cert.HgrnProjIdeal.τ).loc Cert.HgrnProjIdeal.main_arg3)
          ∧ r.2.mem ((c.tc : Thread Cert.HgrnProjIdeal.nD Cert.HgrnProjIdeal.τ).loc Cert.HgrnProjIdeal.main_arg4) = m ((c.tc : Thread Cert.HgrnProjIdeal.nD Cert.HgrnProjIdeal.τ).loc Cert.HgrnProjIdeal.main_arg4)
          ∧ r.2.mem ((c.tc : Thread Cert.HgrnProjIdeal.nD Cert.HgrnProjIdeal.τ).loc Cert.HgrnProjIdeal.main_arg5) = m ((c.tc : Thread Cert.HgrnProjIdeal.nD Cert.HgrnProjIdeal.τ).loc Cert.HgrnProjIdeal.main_arg5))
      ∧ θ_run (Cert.HgrnProjRefIdeal.defs (F := Ideal)) (onTc (τ := Cert.HgrnProjRefIdeal.τ) (Cert.HgrnProjRefIdeal.main (F := Ideal))) ⟨m', fun _ => 0, g'⟩ (fun r => ∀ c : Dev Cert.HgrnProjRefIdeal.nD,
          r.2.mem ((c.tc : Thread Cert.HgrnProjRefIdeal.nD Cert.HgrnProjRefIdeal.τ).loc Cert.HgrnProjRefIdeal.main_v109) = v0 c
          ∧ r.2.mem ((c.tc : Thread Cert.HgrnProjRefIdeal.nD Cert.HgrnProjRefIdeal.τ).loc Cert.HgrnProjRefIdeal.main_v110) = v1 c
          ∧ r.2.mem ((c.tc : Thread Cert.HgrnProjRefIdeal.nD Cert.HgrnProjRefIdeal.τ).loc Cert.HgrnProjRefIdeal.main_v111) = v2 c
          ∧ r.2.mem ((c.tc : Thread Cert.HgrnProjRefIdeal.nD Cert.HgrnProjRefIdeal.τ).loc Cert.HgrnProjRefIdeal.main_v81) = v3 c
          ∧ r.2.mem ((c.tc : Thread Cert.HgrnProjRefIdeal.nD Cert.HgrnProjRefIdeal.τ).loc Cert.HgrnProjRefIdeal.main_v112) = v4 c
          ∧ r.2.mem ((c.tc : Thread Cert.HgrnProjRefIdeal.nD Cert.HgrnProjRefIdeal.τ).loc Cert.HgrnProjRefIdeal.main_v104) = v5 c
          ∧ r.2.mem ((c.tc : Thread Cert.HgrnProjRefIdeal.nD Cert.HgrnProjRefIdeal.τ).loc Cert.HgrnProjRefIdeal.main_v113) = v6 c
          ∧ r.2.mem ((c.tc : Thread Cert.HgrnProjRefIdeal.nD Cert.HgrnProjRefIdeal.τ).loc Cert.HgrnProjRefIdeal.main_arg0) = m' ((c.tc : Thread Cert.HgrnProjRefIdeal.nD Cert.HgrnProjRefIdeal.τ).loc Cert.HgrnProjRefIdeal.main_arg0)
          ∧ r.2.mem ((c.tc : Thread Cert.HgrnProjRefIdeal.nD Cert.HgrnProjRefIdeal.τ).loc Cert.HgrnProjRefIdeal.main_arg1) = m' ((c.tc : Thread Cert.HgrnProjRefIdeal.nD Cert.HgrnProjRefIdeal.τ).loc Cert.HgrnProjRefIdeal.main_arg1)
          ∧ r.2.mem ((c.tc : Thread Cert.HgrnProjRefIdeal.nD Cert.HgrnProjRefIdeal.τ).loc Cert.HgrnProjRefIdeal.main_arg2) = m' ((c.tc : Thread Cert.HgrnProjRefIdeal.nD Cert.HgrnProjRefIdeal.τ).loc Cert.HgrnProjRefIdeal.main_arg2)
          ∧ r.2.mem ((c.tc : Thread Cert.HgrnProjRefIdeal.nD Cert.HgrnProjRefIdeal.τ).loc Cert.HgrnProjRefIdeal.main_arg3) = m' ((c.tc : Thread Cert.HgrnProjRefIdeal.nD Cert.HgrnProjRefIdeal.τ).loc Cert.HgrnProjRefIdeal.main_arg3)
          ∧ r.2.mem ((c.tc : Thread Cert.HgrnProjRefIdeal.nD Cert.HgrnProjRefIdeal.τ).loc Cert.HgrnProjRefIdeal.main_arg4) = m' ((c.tc : Thread Cert.HgrnProjRefIdeal.nD Cert.HgrnProjRefIdeal.τ).loc Cert.HgrnProjRefIdeal.main_arg4)
          ∧ r.2.mem ((c.tc : Thread Cert.HgrnProjRefIdeal.nD Cert.HgrnProjRefIdeal.τ).loc Cert.HgrnProjRefIdeal.main_arg5) = m' ((c.tc : Thread Cert.HgrnProjRefIdeal.nD Cert.HgrnProjRefIdeal.τ).loc Cert.HgrnProjRefIdeal.main_arg5))

def preserves_ConvProj_ConvProjIdeal : Prop :=
  True

def algebraic_ConvProjIdeal_ConvProjRefIdeal [hConvProjIdeal : Cert.ConvProjIdeal.Facts] [hConvProjRefIdeal : Cert.ConvProjRefIdeal.Facts] : Prop :=
  ∀ (m : (ℓ : Loc Cert.ConvProjIdeal.nD Cert.ConvProjIdeal.τ Cert.ConvProjIdeal.sig) → Buf (Elt Ideal) ℓ) (g : Dev Cert.ConvProjIdeal.nD → PrngReg)
    (m' : (ℓ : Loc Cert.ConvProjRefIdeal.nD Cert.ConvProjRefIdeal.τ Cert.ConvProjRefIdeal.sig) → Buf (Elt Ideal) ℓ) (g' : Dev Cert.ConvProjRefIdeal.nD → PrngReg), Pre_ConvProjIdeal m →
    (∀ c : Dev Cert.ConvProjIdeal.nD,
      m' ((c.tc : Thread Cert.ConvProjRefIdeal.nD Cert.ConvProjRefIdeal.τ).loc Cert.ConvProjRefIdeal.main_arg0) = m ((c.tc : Thread Cert.ConvProjIdeal.nD Cert.ConvProjIdeal.τ).loc Cert.ConvProjIdeal.main_arg0)
      ∧ m' ((c.tc : Thread Cert.ConvProjRefIdeal.nD Cert.ConvProjRefIdeal.τ).loc Cert.ConvProjRefIdeal.main_arg1) = m ((c.tc : Thread Cert.ConvProjIdeal.nD Cert.ConvProjIdeal.τ).loc Cert.ConvProjIdeal.main_arg1)
      ∧ m' ((c.tc : Thread Cert.ConvProjRefIdeal.nD Cert.ConvProjRefIdeal.τ).loc Cert.ConvProjRefIdeal.main_arg2) = m ((c.tc : Thread Cert.ConvProjIdeal.nD Cert.ConvProjIdeal.τ).loc Cert.ConvProjIdeal.main_arg2)
      ∧ m' ((c.tc : Thread Cert.ConvProjRefIdeal.nD Cert.ConvProjRefIdeal.τ).loc Cert.ConvProjRefIdeal.main_arg3) = m ((c.tc : Thread Cert.ConvProjIdeal.nD Cert.ConvProjIdeal.τ).loc Cert.ConvProjIdeal.main_arg3)
      ∧ m' ((c.tc : Thread Cert.ConvProjRefIdeal.nD Cert.ConvProjRefIdeal.τ).loc Cert.ConvProjRefIdeal.main_arg4) = m ((c.tc : Thread Cert.ConvProjIdeal.nD Cert.ConvProjIdeal.τ).loc Cert.ConvProjIdeal.main_arg4)
      ∧ m' ((c.tc : Thread Cert.ConvProjRefIdeal.nD Cert.ConvProjRefIdeal.τ).loc Cert.ConvProjRefIdeal.main_arg5) = m ((c.tc : Thread Cert.ConvProjIdeal.nD Cert.ConvProjIdeal.τ).loc Cert.ConvProjIdeal.main_arg5)) →
    ∃ (v0 : (c : Dev Cert.ConvProjIdeal.nD) → Buf (Elt Ideal) ((c.tc : Thread Cert.ConvProjIdeal.nD Cert.ConvProjIdeal.τ).loc Cert.ConvProjIdeal.main_v8_0)) (v1 : (c : Dev Cert.ConvProjIdeal.nD) → Buf (Elt Ideal) ((c.tc : Thread Cert.ConvProjIdeal.nD Cert.ConvProjIdeal.τ).loc Cert.ConvProjIdeal.main_v8_1)),
      θ_run (Cert.ConvProjIdeal.defs (F := Ideal)) (onTc (τ := Cert.ConvProjIdeal.τ) (Cert.ConvProjIdeal.main (F := Ideal))) ⟨m, fun _ => 0, g⟩ (fun r => ∀ c : Dev Cert.ConvProjIdeal.nD,
          r.2.mem ((c.tc : Thread Cert.ConvProjIdeal.nD Cert.ConvProjIdeal.τ).loc Cert.ConvProjIdeal.main_v8_0) = v0 c
          ∧ r.2.mem ((c.tc : Thread Cert.ConvProjIdeal.nD Cert.ConvProjIdeal.τ).loc Cert.ConvProjIdeal.main_v8_1) = v1 c
          ∧ r.2.mem ((c.tc : Thread Cert.ConvProjIdeal.nD Cert.ConvProjIdeal.τ).loc Cert.ConvProjIdeal.main_arg0) = m ((c.tc : Thread Cert.ConvProjIdeal.nD Cert.ConvProjIdeal.τ).loc Cert.ConvProjIdeal.main_arg0)
          ∧ r.2.mem ((c.tc : Thread Cert.ConvProjIdeal.nD Cert.ConvProjIdeal.τ).loc Cert.ConvProjIdeal.main_arg1) = m ((c.tc : Thread Cert.ConvProjIdeal.nD Cert.ConvProjIdeal.τ).loc Cert.ConvProjIdeal.main_arg1)
          ∧ r.2.mem ((c.tc : Thread Cert.ConvProjIdeal.nD Cert.ConvProjIdeal.τ).loc Cert.ConvProjIdeal.main_arg2) = m ((c.tc : Thread Cert.ConvProjIdeal.nD Cert.ConvProjIdeal.τ).loc Cert.ConvProjIdeal.main_arg2)
          ∧ r.2.mem ((c.tc : Thread Cert.ConvProjIdeal.nD Cert.ConvProjIdeal.τ).loc Cert.ConvProjIdeal.main_arg3) = m ((c.tc : Thread Cert.ConvProjIdeal.nD Cert.ConvProjIdeal.τ).loc Cert.ConvProjIdeal.main_arg3)
          ∧ r.2.mem ((c.tc : Thread Cert.ConvProjIdeal.nD Cert.ConvProjIdeal.τ).loc Cert.ConvProjIdeal.main_arg4) = m ((c.tc : Thread Cert.ConvProjIdeal.nD Cert.ConvProjIdeal.τ).loc Cert.ConvProjIdeal.main_arg4)
          ∧ r.2.mem ((c.tc : Thread Cert.ConvProjIdeal.nD Cert.ConvProjIdeal.τ).loc Cert.ConvProjIdeal.main_arg5) = m ((c.tc : Thread Cert.ConvProjIdeal.nD Cert.ConvProjIdeal.τ).loc Cert.ConvProjIdeal.main_arg5))
      ∧ θ_run (Cert.ConvProjRefIdeal.defs (F := Ideal)) (onTc (τ := Cert.ConvProjRefIdeal.τ) (Cert.ConvProjRefIdeal.main (F := Ideal))) ⟨m', fun _ => 0, g'⟩ (fun r => ∀ c : Dev Cert.ConvProjRefIdeal.nD,
          r.2.mem ((c.tc : Thread Cert.ConvProjRefIdeal.nD Cert.ConvProjRefIdeal.τ).loc Cert.ConvProjRefIdeal.main_v71) = v0 c
          ∧ r.2.mem ((c.tc : Thread Cert.ConvProjRefIdeal.nD Cert.ConvProjRefIdeal.τ).loc Cert.ConvProjRefIdeal.main_v73) = v1 c
          ∧ r.2.mem ((c.tc : Thread Cert.ConvProjRefIdeal.nD Cert.ConvProjRefIdeal.τ).loc Cert.ConvProjRefIdeal.main_arg0) = m' ((c.tc : Thread Cert.ConvProjRefIdeal.nD Cert.ConvProjRefIdeal.τ).loc Cert.ConvProjRefIdeal.main_arg0)
          ∧ r.2.mem ((c.tc : Thread Cert.ConvProjRefIdeal.nD Cert.ConvProjRefIdeal.τ).loc Cert.ConvProjRefIdeal.main_arg1) = m' ((c.tc : Thread Cert.ConvProjRefIdeal.nD Cert.ConvProjRefIdeal.τ).loc Cert.ConvProjRefIdeal.main_arg1)
          ∧ r.2.mem ((c.tc : Thread Cert.ConvProjRefIdeal.nD Cert.ConvProjRefIdeal.τ).loc Cert.ConvProjRefIdeal.main_arg2) = m' ((c.tc : Thread Cert.ConvProjRefIdeal.nD Cert.ConvProjRefIdeal.τ).loc Cert.ConvProjRefIdeal.main_arg2)
          ∧ r.2.mem ((c.tc : Thread Cert.ConvProjRefIdeal.nD Cert.ConvProjRefIdeal.τ).loc Cert.ConvProjRefIdeal.main_arg3) = m' ((c.tc : Thread Cert.ConvProjRefIdeal.nD Cert.ConvProjRefIdeal.τ).loc Cert.ConvProjRefIdeal.main_arg3)
          ∧ r.2.mem ((c.tc : Thread Cert.ConvProjRefIdeal.nD Cert.ConvProjRefIdeal.τ).loc Cert.ConvProjRefIdeal.main_arg4) = m' ((c.tc : Thread Cert.ConvProjRefIdeal.nD Cert.ConvProjRefIdeal.τ).loc Cert.ConvProjRefIdeal.main_arg4)
          ∧ r.2.mem ((c.tc : Thread Cert.ConvProjRefIdeal.nD Cert.ConvProjRefIdeal.τ).loc Cert.ConvProjRefIdeal.main_arg5) = m' ((c.tc : Thread Cert.ConvProjRefIdeal.nD Cert.ConvProjRefIdeal.τ).loc Cert.ConvProjRefIdeal.main_arg5))

def preserves_HgrnOut_HgrnOutIdeal : Prop :=
  True

def algebraic_HgrnOutIdeal_HgrnOutRefIdeal [hHgrnOutIdeal : Cert.HgrnOutIdeal.Facts] [hHgrnOutRefIdeal : Cert.HgrnOutRefIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg)
    (m' : (ℓ : Loc Cert.HgrnOutRefIdeal.nD Cert.HgrnOutRefIdeal.τ Cert.HgrnOutRefIdeal.sig) → Buf (Elt Ideal) ℓ) (g' : Dev Cert.HgrnOutRefIdeal.nD → PrngReg), Pre_HgrnOutIdeal m →
    (∀ c : Dev Cert.HgrnOutIdeal.nD,
      m' ((c.tc : Thread Cert.HgrnOutRefIdeal.nD Cert.HgrnOutRefIdeal.τ).loc Cert.HgrnOutRefIdeal.main_arg0) = m ((c.tc : Thread Cert.HgrnOutIdeal.nD Cert.HgrnOutIdeal.τ).loc Cert.HgrnOutIdeal.main_arg0)
      ∧ m' ((c.tc : Thread Cert.HgrnOutRefIdeal.nD Cert.HgrnOutRefIdeal.τ).loc Cert.HgrnOutRefIdeal.main_arg1) = m ((c.tc : Thread Cert.HgrnOutIdeal.nD Cert.HgrnOutIdeal.τ).loc Cert.HgrnOutIdeal.main_arg1)
      ∧ m' ((c.tc : Thread Cert.HgrnOutRefIdeal.nD Cert.HgrnOutRefIdeal.τ).loc Cert.HgrnOutRefIdeal.main_arg2) = m ((c.tc : Thread Cert.HgrnOutIdeal.nD Cert.HgrnOutIdeal.τ).loc Cert.HgrnOutIdeal.main_arg2)
      ∧ m' ((c.tc : Thread Cert.HgrnOutRefIdeal.nD Cert.HgrnOutRefIdeal.τ).loc Cert.HgrnOutRefIdeal.main_arg3) = m ((c.tc : Thread Cert.HgrnOutIdeal.nD Cert.HgrnOutIdeal.τ).loc Cert.HgrnOutIdeal.main_arg3)
      ∧ m' ((c.tc : Thread Cert.HgrnOutRefIdeal.nD Cert.HgrnOutRefIdeal.τ).loc Cert.HgrnOutRefIdeal.main_arg4) = m ((c.tc : Thread Cert.HgrnOutIdeal.nD Cert.HgrnOutIdeal.τ).loc Cert.HgrnOutIdeal.main_arg4)) →
    ∃ (v0 : (c : Dev Cert.HgrnOutIdeal.nD) → Buf (Elt Ideal) ((c.tc : Thread Cert.HgrnOutIdeal.nD Cert.HgrnOutIdeal.τ).loc Cert.HgrnOutIdeal.main_v2)),
      θ_run (Cert.HgrnOutIdeal.defs (F := Ideal)) (onTc (τ := Cert.HgrnOutIdeal.τ) (Cert.HgrnOutIdeal.main (F := Ideal))) ⟨m, fun _ => 0, g⟩ (fun r => ∀ c : Dev Cert.HgrnOutIdeal.nD,
          r.2.mem ((c.tc : Thread Cert.HgrnOutIdeal.nD Cert.HgrnOutIdeal.τ).loc Cert.HgrnOutIdeal.main_v2) = v0 c
          ∧ r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
          ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
          ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
          ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3)
          ∧ r.2.mem ((c.tc : Thread Cert.HgrnOutIdeal.nD Cert.HgrnOutIdeal.τ).loc Cert.HgrnOutIdeal.main_arg4) = m ((c.tc : Thread Cert.HgrnOutIdeal.nD Cert.HgrnOutIdeal.τ).loc Cert.HgrnOutIdeal.main_arg4))
      ∧ θ_run (Cert.HgrnOutRefIdeal.defs (F := Ideal)) (onTc (τ := Cert.HgrnOutRefIdeal.τ) (Cert.HgrnOutRefIdeal.main (F := Ideal))) ⟨m', fun _ => 0, g'⟩ (fun r => ∀ c : Dev Cert.HgrnOutRefIdeal.nD,
          r.2.mem ((c.tc : Thread Cert.HgrnOutRefIdeal.nD Cert.HgrnOutRefIdeal.τ).loc Cert.HgrnOutRefIdeal.main_v20) = v0 c
          ∧ r.2.mem ((c.tc : Thread Cert.HgrnOutRefIdeal.nD Cert.HgrnOutRefIdeal.τ).loc Cert.HgrnOutRefIdeal.main_arg0) = m' ((c.tc : Thread Cert.HgrnOutRefIdeal.nD Cert.HgrnOutRefIdeal.τ).loc Cert.HgrnOutRefIdeal.main_arg0)
          ∧ r.2.mem ((c.tc : Thread Cert.HgrnOutRefIdeal.nD Cert.HgrnOutRefIdeal.τ).loc Cert.HgrnOutRefIdeal.main_arg1) = m' ((c.tc : Thread Cert.HgrnOutRefIdeal.nD Cert.HgrnOutRefIdeal.τ).loc Cert.HgrnOutRefIdeal.main_arg1)
          ∧ r.2.mem ((c.tc : Thread Cert.HgrnOutRefIdeal.nD Cert.HgrnOutRefIdeal.τ).loc Cert.HgrnOutRefIdeal.main_arg2) = m' ((c.tc : Thread Cert.HgrnOutRefIdeal.nD Cert.HgrnOutRefIdeal.τ).loc Cert.HgrnOutRefIdeal.main_arg2)
          ∧ r.2.mem ((c.tc : Thread Cert.HgrnOutRefIdeal.nD Cert.HgrnOutRefIdeal.τ).loc Cert.HgrnOutRefIdeal.main_arg3) = m' ((c.tc : Thread Cert.HgrnOutRefIdeal.nD Cert.HgrnOutRefIdeal.τ).loc Cert.HgrnOutRefIdeal.main_arg3)
          ∧ r.2.mem ((c.tc : Thread Cert.HgrnOutRefIdeal.nD Cert.HgrnOutRefIdeal.τ).loc Cert.HgrnOutRefIdeal.main_arg4) = m' ((c.tc : Thread Cert.HgrnOutRefIdeal.nD Cert.HgrnOutRefIdeal.τ).loc Cert.HgrnOutRefIdeal.main_arg4))

def preserves_ConvCols_ConvColsIdeal : Prop :=
  True

def algebraic_ConvColsIdeal_ConvColsRefIdeal [hConvColsIdeal : Cert.ConvColsIdeal.Facts] [hConvColsRefIdeal : Cert.ConvColsRefIdeal.Facts] : Prop :=
  ∀ (m : (ℓ : Loc Cert.ConvColsIdeal.nD Cert.ConvColsIdeal.τ Cert.ConvColsIdeal.sig) → Buf (Elt Ideal) ℓ) (g : Dev Cert.ConvColsIdeal.nD → PrngReg)
    (m' : (ℓ : Loc Cert.ConvColsRefIdeal.nD Cert.ConvColsRefIdeal.τ Cert.ConvColsRefIdeal.sig) → Buf (Elt Ideal) ℓ) (g' : Dev Cert.ConvColsRefIdeal.nD → PrngReg), Pre_ConvColsIdeal m →
    (∀ c : Dev Cert.ConvColsIdeal.nD,
      m' ((c.tc : Thread Cert.ConvColsRefIdeal.nD Cert.ConvColsRefIdeal.τ).loc Cert.ConvColsRefIdeal.main_arg0) = m ((c.tc : Thread Cert.ConvColsIdeal.nD Cert.ConvColsIdeal.τ).loc Cert.ConvColsIdeal.main_arg0)
      ∧ m' ((c.tc : Thread Cert.ConvColsRefIdeal.nD Cert.ConvColsRefIdeal.τ).loc Cert.ConvColsRefIdeal.main_arg1) = m ((c.tc : Thread Cert.ConvColsIdeal.nD Cert.ConvColsIdeal.τ).loc Cert.ConvColsIdeal.main_arg1)
      ∧ m' ((c.tc : Thread Cert.ConvColsRefIdeal.nD Cert.ConvColsRefIdeal.τ).loc Cert.ConvColsRefIdeal.main_arg2) = m ((c.tc : Thread Cert.ConvColsIdeal.nD Cert.ConvColsIdeal.τ).loc Cert.ConvColsIdeal.main_arg2)
      ∧ m' ((c.tc : Thread Cert.ConvColsRefIdeal.nD Cert.ConvColsRefIdeal.τ).loc Cert.ConvColsRefIdeal.main_arg3) = m ((c.tc : Thread Cert.ConvColsIdeal.nD Cert.ConvColsIdeal.τ).loc Cert.ConvColsIdeal.main_arg3)
      ∧ m' ((c.tc : Thread Cert.ConvColsRefIdeal.nD Cert.ConvColsRefIdeal.τ).loc Cert.ConvColsRefIdeal.main_arg4) = m ((c.tc : Thread Cert.ConvColsIdeal.nD Cert.ConvColsIdeal.τ).loc Cert.ConvColsIdeal.main_arg4)
      ∧ m' ((c.tc : Thread Cert.ConvColsRefIdeal.nD Cert.ConvColsRefIdeal.τ).loc Cert.ConvColsRefIdeal.main_arg5) = m ((c.tc : Thread Cert.ConvColsIdeal.nD Cert.ConvColsIdeal.τ).loc Cert.ConvColsIdeal.main_arg5)
      ∧ m' ((c.tc : Thread Cert.ConvColsRefIdeal.nD Cert.ConvColsRefIdeal.τ).loc Cert.ConvColsRefIdeal.main_arg6) = m ((c.tc : Thread Cert.ConvColsIdeal.nD Cert.ConvColsIdeal.τ).loc Cert.ConvColsIdeal.main_arg6)
      ∧ m' ((c.tc : Thread Cert.ConvColsRefIdeal.nD Cert.ConvColsRefIdeal.τ).loc Cert.ConvColsRefIdeal.main_arg7) = m ((c.tc : Thread Cert.ConvColsIdeal.nD Cert.ConvColsIdeal.τ).loc Cert.ConvColsIdeal.main_arg7)
      ∧ m' ((c.tc : Thread Cert.ConvColsRefIdeal.nD Cert.ConvColsRefIdeal.τ).loc Cert.ConvColsRefIdeal.main_arg8) = m ((c.tc : Thread Cert.ConvColsIdeal.nD Cert.ConvColsIdeal.τ).loc Cert.ConvColsIdeal.main_arg8)
      ∧ m' ((c.tc : Thread Cert.ConvColsRefIdeal.nD Cert.ConvColsRefIdeal.τ).loc Cert.ConvColsRefIdeal.main_arg9) = m ((c.tc : Thread Cert.ConvColsIdeal.nD Cert.ConvColsIdeal.τ).loc Cert.ConvColsIdeal.main_arg9)
      ∧ m' ((c.tc : Thread Cert.ConvColsRefIdeal.nD Cert.ConvColsRefIdeal.τ).loc Cert.ConvColsRefIdeal.main_arg10) = m ((c.tc : Thread Cert.ConvColsIdeal.nD Cert.ConvColsIdeal.τ).loc Cert.ConvColsIdeal.main_arg10)) →
    ∃ (v0 : (c : Dev Cert.ConvColsIdeal.nD) → Buf (Elt Ideal) ((c.tc : Thread Cert.ConvColsIdeal.nD Cert.ConvColsIdeal.τ).loc Cert.ConvColsIdeal.main_v21)),
      θ_run (Cert.ConvColsIdeal.defs (F := Ideal)) (onTc (τ := Cert.ConvColsIdeal.τ) (Cert.ConvColsIdeal.main (F := Ideal))) ⟨m, fun _ => 0, g⟩ (fun r => ∀ c : Dev Cert.ConvColsIdeal.nD,
          r.2.mem ((c.tc : Thread Cert.ConvColsIdeal.nD Cert.ConvColsIdeal.τ).loc Cert.ConvColsIdeal.main_v21) = v0 c
          ∧ r.2.mem ((c.tc : Thread Cert.ConvColsIdeal.nD Cert.ConvColsIdeal.τ).loc Cert.ConvColsIdeal.main_arg0) = m ((c.tc : Thread Cert.ConvColsIdeal.nD Cert.ConvColsIdeal.τ).loc Cert.ConvColsIdeal.main_arg0)
          ∧ r.2.mem ((c.tc : Thread Cert.ConvColsIdeal.nD Cert.ConvColsIdeal.τ).loc Cert.ConvColsIdeal.main_arg1) = m ((c.tc : Thread Cert.ConvColsIdeal.nD Cert.ConvColsIdeal.τ).loc Cert.ConvColsIdeal.main_arg1)
          ∧ r.2.mem ((c.tc : Thread Cert.ConvColsIdeal.nD Cert.ConvColsIdeal.τ).loc Cert.ConvColsIdeal.main_arg2) = m ((c.tc : Thread Cert.ConvColsIdeal.nD Cert.ConvColsIdeal.τ).loc Cert.ConvColsIdeal.main_arg2)
          ∧ r.2.mem ((c.tc : Thread Cert.ConvColsIdeal.nD Cert.ConvColsIdeal.τ).loc Cert.ConvColsIdeal.main_arg3) = m ((c.tc : Thread Cert.ConvColsIdeal.nD Cert.ConvColsIdeal.τ).loc Cert.ConvColsIdeal.main_arg3)
          ∧ r.2.mem ((c.tc : Thread Cert.ConvColsIdeal.nD Cert.ConvColsIdeal.τ).loc Cert.ConvColsIdeal.main_arg4) = m ((c.tc : Thread Cert.ConvColsIdeal.nD Cert.ConvColsIdeal.τ).loc Cert.ConvColsIdeal.main_arg4)
          ∧ r.2.mem ((c.tc : Thread Cert.ConvColsIdeal.nD Cert.ConvColsIdeal.τ).loc Cert.ConvColsIdeal.main_arg5) = m ((c.tc : Thread Cert.ConvColsIdeal.nD Cert.ConvColsIdeal.τ).loc Cert.ConvColsIdeal.main_arg5)
          ∧ r.2.mem ((c.tc : Thread Cert.ConvColsIdeal.nD Cert.ConvColsIdeal.τ).loc Cert.ConvColsIdeal.main_arg6) = m ((c.tc : Thread Cert.ConvColsIdeal.nD Cert.ConvColsIdeal.τ).loc Cert.ConvColsIdeal.main_arg6)
          ∧ r.2.mem ((c.tc : Thread Cert.ConvColsIdeal.nD Cert.ConvColsIdeal.τ).loc Cert.ConvColsIdeal.main_arg7) = m ((c.tc : Thread Cert.ConvColsIdeal.nD Cert.ConvColsIdeal.τ).loc Cert.ConvColsIdeal.main_arg7)
          ∧ r.2.mem ((c.tc : Thread Cert.ConvColsIdeal.nD Cert.ConvColsIdeal.τ).loc Cert.ConvColsIdeal.main_arg8) = m ((c.tc : Thread Cert.ConvColsIdeal.nD Cert.ConvColsIdeal.τ).loc Cert.ConvColsIdeal.main_arg8)
          ∧ r.2.mem ((c.tc : Thread Cert.ConvColsIdeal.nD Cert.ConvColsIdeal.τ).loc Cert.ConvColsIdeal.main_arg9) = m ((c.tc : Thread Cert.ConvColsIdeal.nD Cert.ConvColsIdeal.τ).loc Cert.ConvColsIdeal.main_arg9)
          ∧ r.2.mem ((c.tc : Thread Cert.ConvColsIdeal.nD Cert.ConvColsIdeal.τ).loc Cert.ConvColsIdeal.main_arg10) = m ((c.tc : Thread Cert.ConvColsIdeal.nD Cert.ConvColsIdeal.τ).loc Cert.ConvColsIdeal.main_arg10))
      ∧ θ_run (Cert.ConvColsRefIdeal.defs (F := Ideal)) (onTc (τ := Cert.ConvColsRefIdeal.τ) (Cert.ConvColsRefIdeal.main (F := Ideal))) ⟨m', fun _ => 0, g'⟩ (fun r => ∀ c : Dev Cert.ConvColsRefIdeal.nD,
          r.2.mem ((c.tc : Thread Cert.ConvColsRefIdeal.nD Cert.ConvColsRefIdeal.τ).loc Cert.ConvColsRefIdeal.main_v283) = v0 c
          ∧ r.2.mem ((c.tc : Thread Cert.ConvColsRefIdeal.nD Cert.ConvColsRefIdeal.τ).loc Cert.ConvColsRefIdeal.main_arg0) = m' ((c.tc : Thread Cert.ConvColsRefIdeal.nD Cert.ConvColsRefIdeal.τ).loc Cert.ConvColsRefIdeal.main_arg0)
          ∧ r.2.mem ((c.tc : Thread Cert.ConvColsRefIdeal.nD Cert.ConvColsRefIdeal.τ).loc Cert.ConvColsRefIdeal.main_arg1) = m' ((c.tc : Thread Cert.ConvColsRefIdeal.nD Cert.ConvColsRefIdeal.τ).loc Cert.ConvColsRefIdeal.main_arg1)
          ∧ r.2.mem ((c.tc : Thread Cert.ConvColsRefIdeal.nD Cert.ConvColsRefIdeal.τ).loc Cert.ConvColsRefIdeal.main_arg2) = m' ((c.tc : Thread Cert.ConvColsRefIdeal.nD Cert.ConvColsRefIdeal.τ).loc Cert.ConvColsRefIdeal.main_arg2)
          ∧ r.2.mem ((c.tc : Thread Cert.ConvColsRefIdeal.nD Cert.ConvColsRefIdeal.τ).loc Cert.ConvColsRefIdeal.main_arg3) = m' ((c.tc : Thread Cert.ConvColsRefIdeal.nD Cert.ConvColsRefIdeal.τ).loc Cert.ConvColsRefIdeal.main_arg3)
          ∧ r.2.mem ((c.tc : Thread Cert.ConvColsRefIdeal.nD Cert.ConvColsRefIdeal.τ).loc Cert.ConvColsRefIdeal.main_arg4) = m' ((c.tc : Thread Cert.ConvColsRefIdeal.nD Cert.ConvColsRefIdeal.τ).loc Cert.ConvColsRefIdeal.main_arg4)
          ∧ r.2.mem ((c.tc : Thread Cert.ConvColsRefIdeal.nD Cert.ConvColsRefIdeal.τ).loc Cert.ConvColsRefIdeal.main_arg5) = m' ((c.tc : Thread Cert.ConvColsRefIdeal.nD Cert.ConvColsRefIdeal.τ).loc Cert.ConvColsRefIdeal.main_arg5)
          ∧ r.2.mem ((c.tc : Thread Cert.ConvColsRefIdeal.nD Cert.ConvColsRefIdeal.τ).loc Cert.ConvColsRefIdeal.main_arg6) = m' ((c.tc : Thread Cert.ConvColsRefIdeal.nD Cert.ConvColsRefIdeal.τ).loc Cert.ConvColsRefIdeal.main_arg6)
          ∧ r.2.mem ((c.tc : Thread Cert.ConvColsRefIdeal.nD Cert.ConvColsRefIdeal.τ).loc Cert.ConvColsRefIdeal.main_arg7) = m' ((c.tc : Thread Cert.ConvColsRefIdeal.nD Cert.ConvColsRefIdeal.τ).loc Cert.ConvColsRefIdeal.main_arg7)
          ∧ r.2.mem ((c.tc : Thread Cert.ConvColsRefIdeal.nD Cert.ConvColsRefIdeal.τ).loc Cert.ConvColsRefIdeal.main_arg8) = m' ((c.tc : Thread Cert.ConvColsRefIdeal.nD Cert.ConvColsRefIdeal.τ).loc Cert.ConvColsRefIdeal.main_arg8)
          ∧ r.2.mem ((c.tc : Thread Cert.ConvColsRefIdeal.nD Cert.ConvColsRefIdeal.τ).loc Cert.ConvColsRefIdeal.main_arg9) = m' ((c.tc : Thread Cert.ConvColsRefIdeal.nD Cert.ConvColsRefIdeal.τ).loc Cert.ConvColsRefIdeal.main_arg9)
          ∧ r.2.mem ((c.tc : Thread Cert.ConvColsRefIdeal.nD Cert.ConvColsRefIdeal.τ).loc Cert.ConvColsRefIdeal.main_arg10) = m' ((c.tc : Thread Cert.ConvColsRefIdeal.nD Cert.ConvColsRefIdeal.τ).loc Cert.ConvColsRefIdeal.main_arg10))

def Claim : Prop :=
  ∃ (hHgrnProj : Cert.HgrnProj.Facts) (hHgrnProjIdeal : Cert.HgrnProjIdeal.Facts) (hHgrnProjRefIdeal : Cert.HgrnProjRefIdeal.Facts) (hConvProj : Cert.ConvProj.Facts) (hConvProjIdeal : Cert.ConvProjIdeal.Facts) (hConvProjRefIdeal : Cert.ConvProjRefIdeal.Facts) (hHgrnOut : Cert.HgrnOut.Facts) (hHgrnOutIdeal : Cert.HgrnOutIdeal.Facts) (hHgrnOutRefIdeal : Cert.HgrnOutRefIdeal.Facts) (hConvCols : Cert.ConvCols.Facts) (hConvColsIdeal : Cert.ConvColsIdeal.Facts) (hConvColsRefIdeal : Cert.ConvColsRefIdeal.Facts),
    quiescent_HgrnProj (hHgrnProj := hHgrnProj)
    ∧ quiescent_HgrnProjIdeal (hHgrnProjIdeal := hHgrnProjIdeal)
    ∧ quiescent_HgrnProjRefIdeal (hHgrnProjRefIdeal := hHgrnProjRefIdeal)
    ∧ quiescent_ConvProj (hConvProj := hConvProj)
    ∧ quiescent_ConvProjIdeal (hConvProjIdeal := hConvProjIdeal)
    ∧ quiescent_ConvProjRefIdeal (hConvProjRefIdeal := hConvProjRefIdeal)
    ∧ quiescent_HgrnOut (hHgrnOut := hHgrnOut)
    ∧ quiescent_HgrnOutIdeal (hHgrnOutIdeal := hHgrnOutIdeal)
    ∧ quiescent_HgrnOutRefIdeal (hHgrnOutRefIdeal := hHgrnOutRefIdeal)
    ∧ quiescent_ConvCols (hConvCols := hConvCols)
    ∧ quiescent_ConvColsIdeal (hConvColsIdeal := hConvColsIdeal)
    ∧ quiescent_ConvColsRefIdeal (hConvColsRefIdeal := hConvColsRefIdeal)
    ∧ preserves_HgrnProj_HgrnProjIdeal
    ∧ algebraic_HgrnProjIdeal_HgrnProjRefIdeal (hHgrnProjIdeal := hHgrnProjIdeal) (hHgrnProjRefIdeal := hHgrnProjRefIdeal)
    ∧ preserves_ConvProj_ConvProjIdeal
    ∧ algebraic_ConvProjIdeal_ConvProjRefIdeal (hConvProjIdeal := hConvProjIdeal) (hConvProjRefIdeal := hConvProjRefIdeal)
    ∧ preserves_HgrnOut_HgrnOutIdeal
    ∧ algebraic_HgrnOutIdeal_HgrnOutRefIdeal (hHgrnOutIdeal := hHgrnOutIdeal) (hHgrnOutRefIdeal := hHgrnOutRefIdeal)
    ∧ preserves_ConvCols_ConvColsIdeal
    ∧ algebraic_ConvColsIdeal_ConvColsRefIdeal (hConvColsIdeal := hConvColsIdeal) (hConvColsRefIdeal := hConvColsRefIdeal)
-- ==== HgrnProj.lean ====
abbrev S16x2304x1024 : Shape := ⟨3, ![16, 2304, 1024]⟩
abbrev S1x3x1024 : Shape := ⟨3, ![1, 3, 1024]⟩
abbrev S16x3x1024 : Shape := ⟨3, ![16, 3, 1024]⟩
abbrev S1024 : Shape := ⟨1, ![1024]⟩
abbrev S2x1024x10240 : Shape := ⟨3, ![2, 1024, 10240]⟩
abbrev S2x2x2048 : Shape := ⟨3, ![2, 2, 2048]⟩
abbrev S1x1x2048 : Shape := ⟨3, ![1, 1, 2048]⟩
abbrev S2048 : Shape := ⟨1, ![2048]⟩
abbrev S1x2048 : Shape := ⟨2, ![1, 2048]⟩
abbrev S1x1024 : Shape := ⟨2, ![1, 1024]⟩
abbrev S16x2304x2048 : Shape := ⟨3, ![16, 2304, 2048]⟩
abbrev S1x2304x1024 : Shape := ⟨3, ![1, 2304, 1024]⟩
abbrev S1x1024x256 : Shape := ⟨3, ![1, 1024, 256]⟩
abbrev S1x256 : Shape := ⟨2, ![1, 256]⟩
abbrev S1x2304x256 : Shape := ⟨3, ![1, 2304, 256]⟩
abbrev S2304x1024 : Shape := ⟨2, ![2304, 1024]⟩
abbrev S1x1x1024 : Shape := ⟨3, ![1, 1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x256x256 : Shape := ⟨3, ![1, 256, 256]⟩

abbrev nBuf : Space → Nat
  | .hbm => 21
  | .vmem => 35
  | .smem => 0
  | _ => 0

abbrev bufTy : (tb : Table) → Fin (tcTables nBuf tb) → BufTy
  | .hbm, ⟨0, _⟩ => ⟨S16x2304x1024, .f32⟩
  | .hbm, ⟨1, _⟩ => ⟨S1x3x1024, .f32⟩
  | .hbm, ⟨2, _⟩ => ⟨S16x3x1024, .f32⟩
  | .hbm, ⟨3, _⟩ => ⟨S1024, .f32⟩
  | .hbm, ⟨4, _⟩ => ⟨S2x1024x10240, .f32⟩
  | .hbm, ⟨5, _⟩ => ⟨S2x2x2048, .f32⟩
  | .hbm, ⟨6, _⟩ => ⟨S2x1024x10240, .bf16⟩
  | .hbm, ⟨7, _⟩ => ⟨S1x1x2048, .f32⟩
  | .hbm, ⟨8, _⟩ => ⟨S2048, .f32⟩
  | .hbm, ⟨9, _⟩ => ⟨S1x2048, .f32⟩
  | .hbm, ⟨10, _⟩ => ⟨S1x1x2048, .f32⟩
  | .hbm, ⟨11, _⟩ => ⟨S2048, .f32⟩
  | .hbm, ⟨12, _⟩ => ⟨S1x2048, .f32⟩
  | .hbm, ⟨13, _⟩ => ⟨S1x1024, .f32⟩
  | .hbm, ⟨14, _⟩ => ⟨S16x2304x2048, .bf16⟩
  | .hbm, ⟨15, _⟩ => ⟨S16x2304x2048, .bf16⟩
  | .hbm, ⟨16, _⟩ => ⟨S16x2304x2048, .bf16⟩
  | .hbm, ⟨17, _⟩ => ⟨S16x2304x2048, .f32⟩
  | .hbm, ⟨18, _⟩ => ⟨S16x2304x2048, .bf16⟩
  | .hbm, ⟨19, _⟩ => ⟨S16x2304x2048, .f32⟩
  | .hbm, ⟨20, _⟩ => ⟨S16x2304x2048, .bf16⟩
  | .local _ .vmem, ⟨0, _⟩ => ⟨S1x2304x1024, .f32⟩
  | .local _ .vmem, ⟨1, _⟩ => ⟨S1x2304x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x3x1024, .f32⟩
  | .local _ .vmem, ⟨5, _⟩ => ⟨S1x1024, .f32⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x2304x256, .bf16⟩
  | .local _ .vmem, ⟨21, _⟩ => ⟨S1x2304x256, .bf16⟩
  | .local _ .vmem, ⟨22, _⟩ => ⟨S1x2304x256, .bf16⟩
  | .local _ .vmem, ⟨23, _⟩ => ⟨S1x2304x256, .bf16⟩
  | .local _ .vmem, ⟨24, _⟩ => ⟨S1x2304x256, .bf16⟩
  | .local _ .vmem, ⟨25, _⟩ => ⟨S1x2304x256, .bf16⟩
  | .local _ .vmem, ⟨26, _⟩ => ⟨S1x2304x256, .f32⟩
  | .local _ .vmem, ⟨27, _⟩ => ⟨S1x2304x256, .f32⟩
  | .local _ .vmem, ⟨28, _⟩ => ⟨S1x2304x256, .bf16⟩
  | .local _ .vmem, ⟨29, _⟩ => ⟨S1x2304x256, .bf16⟩
  | .local _ .vmem, ⟨30, _⟩ => ⟨S1x2304x256, .f32⟩
  | .local _ .vmem, ⟨31, _⟩ => ⟨S1x2304x256, .f32⟩
  | .local _ .vmem, ⟨32, _⟩ => ⟨S1x2304x256, .bf16⟩
  | .local _ .vmem, ⟨33, _⟩ => ⟨S1x2304x256, .bf16⟩
  | .local _ .vmem, ⟨34, _⟩ => ⟨S2304x1024, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev main_v8_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_494 : BitVec 32 := 0#32
  let c256_i32_495 : BitVec 32 := 256#32
  let v950 : BitVec 32 := Scalar.muli c0_i32_494 c256_i32_495
  v950
def k0_off1 : Fin 3 → Nat :=
  let c0_496 : Index := 0#32
  let c0_i32_494 : BitVec 32 := 0#32
  let c256_i32_495 : BitVec 32 := 256#32
  let v950 : BitVec 32 := Scalar.muli c0_i32_494 c256_i32_495
  let v951 : BitVec 32 := v950
  let v952 : Index := Scalar.indexCast v951
  let c0_497 : Index := 0#32
  ![0, v952.toNat, 0]
def k0_off2 : Fin 2 → Nat :=
  let c0_i32_494 : BitVec 32 := 0#32
  let c256_i32_495 : BitVec 32 := 256#32
  let v950 : BitVec 32 := Scalar.muli c0_i32_494 c256_i32_495
  let v951 : BitVec 32 := v950
  let v972 : Index := Scalar.indexCast v951
  let c0_504 : Index := 0#32
  ![v972.toNat, 0]
@[reducible] def k0_t1_loop : Scf.Loop 32 :=
  let c1_i32_512 : BitVec 32 := 1#32
  let c8_i32_513 : BitVec 32 := 8#32
  let v983 : BitVec 32 := Scalar.addi c1_i32_512 c8_i32_513
  let c1_i32_514 : BitVec 32 := 1#32
  ⟨c1_i32_512, v983, c1_i32_514⟩
def k0_mult2 (k0_t1 : Fin k0_t1_loop.trips) : BitVec 32 :=
  let c1_i32_512 : BitVec 32 := 1#32
  let c1_i32_514 : BitVec 32 := 1#32
  let arg21 : BitVec 32 := Scf.iv c1_i32_512 c1_i32_514 k0_t1
  let c256_i32_516 : BitVec 32 := 256#32
  let v984 : BitVec 32 := Scalar.muli arg21 c256_i32_516
  v984
def k0_off3 (k0_t1 : Fin k0_t1_loop.trips) : Fin 3 → Nat :=
  let c0_517 : Index := 0#32
  let c1_i32_512 : BitVec 32 := 1#32
  let c1_i32_514 : BitVec 32 := 1#32
  let arg21 : BitVec 32 := Scf.iv c1_i32_512 c1_i32_514 k0_t1
  let c256_i32_516 : BitVec 32 := 256#32
  let v984 : BitVec 32 := Scalar.muli arg21 c256_i32_516
  let v985 : BitVec 32 := v984
  let v986 : Index := Scalar.indexCast v985
  let c0_518 : Index := 0#32
  ![0, v986.toNat, 0]
def k0_off4 (k0_t1 : Fin k0_t1_loop.trips) : Fin 2 → Nat :=
  let c1_i32_512 : BitVec 32 := 1#32
  let c1_i32_514 : BitVec 32 := 1#32
  let arg21 : BitVec 32 := Scf.iv c1_i32_512 c1_i32_514 k0_t1
  let c256_i32_516 : BitVec 32 := 256#32
  let v984 : BitVec 32 := Scalar.muli arg21 c256_i32_516
  let v985 : BitVec 32 := v984
  let v1006 : Index := Scalar.indexCast v985
  let c0_525 : Index := 0#32
  ![v1006.toNat, 0]
def k0_mult3 : BitVec 32 :=
  let c0_i32_4 : BitVec 32 := 0#32
  let c256_i32 : BitVec 32 := 256#32
  let v7 : BitVec 32 := Scalar.muli c0_i32_4 c256_i32
  v7
def k0_off5 (c0_i32_4 : BitVec 32) : Fin 2 → Nat :=
  let c256_i32 : BitVec 32 := 256#32
  let v7 : BitVec 32 := Scalar.muli c0_i32_4 c256_i32
  let v8 : BitVec 32 := v7
  let v9 : Index := Scalar.indexCast v8
  let c0_5 : Index := 0#32
  ![v9.toNat, 0]
def k0_off6 (c0_i32_4 : BitVec 32) : Fin 3 → Nat :=
  let c0_43 : Index := 0#32
  let c256_i32 : BitVec 32 := 256#32
  let v7 : BitVec 32 := Scalar.muli c0_i32_4 c256_i32
  let v8 : BitVec 32 := v7
  let v79 : Index := Scalar.indexCast v8
  let c0_44 : Index := 0#32
  ![0, v79.toNat, 0]
def k0_mult4 : BitVec 32 :=
  let c1_i32 : BitVec 32 := 1#32
  let c256_i32_57 : BitVec 32 := 256#32
  let v111 : BitVec 32 := Scalar.muli c1_i32 c256_i32_57
  v111
def k0_mult5 : BitVec 32 :=
  let c2_i32 : BitVec 32 := 2#32
  let c256_i32_111 : BitVec 32 := 256#32
  let v215 : BitVec 32 := Scalar.muli c2_i32 c256_i32_111
  v215
def k0_mult6 : BitVec 32 :=
  let c3_i32 : BitVec 32 := 3#32
  let c256_i32_165 : BitVec 32 := 256#32
  let v319 : BitVec 32 := Scalar.muli c3_i32 c256_i32_165
  v319
def k0_mult7 : BitVec 32 :=
  let c4_i32 : BitVec 32 := 4#32
  let c256_i32_219 : BitVec 32 := 256#32
  let v423 : BitVec 32 := Scalar.muli c4_i32 c256_i32_219
  v423
def k0_mult8 : BitVec 32 :=
  let c5_i32 : BitVec 32 := 5#32
  let c256_i32_273 : BitVec 32 := 256#32
  let v527 : BitVec 32 := Scalar.muli c5_i32 c256_i32_273
  v527
def k0_mult9 : BitVec 32 :=
  let c6_i32 : BitVec 32 := 6#32
  let c256_i32_327 : BitVec 32 := 256#32
  let v631 : BitVec 32 := Scalar.muli c6_i32 c256_i32_327
  v631
def k0_mult10 : BitVec 32 :=
  let c7_i32 : BitVec 32 := 7#32
  let c256_i32_381 : BitVec 32 := 256#32
  let v735 : BitVec 32 := Scalar.muli c7_i32 c256_i32_381
  v735
def k0_mult11 : BitVec 32 :=
  let c8_i32 : BitVec 32 := 8#32
  let c256_i32_435 : BitVec 32 := 256#32
  let v839 : BitVec 32 := Scalar.muli c8_i32 c256_i32_435
  v839
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x2304x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2304x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2304x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2304x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2304x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2304x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2304x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== HgrnProjIdeal.lean ====
variable {F : FTy → Type} [FloatOps F] [Named F]
def κ : String → Option EReal := fun
  | "inv_ln2" => some (((Real.log 2)⁻¹ : ℝ) : EReal)
  | _ => none
-- ==== HgrnProjRefIdeal.lean ====
abbrev S16x2304x1024 : Shape := ⟨3, ![16, 2304, 1024]⟩
abbrev S1x3x1024 : Shape := ⟨3, ![1, 3, 1024]⟩
abbrev S16x3x1024 : Shape := ⟨3, ![16, 3, 1024]⟩
abbrev S1024 : Shape := ⟨1, ![1024]⟩
abbrev S2x1024x10240 : Shape := ⟨3, ![2, 1024, 10240]⟩
abbrev S2x2x2048 : Shape := ⟨3, ![2, 2, 2048]⟩
abbrev S16x256x1024 : Shape := ⟨3, ![16, 256, 1024]⟩
abbrev S1x1x1024 : Shape := ⟨3, ![1, 1, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S16x2048x1024 : Shape := ⟨3, ![16, 2048, 1024]⟩
abbrev S16x1x1024 : Shape := ⟨3, ![16, 1, 1024]⟩
abbrev S16x1024 : Shape := ⟨2, ![16, 1024]⟩
abbrev S16x2048 : Shape := ⟨2, ![16, 2048]⟩
abbrev S16x2048x1 : Shape := ⟨3, ![16, 2048, 1]⟩
abbrev S1x1024x10240 : Shape := ⟨3, ![1, 1024, 10240]⟩
abbrev S1024x10240 : Shape := ⟨2, ![1024, 10240]⟩
abbrev S16x2304x10240 : Shape := ⟨3, ![16, 2304, 10240]⟩
abbrev S16x2304x2048 : Shape := ⟨3, ![16, 2304, 2048]⟩
abbrev S1x1x2048 : Shape := ⟨3, ![1, 1, 2048]⟩
abbrev S2048 : Shape := ⟨1, ![2048]⟩

abbrev nBuf : Space → Nat
  | .hbm => 154
  | .vmem => 0
  | .smem => 0
  | _ => 0

abbrev hbmTy0_0 (i : Nat) : BufTy := match i % 128 with
  | 0 => ⟨S16x2304x1024, .f32⟩
  | 1 => ⟨S1x3x1024, .f32⟩
  | 2 => ⟨S16x3x1024, .f32⟩
  | 3 => ⟨S1024, .f32⟩
  | 4 => ⟨S2x1024x10240, .f32⟩
  | 5 => ⟨S2x2x2048, .f32⟩
  | 6 => ⟨S16x256x1024, .f32⟩
  | 7 => ⟨S1x1x1024, .f32⟩
  | 8 => ⟨S1x1024, .f32⟩
  | 9 => ⟨S1x1x1024, .f32⟩
  | 10 => ⟨S1x1x1024, .f32⟩
  | 11 => ⟨S1x1024, .f32⟩
  | 12 => ⟨S1x1x1024, .f32⟩
  | 13 => ⟨S16x256x1024, .f32⟩
  | 14 => ⟨S_, .f32⟩
  | 15 => ⟨S16x256, .f32⟩
  | 16 => ⟨S16x256x1, .f32⟩
  | 17 => ⟨S_, .f32⟩
  | 18 => ⟨S16x256x1, .f32⟩
  | 19 => ⟨S16x256x1, .f32⟩
  | 20 => ⟨S_, .f32⟩
  | 21 => ⟨S16x256x1, .f32⟩
  | 22 => ⟨S16x256x1, .f32⟩
  | 23 => ⟨S16x256x1, .f32⟩
  | 24 => ⟨S16x256x1024, .f32⟩
  | 25 => ⟨S16x256x1024, .f32⟩
  | 26 => ⟨S1x1x1024, .f32⟩
  | 27 => ⟨S16x256x1024, .f32⟩
  | 28 => ⟨S16x256x1024, .f32⟩
  | 29 => ⟨S_, .f32⟩
  | 30 => ⟨S1x1x1024, .f32⟩
  | 31 => ⟨S1x1x1024, .f32⟩
  | 32 => ⟨S16x256x1024, .f32⟩
  | 33 => ⟨S16x256x1024, .f32⟩
  | 34 => ⟨S16x256x1024, .f32⟩
  | 35 => ⟨S16x256x1024, .f32⟩
  | 36 => ⟨S16x2048x1024, .f32⟩
  | 37 => ⟨S16x1x1024, .f32⟩
  | 38 => ⟨S16x1024, .f32⟩
  | 39 => ⟨S16x1x1024, .f32⟩
  | 40 => ⟨S16x1x1024, .f32⟩
  | 41 => ⟨S16x1024, .f32⟩
  | 42 => ⟨S16x1x1024, .f32⟩
  | 43 => ⟨S16x2048x1024, .f32⟩
  | 44 => ⟨S_, .f32⟩
  | 45 => ⟨S16x2048, .f32⟩
  | 46 => ⟨S16x2048x1, .f32⟩
  | 47 => ⟨S_, .f32⟩
  | 48 => ⟨S16x2048x1, .f32⟩
  | 49 => ⟨S16x2048x1, .f32⟩
  | 50 => ⟨S_, .f32⟩
  | 51 => ⟨S16x2048x1, .f32⟩
  | 52 => ⟨S16x2048x1, .f32⟩
  | 53 => ⟨S16x2048x1, .f32⟩
  | 54 => ⟨S16x2048x1024, .f32⟩
  | 55 => ⟨S16x2048x1024, .f32⟩
  | 56 => ⟨S1x1x1024, .f32⟩
  | 57 => ⟨S16x2048x1024, .f32⟩
  | 58 => ⟨S16x2048x1024, .f32⟩
  | 59 => ⟨S_, .f32⟩
  | 60 => ⟨S16x1x1024, .f32⟩
  | 61 => ⟨S16x1x1024, .f32⟩
  | 62 => ⟨S16x2048x1024, .f32⟩
  | 63 => ⟨S16x2048x1024, .f32⟩
  | 64 => ⟨S16x2048x1024, .f32⟩
  | 65 => ⟨S16x2048x1024, .f32⟩
  | 66 => ⟨S16x2304x1024, .f32⟩
  | 67 => ⟨S1x1024x10240, .f32⟩
  | 68 => ⟨S1024x10240, .f32⟩
  | 69 => ⟨S16x2304x10240, .f32⟩
  | 70 => ⟨S16x2304x2048, .f32⟩
  | 71 => ⟨S16x2304x2048, .f32⟩
  | 72 => ⟨S16x2304x2048, .f32⟩
  | 73 => ⟨S16x2304x2048, .f32⟩
  | 74 => ⟨S16x2304x2048, .f32⟩
  | 75 => ⟨S1x1x2048, .f32⟩
  | 76 => ⟨S2048, .f32⟩
  | 77 => ⟨S_, .f32⟩
  | 78 => ⟨S2048, .f32⟩
  | 79 => ⟨S2048, .f32⟩
  | 80 => ⟨S16x2304x2048, .f32⟩
  | 81 => ⟨S16x2304x2048, .f32⟩
  | 82 => ⟨S_, .f32⟩
  | 83 => ⟨S16x2304x2048, .f32⟩
  | 84 => ⟨S16x2304x2048, .f32⟩
  | 85 => ⟨S_, .f32⟩
  | 86 => ⟨S16x2304x2048, .f32⟩
  | 87 => ⟨S16x2304x2048, .f32⟩
  | 88 => ⟨S1x1x2048, .f32⟩
  | 89 => ⟨S16x2304x2048, .f32⟩
  | 90 => ⟨S16x2304x2048, .f32⟩
  | 91 => ⟨S1x1x2048, .f32⟩
  | 92 => ⟨S16x2304x2048, .f32⟩
  | 93 => ⟨S16x2304x2048, .f32⟩
  | 94 => ⟨S16x2304x2048, .f32⟩
  | 95 => ⟨S_, .f32⟩
  | 96 => ⟨S_, .f32⟩
  | 97 => ⟨S_, .f32⟩
  | 98 => ⟨S16x2304x2048, .f32⟩
  | 99 => ⟨S16x2304x2048, .f32⟩
  | 100 => ⟨S_, .f32⟩
  | 101 => ⟨S16x2304x2048, .f32⟩
  | 102 => ⟨S16x2304x2048, .f32⟩
  | 103 => ⟨S1x1x2048, .f32⟩
  | 104 => ⟨S2048, .f32⟩
  | 105 => ⟨S_, .f32⟩
  | 106 => ⟨S2048, .f32⟩
  | 107 => ⟨S2048, .f32⟩
  | 108 => ⟨S16x2304x2048, .f32⟩
  | 109 => ⟨S16x2304x2048, .f32⟩
  | 110 => ⟨S_, .f32⟩
  | 111 => ⟨S16x2304x2048, .f32⟩
  | 112 => ⟨S16x2304x2048, .f32⟩
  | 113 => ⟨S_, .f32⟩
  | 114 => ⟨S16x2304x2048, .f32⟩
  | 115 => ⟨S16x2304x2048, .f32⟩
  | 116 => ⟨S1x1x2048, .f32⟩
  | 117 => ⟨S16x2304x2048, .f32⟩
  | 118 => ⟨S16x2304x2048, .f32⟩
  | 119 => ⟨S1x1x2048, .f32⟩
  | 120 => ⟨S16x2304x2048, .f32⟩
  | 121 => ⟨S16x2304x2048, .f32⟩
  | 122 => ⟨S16x2304x2048, .f32⟩
  | 123 => ⟨S_, .f32⟩
  | 124 => ⟨S_, .f32⟩
  | 125 => ⟨S_, .f32⟩
  | 126 => ⟨S16x2304x2048, .f32⟩
  | 127 => ⟨S16x2304x2048, .f32⟩
  | _ => ⟨S16x2304x1024, .f32⟩

abbrev hbmTy0_1 (i : Nat) : BufTy := match i % 128 with
  | 0 => ⟨S_, .f32⟩
  | 1 => ⟨S16x2304x2048, .f32⟩
  | 2 => ⟨S16x2304x2048, .f32⟩
  | 3 => ⟨S16x2304x2048, .f32⟩
  | 4 => ⟨S16x2304x2048, .f32⟩
  | 5 => ⟨S_, .f32⟩
  | 6 => ⟨S16x2304x2048, .f32⟩
  | 7 => ⟨S16x2304x2048, .f32⟩
  | 8 => ⟨S_, .f32⟩
  | 9 => ⟨S16x2304x2048, .f32⟩
  | 10 => ⟨S16x2304x2048, .f32⟩
  | 11 => ⟨S16x2304x2048, .f32⟩
  | 12 => ⟨S16x2304x2048, .f32⟩
  | 13 => ⟨S16x2304x2048, .f32⟩
  | 14 => ⟨S_, .f32⟩
  | 15 => ⟨S16x2304x2048, .f32⟩
  | 16 => ⟨S16x2304x2048, .f32⟩
  | 17 => ⟨S_, .f32⟩
  | 18 => ⟨S16x2304x2048, .f32⟩
  | 19 => ⟨S16x2304x2048, .f32⟩
  | 20 => ⟨S16x2304x2048, .f32⟩
  | 21 => ⟨S16x2304x2048, .bf16⟩
  | 22 => ⟨S16x2304x2048, .bf16⟩
  | 23 => ⟨S16x2304x2048, .bf16⟩
  | 24 => ⟨S16x2304x2048, .bf16⟩
  | 25 => ⟨S16x2304x2048, .bf16⟩
  | _ => ⟨S16x2304x1024, .f32⟩

abbrev hbmTy (i : Nat) : BufTy := match i / 128 with
  | 0 => hbmTy0_0 i
  | 1 => hbmTy0_1 i
  | _ => ⟨S16x2304x1024, .f32⟩

abbrev bufTy : (tb : Table) → Fin (tcTables nBuf tb) → BufTy
  | .hbm, ⟨i, _⟩ => hbmTy i
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_7 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_8 : Ref sig .tc := ⟨.hbm, 82, rfl⟩
abbrev main_v67 : Ref sig .tc := ⟨.hbm, 83, rfl⟩
abbrev main_v68 : Ref sig .tc := ⟨.hbm, 84, rfl⟩
abbrev main_cst_9 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_10 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_11 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_12 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_13 : Ref sig .tc := ⟨.hbm, 110, rfl⟩
abbrev main_v90 : Ref sig .tc := ⟨.hbm, 111, rfl⟩
abbrev main_v91 : Ref sig .tc := ⟨.hbm, 112, rfl⟩
abbrev main_cst_14 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_15 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_16 : Ref sig .tc := ⟨.hbm, 128, rfl⟩
abbrev main_v105 : Ref sig .tc := ⟨.hbm, 129, rfl⟩
abbrev main_v106 : Ref sig .tc := ⟨.hbm, 130, rfl⟩
abbrev main_call0_v0 : Ref sig .tc := ⟨.hbm, 131, rfl⟩
abbrev main_call0_v1 : Ref sig .tc := ⟨.hbm, 132, rfl⟩
abbrev main_call0_cst : Ref sig .tc := ⟨.hbm, 133, rfl⟩
abbrev main_call0_v2 : Ref sig .tc := ⟨.hbm, 134, rfl⟩
abbrev main_call0_v3 : Ref sig .tc := ⟨.hbm, 135, rfl⟩
abbrev main_call0_cst_0 : Ref sig .tc := ⟨.hbm, 136, rfl⟩
abbrev main_call0_v4 : Ref sig .tc := ⟨.hbm, 137, rfl⟩
abbrev main_call0_v5 : Ref sig .tc := ⟨.hbm, 138, rfl⟩
abbrev main_v107 : Ref sig .tc := ⟨.hbm, 139, rfl⟩
abbrev main_call1_v0 : Ref sig .tc := ⟨.hbm, 140, rfl⟩
abbrev main_call1_v1 : Ref sig .tc := ⟨.hbm, 141, rfl⟩
abbrev main_call1_cst : Ref sig .tc := ⟨.hbm, 142, rfl⟩
abbrev main_call1_v2 : Ref sig .tc := ⟨.hbm, 143, rfl⟩
abbrev main_call1_v3 : Ref sig .tc := ⟨.hbm, 144, rfl⟩
abbrev main_call1_cst_0 : Ref sig .tc := ⟨.hbm, 145, rfl⟩
abbrev main_call1_v4 : Ref sig .tc := ⟨.hbm, 146, rfl⟩
abbrev main_call1_v5 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩

abbrev nD : Nat := 1
abbrev τ : Topo := Topo.v7x

variable {F : FTy → Type} [FloatOps F]
-- ==== ConvProj.lean ====
abbrev S16x2304x1024 : Shape := ⟨3, ![16, 2304, 1024]⟩
abbrev S1x3x1024 : Shape := ⟨3, ![1, 3, 1024]⟩
abbrev S16x3x1024 : Shape := ⟨3, ![16, 3, 1024]⟩
abbrev S1024 : Shape := ⟨1, ![1024]⟩
abbrev S2x1024x6144 : Shape := ⟨3, ![2, 1024, 6144]⟩
abbrev S2x6144 : Shape := ⟨2, ![2, 6144]⟩
abbrev S1x6144 : Shape := ⟨2, ![1, 6144]⟩
abbrev S6144 : Shape := ⟨1, ![6144]⟩
abbrev S1x2048 : Shape := ⟨2, ![1, 2048]⟩
abbrev S1x1024 : Shape := ⟨2, ![1, 1024]⟩
abbrev S16x2304x2048 : Shape := ⟨3, ![16, 2304, 2048]⟩
abbrev S1x2304x1024 : Shape := ⟨3, ![1, 2304, 1024]⟩
abbrev S1x1024x256 : Shape := ⟨3, ![1, 1024, 256]⟩
abbrev S1x256 : Shape := ⟨2, ![1, 256]⟩
abbrev S1x2304x256 : Shape := ⟨3, ![1, 2304, 256]⟩
abbrev S2304x1024 : Shape := ⟨2, ![2304, 1024]⟩
abbrev S1x1x1024 : Shape := ⟨3, ![1, 1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x256x256 : Shape := ⟨3, ![1, 256, 256]⟩

abbrev nBuf : Space → Nat
  | .hbm => 16
  | .vmem => 23
  | .smem => 0
  | _ => 0

abbrev bufTy : (tb : Table) → Fin (tcTables nBuf tb) → BufTy
  | .hbm, ⟨0, _⟩ => ⟨S16x2304x1024, .f32⟩
  | .hbm, ⟨1, _⟩ => ⟨S1x3x1024, .f32⟩
  | .hbm, ⟨2, _⟩ => ⟨S16x3x1024, .f32⟩
  | .hbm, ⟨3, _⟩ => ⟨S1024, .f32⟩
  | .hbm, ⟨4, _⟩ => ⟨S2x1024x6144, .f32⟩
  | .hbm, ⟨5, _⟩ => ⟨S2x6144, .f32⟩
  | .hbm, ⟨6, _⟩ => ⟨S2x1024x6144, .bf16⟩
  | .hbm, ⟨7, _⟩ => ⟨S1x6144, .f32⟩
  | .hbm, ⟨8, _⟩ => ⟨S6144, .f32⟩
  | .hbm, ⟨9, _⟩ => ⟨S1x6144, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x1024, .f32⟩
  | .hbm, ⟨14, _⟩ => ⟨S16x2304x2048, .bf16⟩
  | .hbm, ⟨15, _⟩ => ⟨S16x2304x2048, .bf16⟩
  | .local _ .vmem, ⟨0, _⟩ => ⟨S1x2304x1024, .f32⟩
  | .local _ .vmem, ⟨1, _⟩ => ⟨S1x2304x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x3x1024, .f32⟩
  | .local _ .vmem, ⟨5, _⟩ => ⟨S1x1024, .f32⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x2304x256, .bf16⟩
  | .local _ .vmem, ⟨19, _⟩ => ⟨S1x2304x256, .bf16⟩
  | .local _ .vmem, ⟨20, _⟩ => ⟨S1x2304x256, .bf16⟩
  | .local _ .vmem, ⟨21, _⟩ => ⟨S1x2304x256, .bf16⟩
  | .local _ .vmem, ⟨22, _⟩ => ⟨S2304x1024, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_226 : BitVec 32 := 0#32
  let c256_i32_227 : BitVec 32 := 256#32
  let v421 : BitVec 32 := Scalar.muli c0_i32_226 c256_i32_227
  v421
def k0_off1 : Fin 3 → Nat :=
  let c0_228 : Index := 0#32
  let c0_i32_226 : BitVec 32 := 0#32
  let c256_i32_227 : BitVec 32 := 256#32
  let v421 : BitVec 32 := Scalar.muli c0_i32_226 c256_i32_227
  let v422 : BitVec 32 := v421
  let v423 : Index := Scalar.indexCast v422
  let c0_229 : Index := 0#32
  ![0, v423.toNat, 0]
def k0_off2 : Fin 2 → Nat :=
  let c0_i32_226 : BitVec 32 := 0#32
  let c256_i32_227 : BitVec 32 := 256#32
  let v421 : BitVec 32 := Scalar.muli c0_i32_226 c256_i32_227
  let v422 : BitVec 32 := v421
  let v443 : Index := Scalar.indexCast v422
  let c0_236 : Index := 0#32
  ![v443.toNat, 0]
@[reducible] def k0_t1_loop : Scf.Loop 32 :=
  let c1_i32_244 : BitVec 32 := 1#32
  let c8_i32_245 : BitVec 32 := 8#32
  let v454 : BitVec 32 := Scalar.addi c1_i32_244 c8_i32_245
  let c1_i32_246 : BitVec 32 := 1#32
  ⟨c1_i32_244, v454, c1_i32_246⟩
def k0_mult2 (k0_t1 : Fin k0_t1_loop.trips) : BitVec 32 :=
  let c1_i32_244 : BitVec 32 := 1#32
  let c1_i32_246 : BitVec 32 := 1#32
  let arg15 : BitVec 32 := Scf.iv c1_i32_244 c1_i32_246 k0_t1
  let c256_i32_248 : BitVec 32 := 256#32
  let v455 : BitVec 32 := Scalar.muli arg15 c256_i32_248
  v455
def k0_off3 (k0_t1 : Fin k0_t1_loop.trips) : Fin 3 → Nat :=
  let c0_249 : Index := 0#32
  let c1_i32_244 : BitVec 32 := 1#32
  let c1_i32_246 : BitVec 32 := 1#32
  let arg15 : BitVec 32 := Scf.iv c1_i32_244 c1_i32_246 k0_t1
  let c256_i32_248 : BitVec 32 := 256#32
  let v455 : BitVec 32 := Scalar.muli arg15 c256_i32_248
  let v456 : BitVec 32 := v455
  let v457 : Index := Scalar.indexCast v456
  let c0_250 : Index := 0#32
  ![0, v457.toNat, 0]
def k0_off4 (k0_t1 : Fin k0_t1_loop.trips) : Fin 2 → Nat :=
  let c1_i32_244 : BitVec 32 := 1#32
  let c1_i32_246 : BitVec 32 := 1#32
  let arg15 : BitVec 32 := Scf.iv c1_i32_244 c1_i32_246 k0_t1
  let c256_i32_248 : BitVec 32 := 256#32
  let v455 : BitVec 32 := Scalar.muli arg15 c256_i32_248
  let v456 : BitVec 32 := v455
  let v477 : Index := Scalar.indexCast v456
  let c0_257 : Index := 0#32
  ![v477.toNat, 0]
def k0_mult3 : BitVec 32 :=
  let c0_i32_6 : BitVec 32 := 0#32
  let c256_i32 : BitVec 32 := 256#32
  let v9 : BitVec 32 := Scalar.muli c0_i32_6 c256_i32
  v9
def k0_off5 (c0_i32_6 : BitVec 32) : Fin 2 → Nat :=
  let c256_i32 : BitVec 32 := 256#32
  let v9 : BitVec 32 := Scalar.muli c0_i32_6 c256_i32
  let v10 : BitVec 32 := v9
  let v11 : Index := Scalar.indexCast v10
  let c0_7 : Index := 0#32
  ![v11.toNat, 0]
def k0_off6 (c0_i32_6 : BitVec 32) : Fin 3 → Nat :=
  let c0_25 : Index := 0#32
  let c256_i32 : BitVec 32 := 256#32
  let v9 : BitVec 32 := Scalar.muli c0_i32_6 c256_i32
  let v10 : BitVec 32 := v9
  let v45 : Index := Scalar.indexCast v10
  let c0_26 : Index := 0#32
  ![0, v45.toNat, 0]
def k0_mult4 : BitVec 32 :=
  let c1_i32 : BitVec 32 := 1#32
  let c256_i32_29 : BitVec 32 := 256#32
  let v54 : BitVec 32 := Scalar.muli c1_i32 c256_i32_29
  v54
def k0_mult5 : BitVec 32 :=
  let c2_i32 : BitVec 32 := 2#32
  let c256_i32_53 : BitVec 32 := 256#32
  let v99 : BitVec 32 := Scalar.muli c2_i32 c256_i32_53
  v99
def k0_mult6 : BitVec 32 :=
  let c3_i32 : BitVec 32 := 3#32
  let c256_i32_77 : BitVec 32 := 256#32
  let v144 : BitVec 32 := Scalar.muli c3_i32 c256_i32_77
  v144
def k0_mult7 : BitVec 32 :=
  let c4_i32 : BitVec 32 := 4#32
  let c256_i32_101 : BitVec 32 := 256#32
  let v189 : BitVec 32 := Scalar.muli c4_i32 c256_i32_101
  v189
def k0_mult8 : BitVec 32 :=
  let c5_i32 : BitVec 32 := 5#32
  let c256_i32_125 : BitVec 32 := 256#32
  let v234 : BitVec 32 := Scalar.muli c5_i32 c256_i32_125
  v234
def k0_mult9 : BitVec 32 :=
  let c6_i32 : BitVec 32 := 6#32
  let c256_i32_149 : BitVec 32 := 256#32
  let v279 : BitVec 32 := Scalar.muli c6_i32 c256_i32_149
  v279
def k0_mult10 : BitVec 32 :=
  let c7_i32 : BitVec 32 := 7#32
  let c256_i32_173 : BitVec 32 := 256#32
  let v324 : BitVec 32 := Scalar.muli c7_i32 c256_i32_173
  v324
def k0_mult11 : BitVec 32 :=
  let c8_i32 : BitVec 32 := 8#32
  let c256_i32_197 : BitVec 32 := 256#32
  let v369 : BitVec 32 := Scalar.muli c8_i32 c256_i32_197
  v369
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x2304x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2304x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ConvProjRefIdeal.lean ====
abbrev S16x2304x1024 : Shape := ⟨3, ![16, 2304, 1024]⟩
abbrev S1x3x1024 : Shape := ⟨3, ![1, 3, 1024]⟩
abbrev S16x3x1024 : Shape := ⟨3, ![16, 3, 1024]⟩
abbrev S1024 : Shape := ⟨1, ![1024]⟩
abbrev S2x1024x6144 : Shape := ⟨3, ![2, 1024, 6144]⟩
abbrev S2x6144 : Shape := ⟨2, ![2, 6144]⟩
abbrev S16x256x1024 : Shape := ⟨3, ![16, 256, 1024]⟩
abbrev S1x1x1024 : Shape := ⟨3, ![1, 1, 1024]⟩
abbrev S1x1024 : Shape := ⟨2, ![1, 1024]⟩
abbrev S_ : Shape := ⟨0, ![]⟩
abbrev S16x256 : Shape := ⟨2, ![16, 256]⟩
abbrev S16x256x1 : Shape := ⟨3, ![16, 256, 1]⟩
abbrev S16x2048x1024 : Shape := ⟨3, ![16, 2048, 1024]⟩
abbrev S16x1x1024 : Shape := ⟨3, ![16, 1, 1024]⟩
abbrev S16x1024 : Shape := ⟨2, ![16, 1024]⟩
abbrev S16x2048 : Shape := ⟨2, ![16, 2048]⟩
abbrev S16x2048x1 : Shape := ⟨3, ![16, 2048, 1]⟩
abbrev S1x1024x6144 : Shape := ⟨3, ![1, 1024, 6144]⟩
abbrev S1024x6144 : Shape := ⟨2, ![1024, 6144]⟩
abbrev S16x2304x6144 : Shape := ⟨3, ![16, 2304, 6144]⟩
abbrev S1x6144 : Shape := ⟨2, ![1, 6144]⟩
abbrev S6144 : Shape := ⟨1, ![6144]⟩
abbrev S1x1x6144 : Shape := ⟨3, ![1, 1, 6144]⟩
abbrev S16x2304x2048 : Shape := ⟨3, ![16, 2304, 2048]⟩

abbrev nBuf : Space → Nat
  | .hbm => 98
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S1x3x1024, .f32⟩
  | .hbm, ⟨2, _⟩ => ⟨S16x3x1024, .f32⟩
  | .hbm, ⟨3, _⟩ => ⟨S1024, .f32⟩
  | .hbm, ⟨4, _⟩ => ⟨S2x1024x6144, .f32⟩
  | .hbm, ⟨5, _⟩ => ⟨S2x6144, .f32⟩
  | .hbm, ⟨6, _⟩ => ⟨S16x256x1024, .f32⟩
  | .hbm, ⟨7, _⟩ => ⟨S1x1x1024, .f32⟩
  | .hbm, ⟨8, _⟩ => ⟨S1x1024, .f32⟩
  | .hbm, ⟨9, _⟩ => ⟨S1x1x1024, .f32⟩
  | .hbm, ⟨10, _⟩ => ⟨S1x1x1024, .f32⟩
  | .hbm, ⟨11, _⟩ => ⟨S1x1024, .f32⟩
  | .hbm, ⟨12, _⟩ => ⟨S1x1x1024, .f32⟩
  | .hbm, ⟨13, _⟩ => ⟨S16x256x1024, .f32⟩
  | .hbm, ⟨14, _⟩ => ⟨S_, .f32⟩
  | .hbm, ⟨15, _⟩ => ⟨S16x256, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S_, .f32⟩
  | .hbm, ⟨21, _⟩ => ⟨S16x256x1, .f32⟩
  | .hbm, ⟨22, _⟩ => ⟨S16x256x1, .f32⟩
  | .hbm, ⟨23, _⟩ => ⟨S16x256x1, .f32⟩
  | .hbm, ⟨24, _⟩ => ⟨S16x256x1024, .f32⟩
  | .hbm, ⟨25, _⟩ => ⟨S16x256x1024, .f32⟩
  | .hbm, ⟨26, _⟩ => ⟨S1x1x1024, .f32⟩
  | .hbm, ⟨27, _⟩ => ⟨S16x256x1024, .f32⟩
  | .hbm, ⟨28, _⟩ => ⟨S16x256x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x1024, .f32⟩
  | .hbm, ⟨36, _⟩ => ⟨S16x2048x1024, .f32⟩
  | .hbm, ⟨37, _⟩ => ⟨S16x1x1024, .f32⟩
  | .hbm, ⟨38, _⟩ => ⟨S16x1024, .f32⟩
  | .hbm, ⟨39, _⟩ => ⟨S16x1x1024, .f32⟩
  | .hbm, ⟨40, _⟩ => ⟨S16x1x1024, .f32⟩
  | .hbm, ⟨41, _⟩ => ⟨S16x1024, .f32⟩
  | .hbm, ⟨42, _⟩ => ⟨S16x1x1024, .f32⟩
  | .hbm, ⟨43, _⟩ => ⟨S16x2048x1024, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S16x2048x1, .f32⟩
  | .hbm, ⟨54, _⟩ => ⟨S16x2048x1024, .f32⟩
  | .hbm, ⟨55, _⟩ => ⟨S16x2048x1024, .f32⟩
  | .hbm, ⟨56, _⟩ => ⟨S1x1x1024, .f32⟩
  | .hbm, ⟨57, _⟩ => ⟨S16x2048x1024, .f32⟩
  | .hbm, ⟨58, _⟩ => ⟨S16x2048x1024, .f32⟩
  | .hbm, ⟨59, _⟩ => ⟨S_, .f32⟩
  | .hbm, ⟨60, _⟩ => ⟨S16x1x1024, .f32⟩
  | .hbm, ⟨61, _⟩ => ⟨S16x1x1024, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S16x2304x1024, .f32⟩
  | .hbm, ⟨67, _⟩ => ⟨S1x1024x6144, .f32⟩
  | .hbm, ⟨68, _⟩ => ⟨S1024x6144, .f32⟩
  | .hbm, ⟨69, _⟩ => ⟨S16x2304x6144, .f32⟩
  | .hbm, ⟨70, _⟩ => ⟨S1x6144, .f32⟩
  | .hbm, ⟨71, _⟩ => ⟨S6144, .f32⟩
  | .hbm, ⟨72, _⟩ => ⟨S1x1x6144, .f32⟩
  | .hbm, ⟨73, _⟩ => ⟨S16x2304x6144, .f32⟩
  | .hbm, ⟨74, _⟩ => ⟨S16x2304x6144, .f32⟩
  | .hbm, ⟨75, _⟩ => ⟨S16x2304x2048, .f32⟩
  | .hbm, ⟨76, _⟩ => ⟨S16x2304x2048, .f32⟩
  | .hbm, ⟨77, _⟩ => ⟨S16x2304x2048, .f32⟩
  | .hbm, ⟨78, _⟩ => ⟨S16x2304x2048, .f32⟩
  | .hbm, ⟨79, _⟩ => ⟨S16x2304x2048, .f32⟩
  | .hbm, ⟨80, _⟩ => ⟨S_, .f32⟩
  | .hbm, ⟨81, _⟩ => ⟨S16x2304x2048, .f32⟩
  | .hbm, ⟨82, _⟩ => ⟨S16x2304x2048, .f32⟩
  | .hbm, ⟨83, _⟩ => ⟨S_, .f32⟩
  | .hbm, ⟨84, _⟩ => ⟨S16x2304x2048, .f32⟩
  | .hbm, ⟨85, _⟩ => ⟨S16x2304x2048, .f32⟩
  | .hbm, ⟨86, _⟩ => ⟨S16x2304x2048, .f32⟩
  | .hbm, ⟨87, _⟩ => ⟨S16x2304x2048, .bf16⟩
  | .hbm, ⟨88, _⟩ => ⟨S16x2304x2048, .f32⟩
  | .hbm, ⟨89, _⟩ => ⟨S16x2304x2048, .f32⟩
  | .hbm, ⟨90, _⟩ => ⟨S_, .f32⟩
  | .hbm, ⟨91, _⟩ => ⟨S16x2304x2048, .f32⟩
  | .hbm, ⟨92, _⟩ => ⟨S16x2304x2048, .f32⟩
  | .hbm, ⟨93, _⟩ => ⟨S_, .f32⟩
  | .hbm, ⟨94, _⟩ => ⟨S16x2304x2048, .f32⟩
  | .hbm, ⟨95, _⟩ => ⟨S16x2304x2048, .f32⟩
  | .hbm, ⟨96, _⟩ => ⟨S16x2304x2048, .f32⟩
  | .hbm, ⟨97, _⟩ => ⟨S16x2304x2048, .bf16⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_v66 : Ref sig .tc := ⟨.hbm, 81, rfl⟩
abbrev main_v67 : Ref sig .tc := ⟨.hbm, 82, rfl⟩
abbrev main_cst_8 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_call0_v0 : Ref sig .tc := ⟨.hbm, 88, rfl⟩
abbrev main_call0_v1 : Ref sig .tc := ⟨.hbm, 89, rfl⟩
abbrev main_call0_cst : Ref sig .tc := ⟨.hbm, 90, rfl⟩
abbrev main_call0_v2 : Ref sig .tc := ⟨.hbm, 91, rfl⟩
abbrev main_call0_v3 : Ref sig .tc := ⟨.hbm, 92, rfl⟩
abbrev main_call0_cst_0 : Ref sig .tc := ⟨.hbm, 93, rfl⟩
abbrev main_call0_v4 : Ref sig .tc := ⟨.hbm, 94, rfl⟩
abbrev main_call0_v5 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== HgrnOut.lean ====
abbrev S16x2304x2048 : Shape := ⟨3, ![16, 2304, 2048]⟩
abbrev S16x2304x1024 : Shape := ⟨3, ![16, 2304, 1024]⟩
abbrev S1x3x1024 : Shape := ⟨3, ![1, 3, 1024]⟩
abbrev S16x3x1024 : Shape := ⟨3, ![16, 3, 1024]⟩
abbrev S2x2048x1024 : Shape := ⟨3, ![2, 2048, 1024]⟩
abbrev S_ : Shape := ⟨0, ![]⟩
abbrev S1x1024 : Shape := ⟨2, ![1, 1024]⟩
abbrev S1x256x2048 : Shape := ⟨3, ![1, 256, 2048]⟩
abbrev S1x256x1024 : Shape := ⟨3, ![1, 256, 1024]⟩
abbrev S1x2048x1024 : Shape := ⟨3, ![1, 2048, 1024]⟩
abbrev S256x2048 : Shape := ⟨2, ![256, 2048]⟩
abbrev S2048x1024 : Shape := ⟨2, ![2048, 1024]⟩
abbrev S256x1024 : Shape := ⟨2, ![256, 1024]⟩
abbrev S1x1x1024 : Shape := ⟨3, ![1, 1, 1024]⟩

abbrev nBuf : Space → Nat
  | .hbm => 9
  | .vmem => 11
  | .smem => 0
  | _ => 0

abbrev bufTy : (tb : Table) → Fin (tcTables nBuf tb) → BufTy
  | .hbm, ⟨0, _⟩ => ⟨S16x2304x2048, .bf16⟩
  | .hbm, ⟨1, _⟩ => ⟨S16x2304x1024, .f32⟩
  | .hbm, ⟨2, _⟩ => ⟨S1x3x1024, .f32⟩
  | .hbm, ⟨3, _⟩ => ⟨S16x3x1024, .f32⟩
  | .hbm, ⟨4, _⟩ => ⟨S2x2048x1024, .f32⟩
  | .hbm, ⟨5, _⟩ => ⟨S2x2048x1024, .bf16⟩
  | .hbm, ⟨6, _⟩ => ⟨S_, .f32⟩
  | .hbm, ⟨7, _⟩ => ⟨S1x1024, .f32⟩
  | .hbm, ⟨8, _⟩ => ⟨S16x2304x1024, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x1024, .f32⟩
  | .local _ .vmem, ⟨3, _⟩ => ⟨S1x256x1024, .f32⟩
  | .local _ .vmem, ⟨4, _⟩ => ⟨S1x3x1024, .f32⟩
  | .local _ .vmem, ⟨5, _⟩ => ⟨S1x3x1024, .f32⟩
  | .local _ .vmem, ⟨6, _⟩ => ⟨S1x3x1024, .f32⟩
  | .local _ .vmem, ⟨7, _⟩ => ⟨S1x2048x1024, .bf16⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | _, _ => ⟨S16x2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c1_i32 : BitVec 32 := 1#32
  let v9 : BitVec 1 := Scalar.cmpi .slt arg1 c1_i32
  let v10 : BitVec 32 := Scalar.extui v9
  let c0_i32 : BitVec 32 := 0#32
  let v11 : BitVec 1 := Scalar.cmpi .ne v10 c0_i32
  v11

def k0_cond2 (i : grid0.Coords) : BitVec 1 :=
  let arg1 : BitVec 32 := BitVec.ofNat 32 (i 1).val
  let c1_i32 : BitVec 32 := 1#32
  let v9 : BitVec 1 := Scalar.cmpi .slt arg1 c1_i32
  let v_true : BitVec 1 := 1#1
  let v12 : BitVec 1 := Scalar.xori v9 v_true
  let v13 : BitVec 32 := Scalar.extui v12
  let c0_i32_7 : BitVec 32 := 0#32
  let v14 : BitVec 1 := Scalar.cmpi .ne v13 c0_i32_7
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== HgrnOutRefIdeal.lean ====
abbrev S16x2304x2048 : Shape := ⟨3, ![16, 2304, 2048]⟩
abbrev S16x2304x1024 : Shape := ⟨3, ![16, 2304, 1024]⟩
abbrev S1x3x1024 : Shape := ⟨3, ![1, 3, 1024]⟩
abbrev S16x3x1024 : Shape := ⟨3, ![16, 3, 1024]⟩
abbrev S2x2048x1024 : Shape := ⟨3, ![2, 2048, 1024]⟩
abbrev S1x2048x1024 : Shape := ⟨3, ![1, 2048, 1024]⟩
abbrev S2048x1024 : Shape := ⟨2, ![2048, 1024]⟩
abbrev S16x256x1024 : Shape := ⟨3, ![16, 256, 1024]⟩
abbrev S1x1x1024 : Shape := ⟨3, ![1, 1, 1024]⟩
abbrev S1x1024 : Shape := ⟨2, ![1, 1024]⟩
abbrev S16x2048x1024 : Shape := ⟨3, ![16, 2048, 1024]⟩
abbrev S16x1x1024 : Shape := ⟨3, ![16, 1, 1024]⟩
abbrev S16x1024 : Shape := ⟨2, ![16, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16x2304x2048, .bf16⟩
  | .hbm, ⟨1, _⟩ => ⟨S16x2304x1024, .f32⟩
  | .hbm, ⟨2, _⟩ => ⟨S1x3x1024, .f32⟩
  | .hbm, ⟨3, _⟩ => ⟨S16x3x1024, .f32⟩
  | .hbm, ⟨4, _⟩ => ⟨S2x2048x1024, .f32⟩
  | .hbm, ⟨5, _⟩ => ⟨S16x2304x2048, .f32⟩
  | .hbm, ⟨6, _⟩ => ⟨S1x2048x1024, .f32⟩
  | .hbm, ⟨7, _⟩ => ⟨S2048x1024, .f32⟩
  | .hbm, ⟨8, _⟩ => ⟨S16x2304x1024, .f32⟩
  | .hbm, ⟨9, _⟩ => ⟨S16x256x1024, .f32⟩
  | .hbm, ⟨10, _⟩ => ⟨S1x1x1024, .f32⟩
  | .hbm, ⟨11, _⟩ => ⟨S1x1024, .f32⟩
  | .hbm, ⟨12, _⟩ => ⟨S1x1x1024, .f32⟩
  | .hbm, ⟨13, _⟩ => ⟨S16x256x1024, .f32⟩
  | .hbm, ⟨14, _⟩ => ⟨S16x256x1024, .f32⟩
  | .hbm, ⟨15, _⟩ => ⟨S16x256x1024, .f32⟩
  | .hbm, ⟨16, _⟩ => ⟨S16x256x1024, .f32⟩
  | .hbm, ⟨17, _⟩ => ⟨S16x2048x1024, .f32⟩
  | .hbm, ⟨18, _⟩ => ⟨S16x1x1024, .f32⟩
  | .hbm, ⟨19, _⟩ => ⟨S16x1024, .f32⟩
  | .hbm, ⟨20, _⟩ => ⟨S16x1x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S16x2304x1024, .f32⟩
  | _, _ => ⟨S16x2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== ConvCols.lean ====
abbrev S16x2048x2048 : Shape := ⟨3, ![16, 2048, 2048]⟩
abbrev S16x2048x1024 : Shape := ⟨3, ![16, 2048, 1024]⟩
abbrev S16x3x1024 : Shape := ⟨3, ![16, 3, 1024]⟩
abbrev S2x31x2048 : Shape := ⟨3, ![2, 31, 2048]⟩
abbrev S2x2048 : Shape := ⟨2, ![2, 2048]⟩
abbrev S2x2048x1024 : Shape := ⟨3, ![2, 2048, 1024]⟩
abbrev S2x1024 : Shape := ⟨2, ![2, 1024]⟩
abbrev S1024 : Shape := ⟨1, ![1024]⟩
abbrev S1x31x2048 : Shape := ⟨3, ![1, 31, 2048]⟩
abbrev S31x2048 : Shape := ⟨2, ![31, 2048]⟩
abbrev S1x2048 : Shape := ⟨2, ![1, 2048]⟩
abbrev S2048 : Shape := ⟨1, ![2048]⟩
abbrev S1x1024 : Shape := ⟨2, ![1, 1024]⟩
abbrev S31x8x256 : Shape := ⟨3, ![31, 8, 256]⟩
abbrev S8x31x256 : Shape := ⟨3, ![8, 31, 256]⟩
abbrev S8x1x256 : Shape := ⟨3, ![8, 1, 256]⟩
abbrev S16x32x64x2048 : Shape := ⟨4, ![16, 32, 64, 2048]⟩
abbrev S16x32x64x1024 : Shape := ⟨4, ![16, 32, 64, 1024]⟩
abbrev S1x32x16x2048 : Shape := ⟨4, ![1, 32, 16, 2048]⟩
abbrev S1x32x16x1024 : Shape := ⟨4, ![1, 32, 16, 1024]⟩
abbrev S1x3x1024 : Shape := ⟨3, ![1, 3, 1024]⟩
abbrev S1x2048x1024 : Shape := ⟨3, ![1, 2048, 1024]⟩
abbrev S8x32x16x256 : Shape := ⟨4, ![8, 32, 16, 256]⟩
abbrev S8x512x256 : Shape := ⟨3, ![8, 512, 256]⟩
abbrev S1x32x16x256 : Shape := ⟨4, ![1, 32, 16, 256]⟩
abbrev S32x16x256 : Shape := ⟨3, ![32, 16, 256]⟩
abbrev S1x31x256 : Shape := ⟨3, ![1, 31, 256]⟩
abbrev S31x256 : Shape := ⟨2, ![31, 256]⟩
abbrev S16x256 : Shape := ⟨2, ![16, 256]⟩
abbrev S1x1x16x256 : Shape := ⟨4, ![1, 1, 16, 256]⟩
abbrev S1x256 : Shape := ⟨2, ![1, 256]⟩
abbrev S1x1x256 : Shape := ⟨3, ![1, 1, 256]⟩
abbrev S1x16x256 : Shape := ⟨3, ![1, 16, 256]⟩
abbrev S512x1 : Shape := ⟨2, ![512, 1]⟩
abbrev S1x512x256 : Shape := ⟨3, ![1, 512, 256]⟩
abbrev S512x256 : Shape := ⟨2, ![512, 256]⟩
abbrev S512 : Shape := ⟨1, ![512]⟩
abbrev S1x256x1024 : Shape := ⟨3, ![1, 256, 1024]⟩
abbrev S256x1024 : Shape := ⟨2, ![256, 1024]⟩
abbrev S512x1024 : Shape := ⟨2, ![512, 1024]⟩
abbrev S32x16x1024 : Shape := ⟨3, ![32, 16, 1024]⟩
abbrev S1x1x1024 : Shape := ⟨3, ![1, 1, 1024]⟩

abbrev nBuf : Space → Nat
  | .hbm => 33
  | .vmem => 19
  | .smem => 0
  | _ => 0

abbrev bufTy : (tb : Table) → Fin (tcTables nBuf tb) → BufTy
  | .hbm, ⟨0, _⟩ => ⟨S16x2048x2048, .bf16⟩
  | .hbm, ⟨1, _⟩ => ⟨S16x2048x2048, .bf16⟩
  | .hbm, ⟨2, _⟩ => ⟨S16x2048x1024, .f32⟩
  | .hbm, ⟨3, _⟩ => ⟨S16x3x1024, .f32⟩
  | .hbm, ⟨4, _⟩ => ⟨S2x31x2048, .f32⟩
  | .hbm, ⟨5, _⟩ => ⟨S2x2048, .f32⟩
  | .hbm, ⟨6, _⟩ => ⟨S2x2048, .f32⟩
  | .hbm, ⟨7, _⟩ => ⟨S2x2048, .f32⟩
  | .hbm, ⟨8, _⟩ => ⟨S2x2048x1024, .f32⟩
  | .hbm, ⟨9, _⟩ => ⟨S2x1024, .f32⟩
  | .hbm, ⟨10, _⟩ => ⟨S1024, .f32⟩
  | .hbm, ⟨11, _⟩ => ⟨S1x31x2048, .f32⟩
  | .hbm, ⟨12, _⟩ => ⟨S31x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S2x2048x1024, .bf16⟩
  | .hbm, ⟨20, _⟩ => ⟨S1x1024, .f32⟩
  | .hbm, ⟨21, _⟩ => ⟨S1024, .f32⟩
  | .hbm, ⟨22, _⟩ => ⟨S31x8x256, .f32⟩
  | .hbm, ⟨23, _⟩ => ⟨S8x31x256, .f32⟩
  | .hbm, ⟨24, _⟩ => ⟨S8x1x256, .f32⟩
  | .hbm, ⟨25, _⟩ => ⟨S1x2048, .f32⟩
  | .hbm, ⟨26, _⟩ => ⟨S1x2048, .f32⟩
  | .hbm, ⟨27, _⟩ => ⟨S1x1024, .f32⟩
  | .hbm, ⟨28, _⟩ => ⟨S1x1024, .f32⟩
  | .hbm, ⟨29, _⟩ => ⟨S16x32x64x2048, .bf16⟩
  | .hbm, ⟨30, _⟩ => ⟨S16x32x64x2048, .bf16⟩
  | .hbm, ⟨31, _⟩ => ⟨S16x32x64x1024, .f32⟩
  | .hbm, ⟨32, _⟩ => ⟨S16x32x64x1024, .f32⟩
  | .local _ .vmem, ⟨0, _⟩ => ⟨S1x32x16x2048, .bf16⟩
  | .local _ .vmem, ⟨1, _⟩ => ⟨S1x32x16x2048, .bf16⟩
  | .local _ .vmem, ⟨2, _⟩ => ⟨S1x32x16x2048, .bf16⟩
  | .local _ .vmem, ⟨3, _⟩ => ⟨S1x32x16x2048, .bf16⟩
  | .local _ .vmem, ⟨4, _⟩ => ⟨S1x32x16x1024, .f32⟩
  | .local _ .vmem, ⟨5, _⟩ => ⟨S1x32x16x1024, .f32⟩
  | .local _ .vmem, ⟨6, _⟩ => ⟨S1x3x1024, .f32⟩
  | .local _ .vmem, ⟨7, _⟩ => ⟨S1x3x1024, .f32⟩
  | .local _ .vmem, ⟨8, _⟩ => ⟨S8x31x256, .f32⟩
  | .local _ .vmem, ⟨9, _⟩ => ⟨S8x1x256, .f32⟩
  | .local _ .vmem, ⟨10, _⟩ => ⟨S1x2048, .f32⟩
  | .local _ .vmem, ⟨11, _⟩ => ⟨S1x2048, .f32⟩
  | .local _ .vmem, ⟨12, _⟩ => ⟨S1x2048x1024, .bf16⟩
  | .local _ .vmem, ⟨13, _⟩ => ⟨S1x1024, .f32⟩
  | .local _ .vmem, ⟨14, _⟩ => ⟨S1x1024, .f32⟩
  | .local _ .vmem, ⟨15, _⟩ => ⟨S1x32x16x1024, .f32⟩
  | .local _ .vmem, ⟨16, _⟩ => ⟨S1x32x16x1024, .f32⟩
  | .local _ .vmem, ⟨17, _⟩ => ⟨S8x32x16x256, .f32⟩
  | .local _ .vmem, ⟨18, _⟩ => ⟨S8x512x256, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c8_i32 : BitVec 32 := 8#32
  let v48 : BitVec 32 := Scalar.addi c0_i32 c8_i32
  let c1_i32 : BitVec 32 := 1#32
  ⟨c0_i32, v48, c1_i32⟩
def k0_off1 (k0_t1 : Fin k0_t1_loop.trips) : Fin 3 → Nat :=
  let c0_i32 : BitVec 32 := 0#32
  let c1_i32 : BitVec 32 := 1#32
  let arg16 : BitVec 32 := Scf.iv c0_i32 c1_i32 k0_t1
  let v447 : Index := Scalar.indexCast arg16
  let c0_280 : Index := 0#32
  let c0_281 : Index := 0#32
  ![v447.toNat, 0, 0]
def k0_off2 (k0_t1 : Fin k0_t1_loop.trips) : Fin 4 → Nat :=
  let c0_i32 : BitVec 32 := 0#32
  let c1_i32 : BitVec 32 := 1#32
  let arg16 : BitVec 32 := Scf.iv c0_i32 c1_i32 k0_t1
  let v451 : Index := Scalar.indexCast arg16
  let c0_283 : Index := 0#32
  let c0_284 : Index := 0#32
  let c0_285 : Index := 0#32
  ![v451.toNat, 0, 0, 0]
def k0_off3 (k0_t1 : Fin k0_t1_loop.trips) : Fin 4 → Nat :=
  let c0_i32 : BitVec 32 := 0#32
  let c1_i32 : BitVec 32 := 1#32
  let arg16 : BitVec 32 := Scf.iv c0_i32 c1_i32 k0_t1
  let v458 : Index := Scalar.indexCast arg16
  let c1_286 : Index := 1#32
  let c0_287 : Index := 0#32
  let c0_288 : Index := 0#32
  ![v458.toNat, 1, 0, 0]
def k0_off4 (k0_t1 : Fin k0_t1_loop.trips) : Fin 4 → Nat :=
  let c0_i32 : BitVec 32 := 0#32
  let c1_i32 : BitVec 32 := 1#32
  let arg16 : BitVec 32 := Scf.iv c0_i32 c1_i32 k0_t1
  let v465 : Index := Scalar.indexCast arg16
  let c2_289 : Index := 2#32
  let c0_290 : Index := 0#32
  let c0_291 : Index := 0#32
  ![v465.toNat, 2, 0, 0]
def k0_off5 (k0_t1 : Fin k0_t1_loop.trips) : Fin 4 → Nat :=
  let c0_i32 : BitVec 32 := 0#32
  let c1_i32 : BitVec 32 := 1#32
  let arg16 : BitVec 32 := Scf.iv c0_i32 c1_i32 k0_t1
  let v472 : Index := Scalar.indexCast arg16
  let c3_292 : Index := 3#32
  let c0_293 : Index := 0#32
  let c0_294 : Index := 0#32
  ![v472.toNat, 3, 0, 0]
def k0_off6 (k0_t1 : Fin k0_t1_loop.trips) : Fin 4 → Nat :=
  let c0_i32 : BitVec 32 := 0#32
  let c1_i32 : BitVec 32 := 1#32
  let arg16 : BitVec 32 := Scf.iv c0_i32 c1_i32 k0_t1
  let v479 : Index := Scalar.indexCast arg16
  let c4_295 : Index := 4#32
  let c0_296 : Index := 0#32
  let c0_297 : Index := 0#32
  ![v479.toNat, 4, 0, 0]
def k0_off7 (k0_t1 : Fin k0_t1_loop.trips) : Fin 4 → Nat :=
  let c0_i32 : BitVec 32 := 0#32
  let c1_i32 : BitVec 32 := 1#32
  let arg16 : BitVec 32 := Scf.iv c0_i32 c1_i32 k0_t1
  let v486 : Index := Scalar.indexCast arg16
  let c5_298 : Index := 5#32
  let c0_299 : Index := 0#32
  let c0_300 : Index := 0#32
  ![v486.toNat, 5, 0, 0]
def k0_off8 (k0_t1 : Fin k0_t1_loop.trips) : Fin 4 → Nat :=
  let c0_i32 : BitVec 32 := 0#32
  let c1_i32 : BitVec 32 := 1#32
  let arg16 : BitVec 32 := Scf.iv c0_i32 c1_i32 k0_t1
  let v493 : Index := Scalar.indexCast arg16
  let c6_301 : Index := 6#32
  let c0_302 : Index := 0#32
  let c0_303 : Index := 0#32
  ![v493.toNat, 6, 0, 0]
def k0_off9 (k0_t1 : Fin k0_t1_loop.trips) : Fin 4 → Nat :=
  let c0_i32 : BitVec 32 := 0#32
  let c1_i32 : BitVec 32 := 1#32
  let arg16 : BitVec 32 := Scf.iv c0_i32 c1_i32 k0_t1
  let v500 : Index := Scalar.indexCast arg16
  let c7_304 : Index := 7#32
  let c0_305 : Index := 0#32
  let c0_306 : Index := 0#32
  ![v500.toNat, 7, 0, 0]
def k0_off10 (k0_t1 : Fin k0_t1_loop.trips) : Fin 4 → Nat :=
  let c0_i32 : BitVec 32 := 0#32
  let c1_i32 : BitVec 32 := 1#32
  let arg16 : BitVec 32 := Scf.iv c0_i32 c1_i32 k0_t1
  let v507 : Index := Scalar.indexCast arg16
  let c8 : Index := 8#32
  let c0_307 : Index := 0#32
  let c0_308 : Index := 0#32
  ![v507.toNat, 8, 0, 0]
def k0_off11 (k0_t1 : Fin k0_t1_loop.trips) : Fin 4 → Nat :=
  let c0_i32 : BitVec 32 := 0#32
  let c1_i32 : BitVec 32 := 1#32
  let arg16 : BitVec 32 := Scf.iv c0_i32 c1_i32 k0_t1
  let v514 : Index := Scalar.indexCast arg16
  let c9 : Index := 9#32
  let c0_309 : Index := 0#32
  let c0_310 : Index := 0#32
  ![v514.toNat, 9, 0, 0]
def k0_off12 (k0_t1 : Fin k0_t1_loop.trips) : Fin 4 → Nat :=
  let c0_i32 : BitVec 32 := 0#32
  let c1_i32 : BitVec 32 := 1#32
  let arg16 : BitVec 32 := Scf.iv c0_i32 c1_i32 k0_t1
  let v521 : Index := Scalar.indexCast arg16
  let c10 : Index := 10#32
  let c0_311 : Index := 0#32
  let c0_312 : Index := 0#32
  ![v521.toNat, 10, 0, 0]
def k0_off13 (k0_t1 : Fin k0_t1_loop.trips) : Fin 4 → Nat :=
  let c0_i32 : BitVec 32 := 0#32
  let c1_i32 : BitVec 32 := 1#32
  let arg16 : BitVec 32 := Scf.iv c0_i32 c1_i32 k0_t1
  let v528 : Index := Scalar.indexCast arg16
  let c11 : Index := 11#32
  let c0_313 : Index := 0#32
  let c0_314 : Index := 0#32
  ![v528.toNat, 11, 0, 0]
def k0_off14 (k0_t1 : Fin k0_t1_loop.trips) : Fin 4 → Nat :=
  let c0_i32 : BitVec 32 := 0#32
  let c1_i32 : BitVec 32 := 1#32
  let arg16 : BitVec 32 := Scf.iv c0_i32 c1_i32 k0_t1
  let v535 : Index := Scalar.indexCast arg16
  let c12 : Index := 12#32
  let c0_315 : Index := 0#32
  let c0_316 : Index := 0#32
  ![v535.toNat, 12, 0, 0]
def k0_off15 (k0_t1 : Fin k0_t1_loop.trips) : Fin 4 → Nat :=
  let c0_i32 : BitVec 32 := 0#32
  let c1_i32 : BitVec 32 := 1#32
  let arg16 : BitVec 32 := Scf.iv c0_i32 c1_i32 k0_t1
  let v542 : Index := Scalar.indexCast arg16
  let c13 : Index := 13#32
  let c0_317 : Index := 0#32
  let c0_318 : Index := 0#32
  ![v542.toNat, 13, 0, 0]
def k0_off16 (k0_t1 : Fin k0_t1_loop.trips) : Fin 4 → Nat :=
  let c0_i32 : BitVec 32 := 0#32
  let c1_i32 : BitVec 32 := 1#32
  let arg16 : BitVec 32 := Scf.iv c0_i32 c1_i32 k0_t1
  let v549 : Index := Scalar.indexCast arg16
  let c14 : Index := 14#32
  let c0_319 : Index := 0#32
  let c0_320 : Index := 0#32
  ![v549.toNat, 14, 0, 0]
def k0_off17 (k0_t1 : Fin k0_t1_loop.trips) : Fin 4 → Nat :=
  let c0_i32 : BitVec 32 := 0#32
  let c1_i32 : BitVec 32 := 1#32
  let arg16 : BitVec 32 := Scf.iv c0_i32 c1_i32 k0_t1
  let v556 : Index := Scalar.indexCast arg16
  let c15 : Index := 15#32
  let c0_321 : Index := 0#32
  let c0_322 : Index := 0#32
  ![v556.toNat, 15, 0, 0]
def k0_off18 (k0_t1 : Fin k0_t1_loop.trips) : Fin 3 → Nat :=
  let c0_i32 : BitVec 32 := 0#32
  let c1_i32 : BitVec 32 := 1#32
  let arg16 : BitVec 32 := Scf.iv c0_i32 c1_i32 k0_t1
  let v563 : Index := Scalar.indexCast arg16
  let c0_323 : Index := 0#32
  let c0_324 : Index := 0#32
  ![v563.toNat, 0, 0]
def k0_off19 (k0_t1 : Fin k0_t1_loop.trips) : Fin 3 → Nat :=
  let c0_i32 : BitVec 32 := 0#32
  let c1_i32 : BitVec 32 := 1#32
  let arg16 : BitVec 32 := Scf.iv c0_i32 c1_i32 k0_t1
  let v568 : Index := Scalar.indexCast arg16
  let c0_325 : Index := 0#32
  let c0_326 : Index := 0#32
  ![v568.toNat, 0, 0]
def k0_off20 (k0_t1 : Fin k0_t1_loop.trips) : Fin 4 → Nat :=
  let c0_i32 : BitVec 32 := 0#32
  let c1_i32 : BitVec 32 := 1#32
  let arg16 : BitVec 32 := Scf.iv c0_i32 c1_i32 k0_t1
  let v685 : Index := Scalar.indexCast arg16
  let c16 : Index := 16#32
  let c0_376 : Index := 0#32
  let c0_377 : Index := 0#32
  ![v685.toNat, 16, 0, 0]
def k0_off21 (k0_t1 : Fin k0_t1_loop.trips) : Fin 3 → Nat :=
  let c0_i32 : BitVec 32 := 0#32
  let c1_i32 : BitVec 32 := 1#32
  let arg16 : BitVec 32 := Scf.iv c0_i32 c1_i32 k0_t1
  let v697 : Index := Scalar.indexCast arg16
  let c16_380 : Index := 16#32
  let c0_381 : Index := 0#32
  ![v697.toNat, 16, 0]
def k0_off22 (k0_t1 : Fin k0_t1_loop.trips) : Fin 4 → Nat :=
  let c0_i32 : BitVec 32 := 0#32
  let c1_i32 : BitVec 32 := 1#32
  let arg16 : BitVec 32 := Scf.iv c0_i32 c1_i32 k0_t1
  let v821 : Index := Scalar.indexCast arg16
  let c17 : Index := 17#32
  let c0_434 : Index := 0#32
  let c0_435 : Index := 0#32
  ![v821.toNat, 17, 0, 0]
def k0_off23 (k0_t1 : Fin k0_t1_loop.trips) : Fin 3 → Nat :=
  let c0_i32 : BitVec 32 := 0#32
  let c1_i32 : BitVec 32 := 1#32
  let arg16 : BitVec 32 := Scf.iv c0_i32 c1_i32 k0_t1
  let v833 : Index := Scalar.indexCast arg16
  let c32 : Index := 32#32
  let c0_438 : Index := 0#32
  ![v833.toNat, 32, 0]
def k0_off24 (k0_t1 : Fin k0_t1_loop.trips) : Fin 4 → Nat :=
  let c0_i32 : BitVec 32 := 0#32
  let c1_i32 : BitVec 32 := 1#32
  let arg16 : BitVec 32 := Scf.iv c0_i32 c1_i32 k0_t1
  let v964 : Index := Scalar.indexCast arg16
  let c18 : Index := 18#32
  let c0_494 : Index := 0#32
  let c0_495 : Index := 0#32
  ![v964.toNat, 18, 0, 0]
def k0_off25 (k0_t1 : Fin k0_t1_loop.trips) : Fin 3 → Nat :=
  let c0_i32 : BitVec 32 := 0#32
  let c1_i32 : BitVec 32 := 1#32
  let arg16 : BitVec 32 := Scf.iv c0_i32 c1_i32 k0_t1
  let v976 : Index := Scalar.indexCast arg16
  let c48 : Index := 48#32
  let c0_498 : Index := 0#32
  ![v976.toNat, 48, 0]
def k0_off26 (k0_t1 : Fin k0_t1_loop.trips) : Fin 4 → Nat :=
  let c0_i32 : BitVec 32 := 0#32
  let c1_i32 : BitVec 32 := 1#32
  let arg16 : BitVec 32 := Scf.iv c0_i32 c1_i32 k0_t1
  let v1114 : Index := Scalar.indexCast arg16
  let c19 : Index := 19#32
  let c0_557 : Index := 0#32
  let c0_558 : Index := 0#32
  ![v1114.toNat, 19, 0, 0]
def k0_off27 (k0_t1 : Fin k0_t1_loop.trips) : Fin 3 → Nat :=
  let c0_i32 : BitVec 32 := 0#32
  let c1_i32 : BitVec 32 := 1#32
  let arg16 : BitVec 32 := Scf.iv c0_i32 c1_i32 k0_t1
  let v1126 : Index := Scalar.indexCast arg16
  let c64 : Index := 64#32
  let c0_561 : Index := 0#32
  ![v1126.toNat, 64, 0]
def k0_off28 (k0_t1 : Fin k0_t1_loop.trips) : Fin 4 → Nat :=
  let c0_i32 : BitVec 32 := 0#32
  let c1_i32 : BitVec 32 := 1#32
  let arg16 : BitVec 32 := Scf.iv c0_i32 c1_i32 k0_t1
  let v1271 : Index := Scalar.indexCast arg16
  let c20 : Index := 20#32
  let c0_623 : Index := 0#32
  let c0_624 : Index := 0#32
  ![v1271.toNat, 20, 0, 0]
def k0_off29 (k0_t1 : Fin k0_t1_loop.trips) : Fin 3 → Nat :=
  let c0_i32 : BitVec 32 := 0#32
  let c1_i32 : BitVec 32 := 1#32
  let arg16 : BitVec 32 := Scf.iv c0_i32 c1_i32 k0_t1
  let v1283 : Index := Scalar.indexCast arg16
  let c80 : Index := 80#32
  let c0_627 : Index := 0#32
  ![v1283.toNat, 80, 0]
def k0_off30 (k0_t1 : Fin k0_t1_loop.trips) : Fin 4 → Nat :=
  let c0_i32 : BitVec 32 := 0#32
  let c1_i32 : BitVec 32 := 1#32
  let arg16 : BitVec 32 := Scf.iv c0_i32 c1_i32 k0_t1
  let v1435 : Index := Scalar.indexCast arg16
  let c21 : Index := 21#32
  let c0_692 : Index := 0#32
  let c0_693 : Index := 0#32
  ![v1435.toNat, 21, 0, 0]
def k0_off31 (k0_t1 : Fin k0_t1_loop.trips) : Fin 3 → Nat :=
  let c0_i32 : BitVec 32 := 0#32
  let c1_i32 : BitVec 32 := 1#32
  let arg16 : BitVec 32 := Scf.iv c0_i32 c1_i32 k0_t1
  let v1447 : Index := Scalar.indexCast arg16
  let c96 : Index := 96#32
  let c0_696 : Index := 0#32
  ![v1447.toNat, 96, 0]
def k0_off32 (k0_t1 : Fin k0_t1_loop.trips) : Fin 4 → Nat :=
  let c0_i32 : BitVec 32 := 0#32
  let c1_i32 : BitVec 32 := 1#32
  let arg16 : BitVec 32 := Scf.iv c0_i32 c1_i32 k0_t1
  let v1606 : Index := Scalar.indexCast arg16
  let c22 : Index := 22#32
  let c0_764 : Index := 0#32
  let c0_765 : Index := 0#32
  ![v1606.toNat, 22, 0, 0]
def k0_off33 (k0_t1 : Fin k0_t1_loop.trips) : Fin 3 → Nat :=
  let c0_i32 : BitVec 32 := 0#32
  let c1_i32 : BitVec 32 := 1#32
  let arg16 : BitVec 32 := Scf.iv c0_i32 c1_i32 k0_t1
  let v1618 : Index := Scalar.indexCast arg16
  let c112 : Index := 112#32
  let c0_768 : Index := 0#32
  ![v1618.toNat, 112, 0]
def k0_off34 (k0_t1 : Fin k0_t1_loop.trips) : Fin 4 → Nat :=
  let c0_i32 : BitVec 32 := 0#32
  let c1_i32 : BitVec 32 := 1#32
  let arg16 : BitVec 32 := Scf.iv c0_i32 c1_i32 k0_t1
  let v1784 : Index := Scalar.indexCast arg16
  let c23 : Index := 23#32
  let c0_839 : Index := 0#32
  let c0_840 : Index := 0#32
  ![v1784.toNat, 23, 0, 0]
def k0_off35 (k0_t1 : Fin k0_t1_loop.trips) : Fin 3 → Nat :=
  let c0_i32 : BitVec 32 := 0#32
  let c1_i32 : BitVec 32 := 1#32
  let arg16 : BitVec 32 := Scf.iv c0_i32 c1_i32 k0_t1
  let v1796 : Index := Scalar.indexCast arg16
  let c128 : Index := 128#32
  let c0_843 : Index := 0#32
  ![v1796.toNat, 128, 0]
def k0_off36 (k0_t1 : Fin k0_t1_loop.trips) : Fin 4 → Nat :=
  let c0_i32 : BitVec 32 := 0#32
  let c1_i32 : BitVec 32 := 1#32
  let arg16 : BitVec 32 := Scf.iv c0_i32 c1_i32 k0_t1
  let v1969 : Index := Scalar.indexCast arg16
  let c24 : Index := 24#32
  let c0_917 : Index := 0#32
  let c0_918 : Index := 0#32
  ![v1969.toNat, 24, 0, 0]
def k0_off37 (k0_t1 : Fin k0_t1_loop.trips) : Fin 3 → Nat :=
  let c0_i32 : BitVec 32 := 0#32
  let c1_i32 : BitVec 32 := 1#32
  let arg16 : BitVec 32 := Scf.iv c0_i32 c1_i32 k0_t1
  let v1981 : Index := Scalar.indexCast arg16
  let c144 : Index := 144#32
  let c0_921 : Index := 0#32
  ![v1981.toNat, 144, 0]
def k0_off38 (k0_t1 : Fin k0_t1_loop.trips) : Fin 4 → Nat :=
  let c0_i32 : BitVec 32 := 0#32
  let c1_i32 : BitVec 32 := 1#32
  let arg16 : BitVec 32 := Scf.iv c0_i32 c1_i32 k0_t1
  let v2161 : Index := Scalar.indexCast arg16
  let c25 : Index := 25#32
  let c0_998 : Index := 0#32
  let c0_999 : Index := 0#32
  ![v2161.toNat, 25, 0, 0]
def k0_off39 (k0_t1 : Fin k0_t1_loop.trips) : Fin 3 → Nat :=
  let c0_i32 : BitVec 32 := 0#32
  let c1_i32 : BitVec 32 := 1#32
  let arg16 : BitVec 32 := Scf.iv c0_i32 c1_i32 k0_t1
  let v2173 : Index := Scalar.indexCast arg16
  let c160 : Index := 160#32
  let c0_1002 : Index := 0#32
  ![v2173.toNat, 160, 0]
def k0_off40 (k0_t1 : Fin k0_t1_loop.trips) : Fin 4 → Nat :=
  let c0_i32 : BitVec 32 := 0#32
  let c1_i32 : BitVec 32 := 1#32
  let arg16 : BitVec 32 := Scf.iv c0_i32 c1_i32 k0_t1
  let v2360 : Index := Scalar.indexCast arg16
  let c26 : Index := 26#32
  let c0_1082 : Index := 0#32
  let c0_1083 : Index := 0#32
  ![v2360.toNat, 26, 0, 0]
def k0_off41 (k0_t1 : Fin k0_t1_loop.trips) : Fin 3 → Nat :=
  let c0_i32 : BitVec 32 := 0#32
  let c1_i32 : BitVec 32 := 1#32
  let arg16 : BitVec 32 := Scf.iv c0_i32 c1_i32 k0_t1
  let v2372 : Index := Scalar.indexCast arg16
  let c176 : Index := 176#32
  let c0_1086 : Index := 0#32
  ![v2372.toNat, 176, 0]
def k0_off42 (k0_t1 : Fin k0_t1_loop.trips) : Fin 4 → Nat :=
  let c0_i32 : BitVec 32 := 0#32
  let c1_i32 : BitVec 32 := 1#32
  let arg16 : BitVec 32 := Scf.iv c0_i32 c1_i32 k0_t1
  let v2566 : Index := Scalar.indexCast arg16
  let c27 : Index := 27#32
  let c0_1169 : Index := 0#32
  let c0_1170 : Index := 0#32
  ![v2566.toNat, 27, 0, 0]
def k0_off43 (k0_t1 : Fin k0_t1_loop.trips) : Fin 3 → Nat :=
  let c0_i32 : BitVec 32 := 0#32
  let c1_i32 : BitVec 32 := 1#32
  let arg16 : BitVec 32 := Scf.iv c0_i32 c1_i32 k0_t1
  let v2578 : Index := Scalar.indexCast arg16
  let c192 : Index := 192#32
  let c0_1173 : Index := 0#32
  ![v2578.toNat, 192, 0]
def k0_off44 (k0_t1 : Fin k0_t1_loop.trips) : Fin 4 → Nat :=
  let c0_i32 : BitVec 32 := 0#32
  let c1_i32 : BitVec 32 := 1#32
  let arg16 : BitVec 32 := Scf.iv c0_i32 c1_i32 k0_t1
  let v2779 : Index := Scalar.indexCast arg16
  let c28 : Index := 28#32
  let c0_1259 : Index := 0#32
  let c0_1260 : Index := 0#32
  ![v2779.toNat, 28, 0, 0]
def k0_off45 (k0_t1 : Fin k0_t1_loop.trips) : Fin 3 → Nat :=
  let c0_i32 : BitVec 32 := 0#32
  let c1_i32 : BitVec 32 := 1#32
  let arg16 : BitVec 32 := Scf.iv c0_i32 c1_i32 k0_t1
  let v2791 : Index := Scalar.indexCast arg16
  let c208 : Index := 208#32
  let c0_1263 : Index := 0#32
  ![v2791.toNat, 208, 0]
def k0_off46 (k0_t1 : Fin k0_t1_loop.trips) : Fin 4 → Nat :=
  let c0_i32 : BitVec 32 := 0#32
  let c1_i32 : BitVec 32 := 1#32
  let arg16 : BitVec 32 := Scf.iv c0_i32 c1_i32 k0_t1
  let v2999 : Index := Scalar.indexCast arg16
  let c29 : Index := 29#32
  let c0_1352 : Index := 0#32
  let c0_1353 : Index := 0#32
  ![v2999.toNat, 29, 0, 0]
def k0_off47 (k0_t1 : Fin k0_t1_loop.trips) : Fin 3 → Nat :=
  let c0_i32 : BitVec 32 := 0#32
  let c1_i32 : BitVec 32 := 1#32
  let arg16 : BitVec 32 := Scf.iv c0_i32 c1_i32 k0_t1
  let v3011 : Index := Scalar.indexCast arg16
  let c224 : Index := 224#32
  let c0_1356 : Index := 0#32
  ![v3011.toNat, 224, 0]
def k0_off48 (k0_t1 : Fin k0_t1_loop.trips) : Fin 4 → Nat :=
  let c0_i32 : BitVec 32 := 0#32
  let c1_i32 : BitVec 32 := 1#32
  let arg16 : BitVec 32 := Scf.iv c0_i32 c1_i32 k0_t1
  let v3226 : Index := Scalar.indexCast arg16
  let c30 : Index := 30#32
  let c0_1448 : Index := 0#32
  let c0_1449 : Index := 0#32
  ![v3226.toNat, 30, 0, 0]
def k0_off49 (k0_t1 : Fin k0_t1_loop.trips) : Fin 3 → Nat :=
  let c0_i32 : BitVec 32 := 0#32
  let c1_i32 : BitVec 32 := 1#32
  let arg16 : BitVec 32 := Scf.iv c0_i32 c1_i32 k0_t1
  let v3238 : Index := Scalar.indexCast arg16
  let c240 : Index := 240#32
  let c0_1452 : Index := 0#32
  ![v3238.toNat, 240, 0]
def k0_off50 (k0_t1 : Fin k0_t1_loop.trips) : Fin 4 → Nat :=
  let c0_i32 : BitVec 32 := 0#32
  let c1_i32 : BitVec 32 := 1#32
  let arg16 : BitVec 32 := Scf.iv c0_i32 c1_i32 k0_t1
  let v3453 : Index := Scalar.indexCast arg16
  let c31 : Index := 31#32
  let c0_1544 : Index := 0#32
  let c0_1545 : Index := 0#32
  ![v3453.toNat, 31, 0, 0]
def k0_off51 (k0_t1 : Fin k0_t1_loop.trips) : Fin 3 → Nat :=
  let c0_i32 : BitVec 32 := 0#32
  let c1_i32 : BitVec 32 := 1#32
  let arg16 : BitVec 32 := Scf.iv c0_i32 c1_i32 k0_t1
  let v3465 : Index := Scalar.indexCast arg16
  let c256_1548 : Index := 256#32
  let c0_1549 : Index := 0#32
  ![v3465.toNat, 256, 0]
def k0_off52 (k0_t1 : Fin k0_t1_loop.trips) : Fin 3 → Nat :=
  let c0_i32 : BitVec 32 := 0#32
  let c1_i32 : BitVec 32 := 1#32
  let arg16 : BitVec 32 := Scf.iv c0_i32 c1_i32 k0_t1
  let v3685 : Index := Scalar.indexCast arg16
  let c272 : Index := 272#32
  let c0_1643 : Index := 0#32
  ![v3685.toNat, 272, 0]
def k0_off53 (k0_t1 : Fin k0_t1_loop.trips) : Fin 3 → Nat :=
  let c0_i32 : BitVec 32 := 0#32
  let c1_i32 : BitVec 32 := 1#32
  let arg16 : BitVec 32 := Scf.iv c0_i32 c1_i32 k0_t1
  let v3898 : Index := Scalar.indexCast arg16
  let c288 : Index := 288#32
  let c0_1734 : Index := 0#32
  ![v3898.toNat, 288, 0]
def k0_off54 (k0_t1 : Fin k0_t1_loop.trips) : Fin 3 → Nat :=
  let c0_i32 : BitVec 32 := 0#32
  let c1_i32 : BitVec 32 := 1#32
  let arg16 : BitVec 32 := Scf.iv c0_i32 c1_i32 k0_t1
  let v4104 : Index := Scalar.indexCast arg16
  let c304 : Index := 304#32
  let c0_1822 : Index := 0#32
  ![v4104.toNat, 304, 0]
def k0_off55 (k0_t1 : Fin k0_t1_loop.trips) : Fin 3 → Nat :=
  let c0_i32 : BitVec 32 := 0#32
  let c1_i32 : BitVec 32 := 1#32
  let arg16 : BitVec 32 := Scf.iv c0_i32 c1_i32 k0_t1
  let v4303 : Index := Scalar.indexCast arg16
  let c320 : Index := 320#32
  let c0_1907 : Index := 0#32
  ![v4303.toNat, 320, 0]
def k0_off56 (k0_t1 : Fin k0_t1_loop.trips) : Fin 3 → Nat :=
  let c0_i32 : BitVec 32 := 0#32
  let c1_i32 : BitVec 32 := 1#32
  let arg16 : BitVec 32 := Scf.iv c0_i32 c1_i32 k0_t1
  let v4495 : Index := Scalar.indexCast arg16
  let c336 : Index := 336#32
  let c0_1989 : Index := 0#32
  ![v4495.toNat, 336, 0]
def k0_off57 (k0_t1 : Fin k0_t1_loop.trips) : Fin 3 → Nat :=
  let c0_i32 : BitVec 32 := 0#32
  let c1_i32 : BitVec 32 := 1#32
  let arg16 : BitVec 32 := Scf.iv c0_i32 c1_i32 k0_t1
  let v4680 : Index := Scalar.indexCast arg16
  let c352 : Index := 352#32
  let c0_2068 : Index := 0#32
  ![v4680.toNat, 352, 0]
def k0_off58 (k0_t1 : Fin k0_t1_loop.trips) : Fin 3 → Nat :=
  let c0_i32 : BitVec 32 := 0#32
  let c1_i32 : BitVec 32 := 1#32
  let arg16 : BitVec 32 := Scf.iv c0_i32 c1_i32 k0_t1
  let v4858 : Index := Scalar.indexCast arg16
  let c368 : Index := 368#32
  let c0_2144 : Index := 0#32
  ![v4858.toNat, 368, 0]
def k0_off59 (k0_t1 : Fin k0_t1_loop.trips) : Fin 3 → Nat :=
  let c0_i32 : BitVec 32 := 0#32
  let c1_i32 : BitVec 32 := 1#32
  let arg16 : BitVec 32 := Scf.iv c0_i32 c1_i32 k0_t1
  let v5029 : Index := Scalar.indexCast arg16
  let c384 : Index := 384#32
  let c0_2217 : Index := 0#32
  ![v5029.toNat, 384, 0]
def k0_off60 (k0_t1 : Fin k0_t1_loop.trips) : Fin 3 → Nat :=
  let c0_i32 : BitVec 32 := 0#32
  let c1_i32 : BitVec 32 := 1#32
  let arg16 : BitVec 32 := Scf.iv c0_i32 c1_i32 k0_t1
  let v5193 : Index := Scalar.indexCast arg16
  let c400 : Index := 400#32
  let c0_2287 : Index := 0#32
  ![v5193.toNat, 400, 0]
def k0_off61 (k0_t1 : Fin k0_t1_loop.trips) : Fin 3 → Nat :=
  let c0_i32 : BitVec 32 := 0#32
  let c1_i32 : BitVec 32 := 1#32
  let arg16 : BitVec 32 := Scf.iv c0_i32 c1_i32 k0_t1
  let v5350 : Index := Scalar.indexCast arg16
  let c416 : Index := 416#32
  let c0_2354 : Index := 0#32
  ![v5350.toNat, 416, 0]
def k0_off62 (k0_t1 : Fin k0_t1_loop.trips) : Fin 3 → Nat :=
  let c0_i32 : BitVec 32 := 0#32
  let c1_i32 : BitVec 32 := 1#32
  let arg16 : BitVec 32 := Scf.iv c0_i32 c1_i32 k0_t1
  let v5500 : Index := Scalar.indexCast arg16
  let c432 : Index := 432#32
  let c0_2418 : Index := 0#32
  ![v5500.toNat, 432, 0]
def k0_off63 (k0_t1 : Fin k0_t1_loop.trips) : Fin 3 → Nat :=
  let c0_i32 : BitVec 32 := 0#32
  let c1_i32 : BitVec 32 := 1#32
  let arg16 : BitVec 32 := Scf.iv c0_i32 c1_i32 k0_t1
  let v5643 : Index := Scalar.indexCast arg16
  let c448 : Index := 448#32
  let c0_2479 : Index := 0#32
  ![v5643.toNat, 448, 0]
def k0_off64 (k0_t1 : Fin k0_t1_loop.trips) : Fin 3 → Nat :=
  let c0_i32 : BitVec 32 := 0#32
  let c1_i32 : BitVec 32 := 1#32
  let arg16 : BitVec 32 := Scf.iv c0_i32 c1_i32 k0_t1
  let v5779 : Index := Scalar.indexCast arg16
  let c464 : Index := 464#32
  let c0_2537 : Index := 0#32
  ![v5779.toNat, 464, 0]
def k0_off65 (k0_t1 : Fin k0_t1_loop.trips) : Fin 3 → Nat :=
  let c0_i32 : BitVec 32 := 0#32
  let c1_i32 : BitVec 32 := 1#32
  let arg16 : BitVec 32 := Scf.iv c0_i32 c1_i32 k0_t1
  let v5908 : Index := Scalar.indexCast arg16
  let c480 : Index := 480#32
  let c0_2592 : Index := 0#32
  ![v5908.toNat, 480, 0]
def k0_off66 (k0_t1 : Fin k0_t1_loop.trips) : Fin 3 → Nat :=
  let c0_i32 : BitVec 32 := 0#32
  let c1_i32 : BitVec 32 := 1#32
  let arg16 : BitVec 32 := Scf.iv c0_i32 c1_i32 k0_t1
  let v6030 : Index := Scalar.indexCast arg16
  let c496 : Index := 496#32
  let c0_2644 : Index := 0#32
  ![v6030.toNat, 496, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x32x16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x32x16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ConvColsRefIdeal.lean ====
abbrev S16x2048x2048 : Shape := ⟨3, ![16, 2048, 2048]⟩
abbrev S16x2048x1024 : Shape := ⟨3, ![16, 2048, 1024]⟩
abbrev S16x3x1024 : Shape := ⟨3, ![16, 3, 1024]⟩
abbrev S2x31x2048 : Shape := ⟨3, ![2, 31, 2048]⟩
abbrev S2x2048 : Shape := ⟨2, ![2, 2048]⟩
abbrev S2x2048x1024 : Shape := ⟨3, ![2, 2048, 1024]⟩
abbrev S2x1024 : Shape := ⟨2, ![2, 1024]⟩
abbrev S1024 : Shape := ⟨1, ![1024]⟩
abbrev S16x32x64x2048 : Shape := ⟨4, ![16, 32, 64, 2048]⟩
abbrev S_ : Shape := ⟨0, ![]⟩
abbrev S16x62x64x2048 : Shape := ⟨4, ![16, 62, 64, 2048]⟩
abbrev S1x1x2048 : Shape := ⟨3, ![1, 1, 2048]⟩
abbrev S2048 : Shape := ⟨1, ![2048]⟩
abbrev S1x1x1x2048 : Shape := ⟨4, ![1, 1, 1, 2048]⟩
abbrev S1x2048 : Shape := ⟨2, ![1, 2048]⟩
abbrev S16x2048 : Shape := ⟨2, ![16, 2048]⟩
abbrev S16x2048x1 : Shape := ⟨3, ![16, 2048, 1]⟩
abbrev S1x2048x1024 : Shape := ⟨3, ![1, 2048, 1024]⟩
abbrev S2048x1024 : Shape := ⟨2, ![2048, 1024]⟩
abbrev S1x1024 : Shape := ⟨2, ![1, 1024]⟩
abbrev S1x1x1024 : Shape := ⟨3, ![1, 1, 1024]⟩
abbrev S16x1x1024 : Shape := ⟨3, ![16, 1, 1024]⟩
abbrev S16x1024 : Shape := ⟨2, ![16, 1024]⟩
abbrev S16x32x64x1024 : Shape := ⟨4, ![16, 32, 64, 1024]⟩

abbrev nBuf : Space → Nat
  | .hbm => 314
  | .vmem => 0
  | .smem => 0
  | _ => 0

abbrev hbmTy0_0 (i : Nat) : BufTy := match i % 128 with
  | 0 => ⟨S16x2048x2048, .bf16⟩
  | 1 => ⟨S16x2048x2048, .bf16⟩
  | 2 => ⟨S16x2048x1024, .f32⟩
  | 3 => ⟨S16x3x1024, .f32⟩
  | 4 => ⟨S2x31x2048, .f32⟩
  | 5 => ⟨S2x2048, .f32⟩
  | 6 => ⟨S2x2048, .f32⟩
  | 7 => ⟨S2x2048, .f32⟩
  | 8 => ⟨S2x2048x1024, .f32⟩
  | 9 => ⟨S2x1024, .f32⟩
  | 10 => ⟨S1024, .f32⟩
  | 11 => ⟨S16x2048x2048, .f32⟩
  | 12 => ⟨S16x32x64x2048, .f32⟩
  | 13 => ⟨S_, .i32⟩
  | 14 => ⟨S_, .f32⟩
  | 15 => ⟨S16x62x64x2048, .f32⟩
  | 16 => ⟨S16x32x64x2048, .f32⟩
  | 17 => ⟨S1x1x2048, .f32⟩
  | 18 => ⟨S2048, .f32⟩
  | 19 => ⟨S1x1x1x2048, .f32⟩
  | 20 => ⟨S16x32x64x2048, .f32⟩
  | 21 => ⟨S16x32x64x2048, .f32⟩
  | 22 => ⟨S_, .f32⟩
  | 23 => ⟨S16x32x64x2048, .f32⟩
  | 24 => ⟨S16x32x64x2048, .f32⟩
  | 25 => ⟨S16x32x64x2048, .f32⟩
  | 26 => ⟨S1x1x2048, .f32⟩
  | 27 => ⟨S2048, .f32⟩
  | 28 => ⟨S1x1x1x2048, .f32⟩
  | 29 => ⟨S16x32x64x2048, .f32⟩
  | 30 => ⟨S16x32x64x2048, .f32⟩
  | 31 => ⟨S16x32x64x2048, .f32⟩
  | 32 => ⟨S16x32x64x2048, .f32⟩
  | 33 => ⟨S1x1x2048, .f32⟩
  | 34 => ⟨S2048, .f32⟩
  | 35 => ⟨S1x1x1x2048, .f32⟩
  | 36 => ⟨S16x32x64x2048, .f32⟩
  | 37 => ⟨S16x32x64x2048, .f32⟩
  | 38 => ⟨S16x32x64x2048, .f32⟩
  | 39 => ⟨S16x32x64x2048, .f32⟩
  | 40 => ⟨S1x1x2048, .f32⟩
  | 41 => ⟨S2048, .f32⟩
  | 42 => ⟨S1x1x1x2048, .f32⟩
  | 43 => ⟨S16x32x64x2048, .f32⟩
  | 44 => ⟨S16x32x64x2048, .f32⟩
  | 45 => ⟨S16x32x64x2048, .f32⟩
  | 46 => ⟨S16x32x64x2048, .f32⟩
  | 47 => ⟨S1x1x2048, .f32⟩
  | 48 => ⟨S2048, .f32⟩
  | 49 => ⟨S1x1x1x2048, .f32⟩
  | 50 => ⟨S16x32x64x2048, .f32⟩
  | 51 => ⟨S16x32x64x2048, .f32⟩
  | 52 => ⟨S16x32x64x2048, .f32⟩
  | 53 => ⟨S16x32x64x2048, .f32⟩
  | 54 => ⟨S1x1x2048, .f32⟩
  | 55 => ⟨S2048, .f32⟩
  | 56 => ⟨S1x1x1x2048, .f32⟩
  | 57 => ⟨S16x32x64x2048, .f32⟩
  | 58 => ⟨S16x32x64x2048, .f32⟩
  | 59 => ⟨S16x32x64x2048, .f32⟩
  | 60 => ⟨S16x32x64x2048, .f32⟩
  | 61 => ⟨S1x1x2048, .f32⟩
  | 62 => ⟨S2048, .f32⟩
  | 63 => ⟨S1x1x1x2048, .f32⟩
  | 64 => ⟨S16x32x64x2048, .f32⟩
  | 65 => ⟨S16x32x64x2048, .f32⟩
  | 66 => ⟨S16x32x64x2048, .f32⟩
  | 67 => ⟨S16x32x64x2048, .f32⟩
  | 68 => ⟨S1x1x2048, .f32⟩
  | 69 => ⟨S2048, .f32⟩
  | 70 => ⟨S1x1x1x2048, .f32⟩
  | 71 => ⟨S16x32x64x2048, .f32⟩
  | 72 => ⟨S16x32x64x2048, .f32⟩
  | 73 => ⟨S16x32x64x2048, .f32⟩
  | 74 => ⟨S16x32x64x2048, .f32⟩
  | 75 => ⟨S1x1x2048, .f32⟩
  | 76 => ⟨S2048, .f32⟩
  | 77 => ⟨S1x1x1x2048, .f32⟩
  | 78 => ⟨S16x32x64x2048, .f32⟩
  | 79 => ⟨S16x32x64x2048, .f32⟩
  | 80 => ⟨S16x32x64x2048, .f32⟩
  | 81 => ⟨S16x32x64x2048, .f32⟩
  | 82 => ⟨S1x1x2048, .f32⟩
  | 83 => ⟨S2048, .f32⟩
  | 84 => ⟨S1x1x1x2048, .f32⟩
  | 85 => ⟨S16x32x64x2048, .f32⟩
  | 86 => ⟨S16x32x64x2048, .f32⟩
  | 87 => ⟨S16x32x64x2048, .f32⟩
  | 88 => ⟨S16x32x64x2048, .f32⟩
  | 89 => ⟨S1x1x2048, .f32⟩
  | 90 => ⟨S2048, .f32⟩
  | 91 => ⟨S1x1x1x2048, .f32⟩
  | 92 => ⟨S16x32x64x2048, .f32⟩
  | 93 => ⟨S16x32x64x2048, .f32⟩
  | 94 => ⟨S16x32x64x2048, .f32⟩
  | 95 => ⟨S16x32x64x2048, .f32⟩
  | 96 => ⟨S1x1x2048, .f32⟩
  | 97 => ⟨S2048, .f32⟩
  | 98 => ⟨S1x1x1x2048, .f32⟩
  | 99 => ⟨S16x32x64x2048, .f32⟩
  | 100 => ⟨S16x32x64x2048, .f32⟩
  | 101 => ⟨S16x32x64x2048, .f32⟩
  | 102 => ⟨S16x32x64x2048, .f32⟩
  | 103 => ⟨S1x1x2048, .f32⟩
  | 104 => ⟨S2048, .f32⟩
  | 105 => ⟨S1x1x1x2048, .f32⟩
  | 106 => ⟨S16x32x64x2048, .f32⟩
  | 107 => ⟨S16x32x64x2048, .f32⟩
  | 108 => ⟨S16x32x64x2048, .f32⟩
  | 109 => ⟨S16x32x64x2048, .f32⟩
  | 110 => ⟨S1x1x2048, .f32⟩
  | 111 => ⟨S2048, .f32⟩
  | 112 => ⟨S1x1x1x2048, .f32⟩
  | 113 => ⟨S16x32x64x2048, .f32⟩
  | 114 => ⟨S16x32x64x2048, .f32⟩
  | 115 => ⟨S16x32x64x2048, .f32⟩
  | 116 => ⟨S16x32x64x2048, .f32⟩
  | 117 => ⟨S1x1x2048, .f32⟩
  | 118 => ⟨S2048, .f32⟩
  | 119 => ⟨S1x1x1x2048, .f32⟩
  | 120 => ⟨S16x32x64x2048, .f32⟩
  | 121 => ⟨S16x32x64x2048, .f32⟩
  | 122 => ⟨S16x32x64x2048, .f32⟩
  | 123 => ⟨S16x32x64x2048, .f32⟩
  | 124 => ⟨S1x1x2048, .f32⟩
  | 125 => ⟨S2048, .f32⟩
  | 126 => ⟨S1x1x1x2048, .f32⟩
  | 127 => ⟨S16x32x64x2048, .f32⟩
  | _ => ⟨S16x2048x2048, .bf16⟩

abbrev hbmTy0_1 (i : Nat) : BufTy := match i % 128 with
  | 0 => ⟨S16x32x64x2048, .f32⟩
  | 1 => ⟨S16x32x64x2048, .f32⟩
  | 2 => ⟨S16x32x64x2048, .f32⟩
  | 3 => ⟨S1x1x2048, .f32⟩
  | 4 => ⟨S2048, .f32⟩
  | 5 => ⟨S1x1x1x2048, .f32⟩
  | 6 => ⟨S16x32x64x2048, .f32⟩
  | 7 => ⟨S16x32x64x2048, .f32⟩
  | 8 => ⟨S16x32x64x2048, .f32⟩
  | 9 => ⟨S16x32x64x2048, .f32⟩
  | 10 => ⟨S1x1x2048, .f32⟩
  | 11 => ⟨S2048, .f32⟩
  | 12 => ⟨S1x1x1x2048, .f32⟩
  | 13 => ⟨S16x32x64x2048, .f32⟩
  | 14 => ⟨S16x32x64x2048, .f32⟩
  | 15 => ⟨S16x32x64x2048, .f32⟩
  | 16 => ⟨S16x32x64x2048, .f32⟩
  | 17 => ⟨S1x1x2048, .f32⟩
  | 18 => ⟨S2048, .f32⟩
  | 19 => ⟨S1x1x1x2048, .f32⟩
  | 20 => ⟨S16x32x64x2048, .f32⟩
  | 21 => ⟨S16x32x64x2048, .f32⟩
  | 22 => ⟨S16x32x64x2048, .f32⟩
  | 23 => ⟨S16x32x64x2048, .f32⟩
  | 24 => ⟨S1x1x2048, .f32⟩
  | 25 => ⟨S2048, .f32⟩
  | 26 => ⟨S1x1x1x2048, .f32⟩
  | 27 => ⟨S16x32x64x2048, .f32⟩
  | 28 => ⟨S16x32x64x2048, .f32⟩
  | 29 => ⟨S16x32x64x2048, .f32⟩
  | 30 => ⟨S16x32x64x2048, .f32⟩
  | 31 => ⟨S1x1x2048, .f32⟩
  | 32 => ⟨S2048, .f32⟩
  | 33 => ⟨S1x1x1x2048, .f32⟩
  | 34 => ⟨S16x32x64x2048, .f32⟩
  | 35 => ⟨S16x32x64x2048, .f32⟩
  | 36 => ⟨S16x32x64x2048, .f32⟩
  | 37 => ⟨S16x32x64x2048, .f32⟩
  | 38 => ⟨S1x1x2048, .f32⟩
  | 39 => ⟨S2048, .f32⟩
  | 40 => ⟨S1x1x1x2048, .f32⟩
  | 41 => ⟨S16x32x64x2048, .f32⟩
  | 42 => ⟨S16x32x64x2048, .f32⟩
  | 43 => ⟨S16x32x64x2048, .f32⟩
  | 44 => ⟨S16x32x64x2048, .f32⟩
  | 45 => ⟨S1x1x2048, .f32⟩
  | 46 => ⟨S2048, .f32⟩
  | 47 => ⟨S1x1x1x2048, .f32⟩
  | 48 => ⟨S16x32x64x2048, .f32⟩
  | 49 => ⟨S16x32x64x2048, .f32⟩
  | 50 => ⟨S16x32x64x2048, .f32⟩
  | 51 => ⟨S16x32x64x2048, .f32⟩
  | 52 => ⟨S1x1x2048, .f32⟩
  | 53 => ⟨S2048, .f32⟩
  | 54 => ⟨S1x1x1x2048, .f32⟩
  | 55 => ⟨S16x32x64x2048, .f32⟩
  | 56 => ⟨S16x32x64x2048, .f32⟩
  | 57 => ⟨S16x32x64x2048, .f32⟩
  | 58 => ⟨S16x32x64x2048, .f32⟩
  | 59 => ⟨S1x1x2048, .f32⟩
  | 60 => ⟨S2048, .f32⟩
  | 61 => ⟨S1x1x1x2048, .f32⟩
  | 62 => ⟨S16x32x64x2048, .f32⟩
  | 63 => ⟨S16x32x64x2048, .f32⟩
  | 64 => ⟨S16x32x64x2048, .f32⟩
  | 65 => ⟨S16x32x64x2048, .f32⟩
  | 66 => ⟨S1x1x2048, .f32⟩
  | 67 => ⟨S2048, .f32⟩
  | 68 => ⟨S1x1x1x2048, .f32⟩
  | 69 => ⟨S16x32x64x2048, .f32⟩
  | 70 => ⟨S16x32x64x2048, .f32⟩
  | 71 => ⟨S16x32x64x2048, .f32⟩
  | 72 => ⟨S16x32x64x2048, .f32⟩
  | 73 => ⟨S1x1x2048, .f32⟩
  | 74 => ⟨S2048, .f32⟩
  | 75 => ⟨S1x1x1x2048, .f32⟩
  | 76 => ⟨S16x32x64x2048, .f32⟩
  | 77 => ⟨S16x32x64x2048, .f32⟩
  | 78 => ⟨S16x32x64x2048, .f32⟩
  | 79 => ⟨S16x32x64x2048, .f32⟩
  | 80 => ⟨S1x1x2048, .f32⟩
  | 81 => ⟨S2048, .f32⟩
  | 82 => ⟨S1x1x1x2048, .f32⟩
  | 83 => ⟨S16x32x64x2048, .f32⟩
  | 84 => ⟨S16x32x64x2048, .f32⟩
  | 85 => ⟨S16x32x64x2048, .f32⟩
  | 86 => ⟨S16x32x64x2048, .f32⟩
  | 87 => ⟨S1x1x2048, .f32⟩
  | 88 => ⟨S2048, .f32⟩
  | 89 => ⟨S1x1x1x2048, .f32⟩
  | 90 => ⟨S16x32x64x2048, .f32⟩
  | 91 => ⟨S16x32x64x2048, .f32⟩
  | 92 => ⟨S16x32x64x2048, .f32⟩
  | 93 => ⟨S16x32x64x2048, .f32⟩
  | 94 => ⟨S1x1x2048, .f32⟩
  | 95 => ⟨S2048, .f32⟩
  | 96 => ⟨S1x1x1x2048, .f32⟩
  | 97 => ⟨S16x32x64x2048, .f32⟩
  | 98 => ⟨S16x32x64x2048, .f32⟩
  | 99 => ⟨S16x32x64x2048, .f32⟩
  | 100 => ⟨S16x32x64x2048, .f32⟩
  | 101 => ⟨S1x1x2048, .f32⟩
  | 102 => ⟨S2048, .f32⟩
  | 103 => ⟨S1x1x1x2048, .f32⟩
  | 104 => ⟨S16x32x64x2048, .f32⟩
  | 105 => ⟨S16x32x64x2048, .f32⟩
  | 106 => ⟨S16x32x64x2048, .f32⟩
  | 107 => ⟨S1x2048, .f32⟩
  | 108 => ⟨S2048, .f32⟩
  | 109 => ⟨S1x1x1x2048, .f32⟩
  | 110 => ⟨S16x32x64x2048, .f32⟩
  | 111 => ⟨S16x32x64x2048, .f32⟩
  | 112 => ⟨S16x2048x2048, .f32⟩
  | 113 => ⟨S1x2048, .f32⟩
  | 114 => ⟨S2048, .f32⟩
  | 115 => ⟨S1x2048, .f32⟩
  | 116 => ⟨S2048, .f32⟩
  | 117 => ⟨S_, .f32⟩
  | 118 => ⟨S16x2048, .f32⟩
  | 119 => ⟨S16x2048x1, .f32⟩
  | 120 => ⟨S_, .f32⟩
  | 121 => ⟨S16x2048x1, .f32⟩
  | 122 => ⟨S16x2048x1, .f32⟩
  | 123 => ⟨S16x2048x2048, .f32⟩
  | 124 => ⟨S16x2048x2048, .f32⟩
  | 125 => ⟨S16x2048x2048, .f32⟩
  | 126 => ⟨S_, .f32⟩
  | 127 => ⟨S16x2048, .f32⟩
  | _ => ⟨S16x2048x2048, .bf16⟩

abbrev hbmTy0_2 (i : Nat) : BufTy := match i % 128 with
  | 0 => ⟨S16x2048x1, .f32⟩
  | 1 => ⟨S_, .f32⟩
  | 2 => ⟨S16x2048x1, .f32⟩
  | 3 => ⟨S16x2048x1, .f32⟩
  | 4 => ⟨S_, .f32⟩
  | 5 => ⟨S16x2048x1, .f32⟩
  | 6 => ⟨S16x2048x1, .f32⟩
  | 7 => ⟨S16x2048x1, .f32⟩
  | 8 => ⟨S16x2048x2048, .f32⟩
  | 9 => ⟨S16x2048x2048, .f32⟩
  | 10 => ⟨S1x1x2048, .f32⟩
  | 11 => ⟨S16x2048x2048, .f32⟩
  | 12 => ⟨S16x2048x2048, .f32⟩
  | 13 => ⟨S1x1x2048, .f32⟩
  | 14 => ⟨S16x2048x2048, .f32⟩
  | 15 => ⟨S16x2048x2048, .f32⟩
  | 16 => ⟨S16x2048x2048, .f32⟩
  | 17 => ⟨S16x2048x2048, .f32⟩
  | 18 => ⟨S_, .f32⟩
  | 19 => ⟨S16x2048x2048, .f32⟩
  | 20 => ⟨S16x2048x2048, .f32⟩
  | 21 => ⟨S_, .f32⟩
  | 22 => ⟨S16x2048x2048, .f32⟩
  | 23 => ⟨S16x2048x2048, .f32⟩
  | 24 => ⟨S16x2048x2048, .f32⟩
  | 25 => ⟨S16x2048x2048, .f32⟩
  | 26 => ⟨S16x2048x2048, .f32⟩
  | 27 => ⟨S1x2048x1024, .f32⟩
  | 28 => ⟨S2048x1024, .f32⟩
  | 29 => ⟨S16x2048x1024, .f32⟩
  | 30 => ⟨S1x1024, .f32⟩
  | 31 => ⟨S1024, .f32⟩
  | 32 => ⟨S1x1x1024, .f32⟩
  | 33 => ⟨S16x2048x1024, .f32⟩
  | 34 => ⟨S16x2048x1024, .f32⟩
  | 35 => ⟨S16x1x1024, .f32⟩
  | 36 => ⟨S16x1024, .f32⟩
  | 37 => ⟨S16x1x1024, .f32⟩
  | 38 => ⟨S16x2048x1024, .f32⟩
  | 39 => ⟨S16x2048x1024, .f32⟩
  | 40 => ⟨S16x2048x1024, .f32⟩
  | 41 => ⟨S16x2048x1024, .f32⟩
  | 42 => ⟨S_, .f32⟩
  | 43 => ⟨S16x2048, .f32⟩
  | 44 => ⟨S16x2048x1, .f32⟩
  | 45 => ⟨S_, .f32⟩
  | 46 => ⟨S16x2048x1, .f32⟩
  | 47 => ⟨S16x2048x1, .f32⟩
  | 48 => ⟨S_, .f32⟩
  | 49 => ⟨S16x2048x1, .f32⟩
  | 50 => ⟨S16x2048x1, .f32⟩
  | 51 => ⟨S16x2048x1, .f32⟩
  | 52 => ⟨S16x2048x1024, .f32⟩
  | 53 => ⟨S16x2048x1024, .f32⟩
  | 54 => ⟨S1x1x1024, .f32⟩
  | 55 => ⟨S16x2048x1024, .f32⟩
  | 56 => ⟨S16x2048x1024, .f32⟩
  | 57 => ⟨S16x32x64x1024, .f32⟩
  | _ => ⟨S16x2048x2048, .bf16⟩

abbrev hbmTy (i : Nat) : BufTy := match i / 128 with
  | 0 => hbmTy0_0 i
  | 1 => hbmTy0_1 i
  | 2 => hbmTy0_2 i
  | _ => ⟨S16x2048x2048, .bf16⟩

abbrev bufTy : (tb : Table) → Fin (tcTables nBuf tb) → BufTy
  | .hbm, ⟨i, _⟩ => hbmTy i
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_v228 : Ref sig .tc := ⟨.hbm, 242, rfl⟩
abbrev main_v229 : Ref sig .tc := ⟨.hbm, 243, rfl⟩
abbrev main_v230 : Ref sig .tc := ⟨.hbm, 244, rfl⟩
abbrev main_cst_0 : Ref sig .tc := ⟨.hbm, 245, rfl⟩
abbrev main_v231 : Ref sig .tc := ⟨.hbm, 246, rfl⟩
abbrev main_v232 : Ref sig .tc := ⟨.hbm, 247, rfl⟩
abbrev main_cst_1 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_cst_2 : Ref sig .tc := ⟨.hbm, 254, rfl⟩
abbrev main_v238 : Ref sig .tc := ⟨.hbm, 255, rfl⟩
abbrev main_v239 : Ref sig .tc := ⟨.hbm, 256, rfl⟩
abbrev main_cst_3 : Ref sig .tc := ⟨.hbm, 257, rfl⟩
abbrev main_v240 : Ref sig .tc := ⟨.hbm, 258, rfl⟩
abbrev main_v241 : Ref sig .tc := ⟨.hbm, 259, rfl⟩
abbrev main_cst_4 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_call1_v0 : Ref sig .tc := ⟨.hbm, 272, rfl⟩
abbrev main_call1_v1 : Ref sig .tc := ⟨.hbm, 273, rfl⟩
abbrev main_call1_cst : Ref sig .tc := ⟨.hbm, 274, rfl⟩
abbrev main_call1_v2 : Ref sig .tc := ⟨.hbm, 275, rfl⟩
abbrev main_call1_v3 : Ref sig .tc := ⟨.hbm, 276, rfl⟩
abbrev main_call1_cst_0 : Ref sig .tc := ⟨.hbm, 277, rfl⟩
abbrev main_call1_v4 : Ref sig .tc := ⟨.hbm, 278, rfl⟩
abbrev main_call1_v5 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_v257 : Ref sig .tc := ⟨.hbm, 284, rfl⟩
abbrev main_v258 : Ref sig .tc := ⟨.hbm, 285, rfl⟩
abbrev main_v259 : Ref sig .tc := ⟨.hbm, 286, rfl⟩
abbrev main_v260 : Ref sig .tc := ⟨.hbm, 287, rfl⟩
abbrev main_v261 : Ref sig .tc := ⟨.hbm, 288, rfl⟩
abbrev main_v262 : Ref sig .tc := ⟨.hbm, 289, rfl⟩
abbrev main_v263 : Ref sig .tc := ⟨.hbm, 290, rfl⟩
abbrev main_v264 : Ref sig .tc := ⟨.hbm, 291, rfl⟩
abbrev main_v265 : Ref sig .tc := ⟨.hbm, 292, rfl⟩
abbrev main_v266 : Ref sig .tc := ⟨.hbm, 293, rfl⟩
abbrev main_v267 : Ref sig .tc := ⟨.hbm, 294, rfl⟩
abbrev main_v268 : Ref sig .tc := ⟨.hbm, 295, rfl⟩
abbrev main_v269 : Ref sig .tc := ⟨.hbm, 296, rfl⟩
abbrev main_v270 : Ref sig .tc := ⟨.hbm, 297, rfl⟩
abbrev main_cst_5 : Ref sig .tc := ⟨.hbm, 298, rfl⟩
abbrev main_v271 : Ref sig .tc := ⟨.hbm, 299, rfl⟩
abbrev main_v272 : Ref sig .tc := ⟨.hbm, 300, rfl⟩
abbrev main_cst_6 : Ref sig .tc := ⟨.hbm, 301, rfl⟩
abbrev main_v273 : Ref sig .tc := ⟨.hbm, 302, rfl⟩
abbrev main_v274 : Ref sig .tc := ⟨.hbm, 303, rfl⟩
abbrev main_cst_7 : Ref sig .tc := ⟨.hbm, 304, rfl⟩
abbrev main_v275 : Ref sig .tc := ⟨.hbm, 305, rfl⟩
abbrev main_v276 : Ref sig .tc := ⟨.hbm, 306, rfl⟩
abbrev main_v277 : Ref sig .tc := ⟨.hbm, 307, rfl⟩
abbrev main_v278 : Ref sig .tc := ⟨.hbm, 308, rfl⟩
abbrev main_v279 : Ref sig .tc := ⟨.hbm, 309, rfl⟩
abbrev main_v280 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩

abbrev nD : Nat := 1
abbrev τ : Topo := Topo.v7x

variable {F : FTy → Type} [FloatOps F]
-- ==== Proof.ConvProjRun.lean ====
module

public import proofs.«01_k».proof.Proof.Gen.ConvProjIdeal.Frame
public import proofs.«01_k».proof.Proof.Gen.ConvProjIdeal.Skeleton
public import Idealize.ShloMosaic.Lib.WritesUnit
public import Idealize.ShloMosaic.Lib.Pipeline.ValueKit

/-! # The body of the convolution projection, run once

The kernel normalises and modulates the 2304 token rows of a batch once, at the first of the eight column
blocks, into a scratch buffer; every column block then multiplies the scratch rows, 256 at a time, with its
blocks of the weights. The two runs below name what the scratch and the two outputs hold afterwards. -/

@[expose] public section

set_option maxRecDepth 16384
set_option maxHeartbeats 4000000

noncomputable section

namespace Cert.ConvProjValue

open Cert.ConvProjIdeal Cert.ConvProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Rows `256 r … 256 r + 255` of a batch's token block. -/
def xRows (x : Vec F S1x2304x1024 .f32) (r : Fin 9) : Vec F S1x256x1024 .f32 := fun z =>
  x (ix3 0 ⟨256 * r.val + (z 1).val, by have h : (z 1).val < 256 := (z 1).isLt; omega⟩ (z 2))

/-- The normalised and modulated rows `256 r … 256 r + 255`. -/
def hRows (x : Vec F S1x2304x1024 .f32) (md : Vec F S1x3x1024 .f32) (g : Vec F S1x1024 .f32) (r : Fin 9) : Vec F S256x1024 .bf16 :=
  k0_pay4 (k0_pay3 g) (fun z => md (ix3 0 1 (z 2))) (xRows x r) (fun z => md (ix3 0 0 (z 2)))

/-- All normalised and modulated rows: the first 256 by the context's modulation, the others by the latent's. -/
def hAll (x : Vec F S1x2304x1024 .f32) (mc ml : Vec F S1x3x1024 .f32) (g : Vec F S1x1024 .f32) : Vec F S2304x1024 .bf16 := fun y =>
  hRows x (if (y 0).val < 256 then mc else ml) g ⟨(y 0).val / 256, by have h : (y 0).val < 2304 := (y 0).isLt; omega⟩
    (ix2 ⟨(y 0).val % 256, Nat.mod_lt _ (by decide)⟩ (y 1))

/-- Rows `256 r … 256 r + 255` of the scratch. -/
def dRows (d : Vec F S2304x1024 .bf16) (r : Fin 9) : Vec F S256x1024 .bf16 := fun z =>
  d (ix2 ⟨256 * r.val + (z 0).val, by have h : (z 0).val < 256 := (z 0).isLt; omega⟩ (z 1))

/-- The context rows are loaded from row 0 … -/
theorem off1_eq : k0_off1 = ![0, 256 * (0 : Fin 9).val, 0] := by decide +kernel

/-- … and stored from row 0. -/
theorem off2_eq : k0_off2 = ![0, 0] := by decide +kernel

/-- Trip `k` loads rows from `256 k + 256` of the token block. -/
theorem off3_eq : ∀ k : Fin k0_t1_loop.trips, k0_off3 k = ![0, 256 * k.val + 256, 0] := by decide +kernel

/-- Trip `k` stores rows from `256 k + 256` of the scratch. -/
theorem off4_eq : ∀ k : Fin k0_t1_loop.trips, k0_off4 k = ![256 * k.val + 256, 0] := by decide +kernel

variable (c : Dev nD) (i : grid0.Coords) (arg2 : Memref sig .tc .vmem S1x2304x1024 .f32) (harg2 : arg2.IsWhole) (arg3 : Memref sig .tc .vmem S1x3x1024 .f32) (harg3 : arg3.IsWhole) (arg4 : Memref sig .tc .vmem S1x3x1024 .f32) (harg4 : arg4.IsWhole) (arg5 : Memref sig .tc .vmem S1x1024 .f32) (harg5 : arg5.IsWhole) (arg6 : Memref sig .tc .vmem S1x1024x256 .bf16) (harg6 : arg6.IsWhole) (arg7 : Memref sig .tc .vmem S1x1024x256 .bf16) (harg7 : arg7.IsWhole) (arg8 : Memref sig .tc .vmem S1x1024x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x2304x256 .bf16) (harg12 : arg12.IsWhole) (arg13 : Memref sig .tc .vmem S1x2304x256 .bf16) (harg13 : arg13.IsWhole) (arg14 : Memref sig .tc .vmem S2304x1024 .bf16) (harg14 : arg14.IsWhole)

/-- What the scratch holds before trip `k` of the latent rows' loop: the rows of the trips before, and below
    row 256 what it held at the loop's entry. -/
def Filled (h1 : k0_cond1 i = 1#1) (v448 : FVec F S1x1024 .f32) (v449 : Vec F S1x1x1024 .f32) (X2 : BufTy.Contents (Elt F) arg2.view.ty)
    (X4 : BufTy.Contents (Elt F) arg4.view.ty) (G f : BufTy.Contents (Elt F) arg14.view.ty) (k : ℕ) : Prop :=
  (∀ (k' : Fin k0_t1_loop.trips), k'.val < k → ∀ (y : S2304x1024.Idx) (z : S256x1024.Idx), (y 0).val = 256 * k'.val + 256 + (z 0).val → (y 1).val = (z 1).val →
    arg14.view.read (Elt F) f y = k0_pay4 v448 v449
      (arg2.view.readAt (Elt F) (Rect.unit (s := S1x2304x1024) (k0_off3 k') S1x256x1024.size (k0_off3_inb i k' h1)).toLoadRect X2)
      (arg4.view.readAt (Elt F) (Rect.unit (s := S1x3x1024) ![0, 0, 0] S1x1x1024.size inb_S1x3x1024_S1x1x1024_0_0_0).toLoadRect X4) z)
  ∧ ∀ y : S2304x1024.Idx, (y 0).val < 256 → arg14.view.read (Elt F) f y = arg14.view.read (Elt F) G y

/-- Before trip `k` of the latent rows' loop: the token block and the modulation as they were, the scratch filled so far. -/
abbrev latentInv (h1 : k0_cond1 i = 1#1) (v448 : FVec F S1x1024 .f32) (v449 : Vec F S1x1x1024 .f32)
    (X2 : BufTy.Contents (Elt F) arg2.view.ty) (X4 : BufTy.Contents (Elt F) arg4.view.ty) (G : BufTy.Contents (Elt F) arg14.view.ty) (k : ℕ) (_ : Unit) : sProp 𝕄 :=
  iprop((arg2.view.loc (c : Thread nD τ) ↦[arg2.view.set]{fullShare} X2) ∗ (arg4.view.loc (c : Thread nD τ) ↦[arg4.view.set]{fullShare} X4)
    ∗ (∃ f, (arg14.view.loc (c : Thread nD τ) ↦[arg14.view.set]{fullShare} f) ∗ ⌜Filled i arg2 arg4 arg14 h1 v448 v449 X2 X4 G f k⌝))

/-- A trip of the latent rows' loop stores its 256 rows. -/
theorem latent_step (E : Set ℕ) (h1 : k0_cond1 i = 1#1) (v448 : FVec F S1x1024 .f32) (v449 : Vec F S1x1x1024 .f32)
    (X2 : BufTy.Contents (Elt F) arg2.view.ty) (X4 : BufTy.Contents (Elt F) arg4.view.ty) (G : BufTy.Contents (Elt F) arg14.view.ty)
    (k : Fin k0_t1_loop.trips) (acc : Unit) :
    latentInv c i arg2 arg4 arg14 h1 v448 v449 X2 X4 G k acc
      ⊢ wp Idealize.ShloMosaic.frame (wpE (defs₀ (F := F)) Variants.none (c : Thread nD τ) none) E
        (k0_t1_body (F := F) i arg2 harg2 arg3 harg3 arg4 harg4 arg5 harg5 arg6 harg6 arg7 harg7 arg8 harg8 arg9 harg9 arg10 harg10 arg11 harg11 arg12 harg12 arg13 harg13 arg14 harg14 h1 v448 v449 k acc)
        (latentInv c i arg2 arg4 arg14 h1 v448 v449 X2 X4 G (k.val + 1)) := by
  have hk : k.val < 8 := Nat.lt_of_lt_of_le k.isLt k0_t1_abs.2.1
  unfold k0_t1_body
  iintro ⟨H2, H4, ⟨%f, HS, %hf⟩⟩
  sl_exec
  sl_step
  isplitl [H2]; · iexact H2
  isplitl [H4]; · iexact H4
  iexists _; isplitl [HS]; · iexact HS
  ipureintro
  refine ⟨fun k' hk' y z h0 h1' => ?_, fun y hy => ?_⟩
  · by_cases hkk : k' = k
    · subst hkk
      exact View.read_writes_cons_rows_of_mem _ _ _ _ _ y z (off4_eq k') h0 h1'
    · have hlt : k'.val < k.val := by have : k'.val ≠ k.val := fun h => hkk (Fin.ext h); omega
      have hz : (z 0).val < 256 := (z 0).isLt
      rw [View.read_writes_cons_rows_of_not_mem _ _ _ _ _ y (off4_eq k) (rfl : _ = 256) (Or.inl (by omega))]
      exact hf.1 k' hlt y z h0 h1'
  · rw [View.read_writes_cons_rows_of_not_mem _ _ _ _ _ y (off4_eq k) (rfl : _ = 256) (Or.inl (by omega))]
    exact hf.2 y hy

/-- A loop by its invariant, in front of the rest of the program. -/
theorem loop_then {w : ℕ} {lb ub st : BitVec w} {hok : Scf.OK lb ub st} (c : Dev nD) (E : Set ℕ)
    {body : Fin (Scf.trips lb ub st) → Unit → Prog _ Unit} (inv : ℕ → Unit → sProp 𝕄)
    (step : ∀ (k : Fin (Scf.trips lb ub st)) (acc : Unit), inv k acc ⊢ wp Idealize.ShloMosaic.frame (wpE (defs₀ (F := F)) Variants.none (c : Thread nD τ) none) E (body k acc) (inv (k.val + 1)))
    {β : Type} {kk : Unit → Prog _ β} {Q : β → sProp 𝕄} :
    iprop(inv 0 () ∗ (∀ acc, inv (Scf.trips lb ub st) acc -∗ wp Idealize.ShloMosaic.frame (wpE (defs₀ (F := F)) Variants.none (c : Thread nD τ) none) E (kk acc) Q))
      ⊢ wp Idealize.ShloMosaic.frame (wpE (defs₀ (F := F)) Variants.none (c : Thread nD τ) none) E (Scf.for lb ub st hok () body >>= kk) Q :=
  BI.wand_elim (Scf.wp_for_bind Idealize.ShloMosaic.frame _ E lb ub st hok () body inv step)

/-- Column block `0 …` of the gated output: rows `256 r …` from those rows of the scratch. -/
def outA (d : Vec F S2304x1024 .bf16) (w0 w1 : Vec F S1x1024x256 .bf16) (b0 b1 : Vec F S1x256 .f32) : Vec F S1x2304x256 .bf16 := fun y =>
  k0_pay22 (k0_pay5 b0) (k0_pay6 b1) (dRows d ⟨(y 1).val / 256, by have h : (y 1).val < 2304 := (y 1).isLt; omega⟩) w0 w1
    (ix3 0 ⟨(y 1).val % 256, Nat.mod_lt _ (by decide)⟩ (y 2))

/-- The gate. -/
def outB (d : Vec F S2304x1024 .bf16) (w : Vec F S1x1024x256 .bf16) (b : Vec F S1x256 .f32) : Vec F S1x2304x256 .bf16 := fun y =>
  k0_pay23 (k0_pay21 (k0_pay7 b) (dRows d ⟨(y 1).val / 256, by have h : (y 1).val < 2304 := (y 1).isLt; omega⟩) w)
    (ix3 0 ⟨(y 1).val % 256, Nat.mod_lt _ (by decide)⟩ (y 2))

omit [FloatOps F] in
/-- An output stored in nine row blocks reads block by block. -/
theorem tiles_read {sp : Space} (v : View sig .tc sp S1x2304x256 .bf16) (f : BufTy.Contents (Elt F) v.ty) (P : Fin 9 → Vec F S1x256x256 .bf16)
    (h : ∀ (r : Fin 9) (a : Fin 3), (![0, 256 * r.val, 0] : Fin 3 → ℕ) a + S1x256x256.size a ≤ S1x2304x256.size a) :
    v.read (Elt F) (v.writes (Elt F) f [⟨Rect.unit (s := S1x2304x256) ![0, 2048, 0] S1x256x256.size (h 8), P 8⟩,
      ⟨Rect.unit (s := S1x2304x256) ![0, 1792, 0] S1x256x256.size (h 7), P 7⟩, ⟨Rect.unit (s := S1x2304x256) ![0, 1536, 0] S1x256x256.size (h 6), P 6⟩,
      ⟨Rect.unit (s := S1x2304x256) ![0, 1280, 0] S1x256x256.size (h 5), P 5⟩, ⟨Rect.unit (s := S1x2304x256) ![0, 1024, 0] S1x256x256.size (h 4), P 4⟩,
      ⟨Rect.unit (s := S1x2304x256) ![0, 768, 0] S1x256x256.size (h 3), P 3⟩, ⟨Rect.unit (s := S1x2304x256) ![0, 512, 0] S1x256x256.size (h 2), P 2⟩,
      ⟨Rect.unit (s := S1x2304x256) ![0, 256, 0] S1x256x256.size (h 1), P 1⟩, ⟨Rect.unit (s := S1x2304x256) ![0, 0, 0] S1x256x256.size (h 0), P 0⟩])
    = fun y => P ⟨(y 1).val / 256, by have h : (y 1).val < 2304 := (y 1).isLt; omega⟩ (ix3 0 ⟨(y 1).val % 256, Nat.mod_lt _ (by decide)⟩ (y 2)) := by
  funext y
  have hy : (y 1).val < 2304 := (y 1).isLt
  have hy0 : (y 0).val = 0 := Nat.lt_one_iff.mp (y 0).isLt
  refine View.read_tilePieces v f S1x256x256.size (fun r : Fin 9 => ![0, 256 * r.val, 0]) h P 9 le_rfl y ⟨(y 1).val / 256, by omega⟩ (by dsimp only; omega)
    (ix3 0 ⟨(y 1).val % 256, Nat.mod_lt _ (by decide)⟩ (y 2)) (fun a => ?_) 1 (fun r hr => ?_)
  · fin_cases a
    · exact hy0
    · exact (Nat.div_add_mod (y 1).val 256).symm
    · exact (Nat.zero_add _).symm
  · have : r.val ≠ (y 1).val / 256 := fun e => hr (Fin.ext e)
    show (y 1).val < 256 * r.val ∨ 256 * r.val + 256 ≤ (y 1).val
    omega

omit [FloatOps F] in
/-- A load of 256 scratch rows reads those rows. -/
theorem rows_load (d : Vec F S2304x1024 .bf16) (r : Fin 9) (h : ∀ a : Fin 2, (![256 * r.val, 0] : Fin 2 → ℕ) a + S256x1024.size a ≤ S2304x1024.size a) :
    arg14.view.readAt (Elt F) (Rect.unit (s := S2304x1024) ![256 * r.val, 0] S256x1024.size h).toLoadRect (harg14.unread d) = dRows d r := by
  rw [View.readAt_eq_ld, harg14.read_unread]
  funext z
  refine (View.ld_unit_apply_of d _ _ h z (ix2 ⟨256 * r.val + (z 0).val, by have h : (z 0).val < 256 := (z 0).isLt; omega⟩ (z 1)) fun a => ?_).trans rfl
  fin_cases a
  · rfl
  · exact (Nat.zero_add _).symm

omit [FloatOps F] in
theorem full_load3 {sp : Space} (m : Memref sig .tc sp S1x1024x256 .bf16) (hm : m.IsWhole) (x : Vec F S1x1024x256 .bf16) :
    m.view.readAt (Elt F) (Rect.unit (s := S1x1024x256) ![0, 0, 0] S1x1024x256.size inb_S1x1024x256_S1x1024x256_0_0_0).toLoadRect (hm.unread x) = x := by
  rw [View.readAt_eq_ld, hm.read_unread]
  funext z
  refine View.ld_unit_apply_of x _ _ _ z z fun a => ?_
  fin_cases a <;> exact (Nat.zero_add _).symm

omit [FloatOps F] in
theorem full_load2 {sp : Space} (m : Memref sig .tc sp S1x256 .f32) (hm : m.IsWhole) (x : Vec F S1x256 .f32) :
    m.view.readAt (Elt F) (Rect.unit (s := S1x256) ![0, 0] S1x256.size inb_S1x256_S1x256_0_0).toLoadRect (hm.unread x) = x := by
  rw [View.readAt_eq_ld, hm.read_unread]
  funext z
  refine View.ld_unit_apply_of x _ _ _ z z fun a => ?_
  fin_cases a <;> exact (Nat.zero_add _).symm

omit [FloatOps F] in
theorem gain_load {sp : Space} (m : Memref sig .tc sp S1x1024 .f32) (hm : m.IsWhole) (x : Vec F S1x1024 .f32) :
    m.view.readAt (Elt F) (Rect.unit (s := S1x1024) ![0, 0] S1x1024.size inb_S1x1024_S1x1024_0_0).toLoadRect (hm.unread x) = x := by
  rw [View.readAt_eq_ld, hm.read_unread]
  funext z
  refine View.ld_unit_apply_of x _ _ _ z z fun a => ?_
  fin_cases a <;> exact (Nat.zero_add _).symm

omit [FloatOps F] in
theorem mod_load {sp : Space} (m : Memref sig .tc sp S1x3x1024 .f32) (hm : m.IsWhole) (x : Vec F S1x3x1024 .f32) (r : Fin 3)
    (h : ∀ a : Fin 3, (![0, r.val, 0] : Fin 3 → ℕ) a + S1x1x1024.size a ≤ S1x3x1024.size a) :
    m.view.readAt (Elt F) (Rect.unit (s := S1x3x1024) ![0, r.val, 0] S1x1x1024.size h).toLoadRect (hm.unread x) = fun z => x (ix3 0 r (z 2)) := by
  rw [View.readAt_eq_ld, hm.read_unread]
  funext z
  have h0 : (z 0).val = 0 := Nat.lt_one_iff.mp (z 0).isLt
  have h1 : (z 1).val = 0 := Nat.lt_one_iff.mp (z 1).isLt
  refine View.ld_unit_apply_of x _ _ _ z (ix3 0 r (z 2)) fun a => ?_
  fin_cases a
  · show 0 = 0 + (z 0).val
    omega
  · show r.val = r.val + (z 1).val
    omega
  · exact (Nat.zero_add _).symm

omit [FloatOps F] in
theorem tok_load (x : Vec F S1x2304x1024 .f32) (r : Fin 9) (off : Fin 3 → ℕ) (ho : off = ![0, 256 * r.val, 0])
    (h : ∀ a : Fin 3, off a + S1x256x1024.size a ≤ S1x2304x1024.size a) :
    arg2.view.readAt (Elt F) (Rect.unit (s := S1x2304x1024) off S1x256x1024.size h).toLoadRect (harg2.unread x) = xRows x r := by
  subst ho
  rw [View.readAt_eq_ld, harg2.read_unread]
  funext z
  have h0 : (z 0).val = 0 := Nat.lt_one_iff.mp (z 0).isLt
  refine (View.ld_unit_apply_of x _ _ h z (ix3 0 ⟨256 * r.val + (z 1).val, by have h : (z 1).val < 256 := (z 1).isLt; omega⟩ (z 2)) fun a => ?_).trans rfl
  fin_cases a
  · show 0 = 0 + (z 0).val
    omega
  · rfl
  · exact (Nat.zero_add _).symm

/-- One block of 256 rows, normalised and modulated, from the loads that make it. -/
theorem latent_rows {sp : Space} (m : Memref sig .tc sp S1x3x1024 .f32) (hm : m.IsWhole) (x : Vec F S1x2304x1024 .f32) (md : Vec F S1x3x1024 .f32) (g : Vec F S1x1024 .f32) (r : Fin 9)
    (off : Fin 3 → ℕ) (ho : off = ![0, 256 * r.val, 0]) (h : ∀ a : Fin 3, off a + S1x256x1024.size a ≤ S1x2304x1024.size a) (z : S256x1024.Idx) :
    k0_pay4 (k0_pay3 (arg5.view.readAt (Elt F) (Rect.unit (s := S1x1024) ![0, 0] S1x1024.size inb_S1x1024_S1x1024_0_0).toLoadRect (harg5.unread g)))
      (m.view.readAt (Elt F) (Rect.unit (s := S1x3x1024) ![0, 1, 0] S1x1x1024.size inb_S1x3x1024_S1x1x1024_0_1_0).toLoadRect (hm.unread md))
      (arg2.view.readAt (Elt F) (Rect.unit (s := S1x2304x1024) off S1x256x1024.size h).toLoadRect (harg2.unread x))
      (m.view.readAt (Elt F) (Rect.unit (s := S1x3x1024) ![0, 0, 0] S1x1x1024.size inb_S1x3x1024_S1x1x1024_0_0_0).toLoadRect (hm.unread md)) z
    = hRows x md g r z := by
  rw [gain_load, tok_load arg2 harg2 x r off ho h]
  have e1 := mod_load m hm md 1 inb_S1x3x1024_S1x1x1024_0_1_0
  have e0 := mod_load m hm md 0 inb_S1x3x1024_S1x1x1024_0_0_0
  exact congrFun (congrArg₂ (fun a b => k0_pay4 (k0_pay3 g) a (xRows x r) b) e1 e0) z

omit [FloatOps F] in
theorem row_inb (r : Fin 9) (a : Fin 2) : (![256 * r.val, 0] : Fin 2 → ℕ) a + S256x1024.size a ≤ S2304x1024.size a := by
  revert r a; decide

omit [FloatOps F] in
theorem tile_inb (r : Fin 9) (a : Fin 3) : (![0, 256 * r.val, 0] : Fin 3 → ℕ) a + S1x256x256.size a ≤ S1x2304x256.size a := by
  revert r a; decide

/-- A row block of the gated output from the loads that make it … -/
abbrev loadsA (d : Vec F S2304x1024 .bf16) (x4 x5 : Vec F S1x1024x256 .bf16) (x7 x8 : Vec F S1x256 .f32) (r : Fin 9) : Vec F S1x256x256 .bf16 :=
  k0_pay22 (k0_pay5 (arg9.view.readAt (Elt F) (Rect.unit (s := S1x256) ![0, 0] S1x256.size inb_S1x256_S1x256_0_0).toLoadRect (harg9.unread x7))) (k0_pay6 (arg10.view.readAt (Elt F) (Rect.unit (s := S1x256) ![0, 0] S1x256.size inb_S1x256_S1x256_0_0).toLoadRect (harg10.unread x8)))
    (arg14.view.readAt (Elt F) (Rect.unit (s := S2304x1024) ![256 * r.val, 0] S256x1024.size (row_inb r)).toLoadRect (harg14.unread d)) (arg6.view.readAt (Elt F) (Rect.unit (s := S1x1024x256) ![0, 0, 0] S1x1024x256.size inb_S1x1024x256_S1x1024x256_0_0_0).toLoadRect (harg6.unread x4)) (arg7.view.readAt (Elt F) (Rect.unit (s := S1x1024x256) ![0, 0, 0] S1x1024x256.size inb_S1x1024x256_S1x1024x256_0_0_0).toLoadRect (harg7.unread x5))

/-- … and of the gate. -/
abbrev loadsB (d : Vec F S2304x1024 .bf16) (x6 : Vec F S1x1024x256 .bf16) (x9 : Vec F S1x256 .f32) (r : Fin 9) : Vec F S1x256x256 .bf16 :=
  k0_pay23 (k0_pay21 (k0_pay7 (arg11.view.readAt (Elt F) (Rect.unit (s := S1x256) ![0, 0] S1x256.size inb_S1x256_S1x256_0_0).toLoadRect (harg11.unread x9)))
    (arg14.view.readAt (Elt F) (Rect.unit (s := S2304x1024) ![256 * r.val, 0] S256x1024.size (row_inb r)).toLoadRect (harg14.unread d)) (arg8.view.readAt (Elt F) (Rect.unit (s := S1x1024x256) ![0, 0, 0] S1x1024x256.size inb_S1x1024x256_S1x1024x256_0_0_0).toLoadRect (harg8.unread x6)))

theorem tileA (d : Vec F S2304x1024 .bf16) (x4 x5 : Vec F S1x1024x256 .bf16) (x7 x8 : Vec F S1x256 .f32) (r : Fin 9) :
    k0_pay22 (k0_pay5 (arg9.view.readAt (Elt F) (Rect.unit (s := S1x256) ![0, 0] S1x256.size inb_S1x256_S1x256_0_0).toLoadRect (harg9.unread x7))) (k0_pay6 (arg10.view.readAt (Elt F) (Rect.unit (s := S1x256) ![0, 0] S1x256.size inb_S1x256_S1x256_0_0).toLoadRect (harg10.unread x8)))
      (arg14.view.readAt (Elt F) (Rect.unit (s := S2304x1024) ![256 * r.val, 0] S256x1024.size (row_inb r)).toLoadRect (harg14.unread d))
      (arg6.view.readAt (Elt F) (Rect.unit (s := S1x1024x256) ![0, 0, 0] S1x1024x256.size inb_S1x1024x256_S1x1024x256_0_0_0).toLoadRect (harg6.unread x4)) (arg7.view.readAt (Elt F) (Rect.unit (s := S1x1024x256) ![0, 0, 0] S1x1024x256.size inb_S1x1024x256_S1x1024x256_0_0_0).toLoadRect (harg7.unread x5))
    = k0_pay22 (k0_pay5 x7) (k0_pay6 x8) (dRows d r) x4 x5 := by
  rw [rows_load, full_load3, full_load3, full_load2, full_load2]

theorem tileB (d : Vec F S2304x1024 .bf16) (x6 : Vec F S1x1024x256 .bf16) (x9 : Vec F S1x256 .f32) (r : Fin 9) :
    k0_pay23 (k0_pay21 (k0_pay7 (arg11.view.readAt (Elt F) (Rect.unit (s := S1x256) ![0, 0] S1x256.size inb_S1x256_S1x256_0_0).toLoadRect (harg11.unread x9)))
      (arg14.view.readAt (Elt F) (Rect.unit (s := S2304x1024) ![256 * r.val, 0] S256x1024.size (row_inb r)).toLoadRect (harg14.unread d)) (arg8.view.readAt (Elt F) (Rect.unit (s := S1x1024x256) ![0, 0, 0] S1x1024x256.size inb_S1x1024x256_S1x1024x256_0_0_0).toLoadRect (harg8.unread x6)))
    = k0_pay23 (k0_pay21 (k0_pay7 x9) (dRows d r) x6) := by
  rw [rows_load, full_load3, full_load2]

/-- A body at a later column block: the scratch is only read. -/
theorem run_rest (x0 : Vec F S1x2304x1024 .f32) (x1 x2 : Vec F S1x3x1024 .f32) (x3 : Vec F S1x1024 .f32) (x4 x5 x6 : Vec F S1x1024x256 .bf16)
    (x7 x8 x9 : Vec F S1x256 .f32) (d : Vec F S2304x1024 .bf16) (hc0 : ¬ k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
      ∗ owns (c : Thread nD τ) arg6 fullShare x4 ∗ owns (c : Thread nD τ) arg7 fullShare x5 ∗ owns (c : Thread nD τ) arg8 fullShare x6
      ∗ owns (c : Thread nD τ) arg9 fullShare x7 ∗ owns (c : Thread nD τ) arg10 fullShare x8 ∗ owns (c : Thread nD τ) arg11 fullShare x9
      ∗ (∃ e, owns (c : Thread nD τ) arg12 fullShare e) ∗ (∃ e, owns (c : Thread nD τ) arg13 fullShare e) ∗ owns (c : Thread nD τ) arg14 fullShare d
      ∗ (iprop(owns (c : Thread nD τ) arg2 fullShare x0 ∗ owns (c : Thread nD τ) arg3 fullShare x1 ∗ owns (c : Thread nD τ) arg4 fullShare x2 ∗ owns (c : Thread nD τ) arg5 fullShare x3
      ∗ owns (c : Thread nD τ) arg6 fullShare x4 ∗ owns (c : Thread nD τ) arg7 fullShare x5 ∗ owns (c : Thread nD τ) arg8 fullShare x6
      ∗ owns (c : Thread nD τ) arg9 fullShare x7 ∗ owns (c : Thread nD τ) arg10 fullShare x8 ∗ owns (c : Thread nD τ) arg11 fullShare x9
      ∗ owns (c : Thread nD τ) arg12 fullShare (outA d x4 x5 x7 x8) ∗ owns (c : Thread nD τ) arg13 fullShare (outB d x6 x9) ∗ owns (c : Thread nD τ) arg14 fullShare d) -∗ K ⟨⟩))
    ⊢ wp Idealize.ShloMosaic.frame (wpE (defs₀ (F := F)) Variants.none c none) E
        (cc0_conv_proj i arg2 harg2 arg3 harg3 arg4 harg4 arg5 harg5 arg6 harg6 arg7 harg7 arg8 harg8 arg9 harg9 arg10 harg10 arg11 harg11 arg12 harg12 arg13 harg13 arg14 harg14) K := by
  simp only [cc0_conv_proj_eq_skeleton]
  unfold cc0_conv_proj_skel
  simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%e12, %f12, %hf12, H12⟩, ⟨%e13, %f13, %hf13, H13⟩, ⟨%f14, %hf14, H14⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg14.eq_unread hf14
  sl_exec (disch := first | sl_exact hc0)
  sl_step
  iapply HK
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; rotate_left
    · iexact H12
    · ipureintro
      exact (tiles_read arg12.view f12 (loadsA arg6 harg6 arg7 harg7 arg9 harg9 arg10 harg10 arg14 harg14 d x4 x5 x7 x8) tile_inb).trans (funext fun y => congrFun (tileA arg6 harg6 arg7 harg7 arg9 harg9 arg10 harg10 arg14 harg14 d x4 x5 x7 x8 _) _)
  isplitl [H13]
  · iexists _; isplitr; rotate_left
    · iexact H13
    · ipureintro
      exact (tiles_read arg13.view f13 (loadsB arg8 harg8 arg11 harg11 arg14 harg14 d x6 x9) tile_inb).trans (funext fun y => congrFun (tileB arg8 harg8 arg11 harg11 arg14 harg14 d x6 x9 _) _)
  iexists _; isplitr; · ipureintro; exact harg14.read_unread _
  iexact H14

/-- A body at the first column block: the scratch is filled, then used. -/
theorem run_first (x0 : Vec F S1x2304x1024 .f32) (x1 x2 : Vec F S1x3x1024 .f32) (x3 : Vec F S1x1024 .f32) (x4 x5 x6 : Vec F S1x1024x256 .bf16)
    (x7 x8 x9 : Vec F S1x256 .f32) (hc0 : k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
      ∗ owns (c : Thread nD τ) arg6 fullShare x4 ∗ owns (c : Thread nD τ) arg7 fullShare x5 ∗ owns (c : Thread nD τ) arg8 fullShare x6
      ∗ owns (c : Thread nD τ) arg9 fullShare x7 ∗ owns (c : Thread nD τ) arg10 fullShare x8 ∗ owns (c : Thread nD τ) arg11 fullShare x9
      ∗ (∃ e, owns (c : Thread nD τ) arg12 fullShare e) ∗ (∃ e, owns (c : Thread nD τ) arg13 fullShare e) ∗ (∃ e, owns (c : Thread nD τ) arg14 fullShare e)
      ∗ (iprop(owns (c : Thread nD τ) arg2 fullShare x0 ∗ owns (c : Thread nD τ) arg3 fullShare x1 ∗ owns (c : Thread nD τ) arg4 fullShare x2 ∗ owns (c : Thread nD τ) arg5 fullShare x3
      ∗ owns (c : Thread nD τ) arg6 fullShare x4 ∗ owns (c : Thread nD τ) arg7 fullShare x5 ∗ owns (c : Thread nD τ) arg8 fullShare x6
      ∗ owns (c : Thread nD τ) arg9 fullShare x7 ∗ owns (c : Thread nD τ) arg10 fullShare x8 ∗ owns (c : Thread nD τ) arg11 fullShare x9
      ∗ owns (c : Thread nD τ) arg12 fullShare (outA (hAll x0 x1 x2 x3) x4 x5 x7 x8) ∗ owns (c : Thread nD τ) arg13 fullShare (outB (hAll x0 x1 x2 x3) x6 x9) ∗ owns (c : Thread nD τ) arg14 fullShare (hAll x0 x1 x2 x3)) -∗ K ⟨⟩))
    ⊢ wp Idealize.ShloMosaic.frame (wpE (defs₀ (F := F)) Variants.none c none) E
        (cc0_conv_proj i arg2 harg2 arg3 harg3 arg4 harg4 arg5 harg5 arg6 harg6 arg7 harg7 arg8 harg8 arg9 harg9 arg10 harg10 arg11 harg11 arg12 harg12 arg13 harg13 arg14 harg14) K := by
  simp only [cc0_conv_proj_eq_skeleton]
  unfold cc0_conv_proj_skel
  simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%e12, %f12, %hf12, H12⟩, ⟨%e13, %f13, %hf13, H13⟩, ⟨%e14, %f14, %hf14, H14⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  sl_exec (disch := first | sl_exact hc0)
  iapply (loop_then c E (latentInv c i arg2 arg4 arg14 hc0 _ _ (harg2.unread x0) (harg4.unread x2) _)
    (latent_step c i arg2 harg2 arg3 harg3 arg4 harg4 arg5 harg5 arg6 harg6 arg7 harg7 arg8 harg8 arg9 harg9 arg10 harg10 arg11 harg11 arg12 harg12 arg13 harg13 arg14 harg14 E hc0 _ _ _ _ _))
  isplitl [H2 H4 H14]
  · isplitl [H2]; · iexact H2
    isplitl [H4]; · iexact H4
    iexists _; isplitl [H14]; · iexact H14
    ipureintro
    exact ⟨fun _ h => absurd h (Nat.not_lt_zero _), fun _ _ => rfl⟩
  iintro %_ ⟨H2, H4, ⟨%f, H14, %hf⟩⟩
  have hf14 : arg14.view.read (Elt F) f = hAll x0 x1 x2 x3 := by
    funext y
    have hy : (y 0).val < 2304 := (y 0).isLt
    by_cases hlt : (y 0).val < 256
    · refine (hf.2 y hlt).trans ((View.read_writes_cons_rows_of_mem _ _ _ _ _ y (ix2 ⟨(y 0).val, hlt⟩ (y 1)) off2_eq (Nat.zero_add _).symm rfl).trans ?_)
      refine (latent_rows arg2 harg2 arg5 harg5 arg3 harg3 x0 x1 x3 0 _ off1_eq _ _).trans ?_
      unfold hAll
      rw [if_pos hlt]
      have e0 : (0 : Fin 9) = ⟨(y 0).val / 256, by omega⟩ := Fin.ext (Nat.div_eq_of_lt hlt).symm
      have e1 : (⟨(y 0).val, hlt⟩ : Fin 256) = ⟨(y 0).val % 256, Nat.mod_lt _ (by decide)⟩ := Fin.ext (Nat.mod_eq_of_lt hlt).symm
      exact congrArg₂ (fun a b => hRows x0 x1 x3 a (ix2 b (y 1))) e0 e1
    · have ht : k0_t1_loop.trips = 8 := by decide +kernel
      refine (hf.1 ⟨(y 0).val / 256 - 1, by omega⟩ (by dsimp only; show _ < k0_t1_loop.trips; omega) y (ix2 ⟨(y 0).val % 256, Nat.mod_lt _ (by decide)⟩ (y 1))
        (by show (y 0).val = 256 * ((y 0).val / 256 - 1) + 256 + (y 0).val % 256; omega) rfl).trans ?_
      refine (latent_rows arg2 harg2 arg5 harg5 arg4 harg4 x0 x2 x3 ⟨(y 0).val / 256, by omega⟩ _ ((off3_eq _).trans ?_) _ _).trans ?_
      · have e : 256 * ((y 0).val / 256 - 1) + 256 = 256 * ((y 0).val / 256) := by omega
        exact congrArg (fun q => ![0, q, 0]) e
      · unfold hAll
        rw [if_neg hlt]
  obtain rfl := harg14.eq_unread hf14
  sl_exec
  sl_step
  iapply HK
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; rotate_left
    · iexact H12
    · ipureintro
      exact (tiles_read arg12.view f12 (loadsA arg6 harg6 arg7 harg7 arg9 harg9 arg10 harg10 arg14 harg14 (hAll x0 x1 x2 x3) x4 x5 x7 x8) tile_inb).trans (funext fun y => congrFun (tileA arg6 harg6 arg7 harg7 arg9 harg9 arg10 harg10 arg14 harg14 (hAll x0 x1 x2 x3) x4 x5 x7 x8 _) _)
  isplitl [H13]
  · iexists _; isplitr; rotate_left
    · iexact H13
    · ipureintro
      exact (tiles_read arg13.view f13 (loadsB arg8 harg8 arg11 harg11 arg14 harg14 (hAll x0 x1 x2 x3) x6 x9) tile_inb).trans (funext fun y => congrFun (tileB arg8 harg8 arg11 harg11 arg14 harg14 (hAll x0 x1 x2 x3) x6 x9 _) _)
  iexists _; isplitr; · ipureintro; exact harg14.read_unread _
  iexact H14

end Cert.ConvProjValue

end
-- ==== Proof.ConvProjFrame.lean ====
module

public import proofs.«01_k».proof.Proof.ConvProjRun
public import Idealize.ShloMosaic.Lib.Pipeline.FrameBody
public import Idealize.ShloMosaic.Lib.WordCmp
public import Idealize.ShloMosaic.Lib.Claim

/-! # The pipeline around the body

The scratch carries the normalised rows of a batch from the batch's first column block to its last. With that as
the invariant between the points, every point's body leaves its output blocks at the values the run names, and the
launch gives what the output arrays hold in the end. -/

@[expose] public section

set_option maxRecDepth 16384
set_option maxHeartbeats 4000000

noncomputable section

namespace Cert.ConvProjValue

open Cert.ConvProjIdeal Cert.ConvProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first column block of a batch is every eighth point. -/
theorem first_iff (t : Fin grid0.N) : k0_cond1 (grid0.coords t) = 1#1 ↔ t.val % 8 = 0 := by
  have ht : t.val < 128 := Nat.lt_of_lt_of_eq t.isLt N_0
  have e0 : (grid0.coords t 0).val = t.val / 8 % 16 := Pipeline.Grid.coords_val t 0 (by decide) rfl
  have e1 : (grid0.coords t 1).val = t.val / 1 % 8 := Pipeline.Grid.coords_val t 1 (by decide) rfl
  simp only [k0_cond1, e0, e1]
  word_cmp

theorem index_in (t : Fin cfg0.N) : win0_0.index t = ![t.val / 8, 0, 0] ∧ win0_1.index t = ![0, 0, 0]
    ∧ win0_2.index t = ![t.val / 8, 0, 0] ∧ win0_3.index t = ![0, 0] := by
  revert t; decide +kernel

/-- The token rows of batch `b`. -/
def xB (c : Dev nD) (b : Fin 16) : Vec F S1x2304x1024 .f32 := fun y => m ((c : Thread nD τ).loc main_arg0) (ix3 b (y 1) (y 2))
/-- The context's modulation, the same for every batch. -/
def mcB (c : Dev nD) : Vec F S1x3x1024 .f32 := fun y => m ((c : Thread nD τ).loc main_arg1) (ix3 0 (y 1) (y 2))
/-- The latent's modulation of batch `b`. -/
def mlB (c : Dev nD) (b : Fin 16) : Vec F S1x3x1024 .f32 := fun y => m ((c : Thread nD τ).loc main_arg2) (ix3 b (y 1) (y 2))
/-- The norm's gain. -/
def gB (c : Dev nD) : Vec F S1x1024 .f32 := fun y => V m c (Pipeline.arrRef spec0 3) (ix2 0 (y 1))

/-- The batch of a point. -/
def batch (t : Fin cfg0.N) : Fin 16 := ⟨t.val / 8, by have h : t.val < 128 := Nat.lt_of_lt_of_eq t.isLt N_0; omega⟩

theorem blk_x (c : Dev nD) (t : Fin cfg0.N) : iblk m c 0 t = xB m c (batch t) := by
  obtain ⟨e0, e1, e2, e3⟩ := index_in t
  funext y
  unfold xB batch
  blk_ext [iblk, V_main_arg0, e0]

theorem blk_mc (c : Dev nD) (t : Fin cfg0.N) : iblk m c 1 t = mcB m c := by
  obtain ⟨e0, e1, e2, e3⟩ := index_in t
  funext y
  unfold mcB
  blk_ext [iblk, V_main_arg1, e1]

theorem blk_ml (c : Dev nD) (t : Fin cfg0.N) : iblk m c 2 t = mlB m c (batch t) := by
  obtain ⟨e0, e1, e2, e3⟩ := index_in t
  funext y
  unfold mlB batch
  blk_ext [iblk, V_main_arg2, e2]

theorem blk_g (c : Dev nD) (t : Fin cfg0.N) : iblk m c 3 t = gB m c := by
  obtain ⟨e0, e1, e2, e3⟩ := index_in t
  funext y
  unfold gB
  blk_ext [iblk, e3]

/-- The normalised and modulated rows of the batch of point `t`. -/
def hB (c : Dev nD) (t : Fin cfg0.N) : Vec F S2304x1024 .bf16 := hAll (xB m c (batch t)) (mcB m c) (mlB m c (batch t)) (gB m c)

/-- The scratch operand. -/
abbrev scM : Memref sig .tc .vmem S2304x1024 .bf16 := Memref.whole cc0_scratch0

/-- Between the points: after a point that is not a batch's last the scratch holds the batch's rows. -/
def carried (c : Dev nD) (k : Fin (cfg0.N + 1)) : sProp 𝕄 :=
  iprop((∃ d, ⌜∀ t : Fin cfg0.N, t.val = k.val → t.val % 8 ≠ 0 → d = hB m c t⌝ ∗ owns (c : Thread nD τ) scM fullShare d) ∗ (∃ r, prngReg c r))

theorem carried_eq (c : Dev nD) (k : Fin (cfg0.N + 1)) : (carried m c k : sProp 𝕄)
    = iprop((∃ d, ⌜∀ t : Fin cfg0.N, t.val = k.val → t.val % 8 ≠ 0 → d = hB m c t⌝ ∗ owns (c : Thread nD τ) scM fullShare d) ∗ (∃ r, prngReg c r)) := rfl

theorem scoped_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

theorem carried_in (c : Dev nD) : (Pipeline.ΦA spec0 c : sProp 𝕄) ⊢ carried m c 0 := by
  rw [scoped_eq]
  unfold carried
  iintro ⟨⟨%d, H⟩, Hg⟩
  isplitl [H]
  · iexists d; isplitr
    · ipureintro
      intro t h0 h1
      exact absurd (by rw [h0]; rfl) h1
    iexact H
  iexact Hg

theorem carried_out (c : Dev nD) (k : Fin (cfg0.N + 1)) : carried m c k ⊢ (Pipeline.ΦA spec0 c : sProp 𝕄) := by
  rw [scoped_eq]
  unfold carried
  iintro ⟨⟨%d, %hd, H⟩, Hg⟩
  isplitl [H]
  · iexists d; iexact H
  iexact Hg

/-- The proof data: the inputs stay, the outputs are as named, the scratch carries the rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outA (hB m c t) (iblk m c 4 t) (iblk m c 5 t) (iblk m c 7 t) (iblk m c 8 t)
    | ⟨11, _⟩ => outB (hB m c t) (iblk m c 6 t) (iblk m c 9 t)
  Φ k := carried m c k
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = outA (hB m c t) (iblk m c 4 t) (iblk m c 5 t) (iblk m c 7 t) (iblk m c 8 t) := by dsimp only [dats]
theorem after11 (c : Dev nD) (t : Fin cfg0.N) : (dats m 0 c).after 11 t = outB (hB m c t) (iblk m c 6 t) (iblk m c 9 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- What the body finds at point `t` … -/
def bodyPre (c : Dev nD) (t : Fin cfg0.N) : sProp 𝕄 :=
  iprop(carried m c t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

/-- … and what it leaves. -/
def bodyPost (c : Dev nD) (t : Fin cfg0.N) : sProp 𝕄 :=
  iprop(carried m c t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t))

/-- The rows stay those of the batch until its last point. -/
theorem carried_next (c : Dev nD) (t : Fin cfg0.N) :
    iprop(owns (c : Thread nD τ) scM fullShare (hB m c t) ∗ (∃ r, prngReg c r)) ⊢ (carried m c t.succ : sProp 𝕄) := by
  unfold carried
  iintro ⟨H, Hg⟩
  isplitl [H]
  · iexists _; isplitr
    · ipureintro
      intro t' h0 h1
      have h0' : t'.val = t.val + 1 := h0
      have hb : batch t' = batch t := Fin.ext (by show t'.val / 8 = t.val / 8; omega)
      unfold hB
      rw [hb]
    iexact H
  iexact Hg

/-- The body at any point. -/
theorem body_at (c : Dev nD) (t : Fin cfg0.N) :
    bodyPre m c t ⊢ wp Idealize.ShloMosaic.frame (wpE (defs₀ (F := F)) Variants.none c none) Set.univ (bodyAt0 t) (fun _ => bodyPost m c t) := by
  have hh : hAll (iblk m c 0 t) (iblk m c 1 t) (iblk m c 2 t) (iblk m c 3 t) = hB m c t := by
    rw [blk_x, blk_mc, blk_ml, blk_g]; rfl
  unfold bodyPre bodyPost bodyAt0
  simp only [before0, before1, before2, before3, before4, before5, before6, before7, before8, before9]
  rw [show (dats m 0 c).owesAt () t.succ = (dats m 0 c).owesAt () t.castSucc from rfl, after0, after1, after2, after3, after4, after5, after6, after7, after8, after9, after10, after11]
  rw [carried_eq m c t.castSucc]
  by_cases h0 : t.val % 8 = 0
  · rw [← hh]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    icases HS with ⟨⟨%d, %hd, HS⟩, Hg⟩
    iapply (run_first c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) ((first_iff t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS]; · iexists _; iexact HS
    iintro ⟨H0, H1, H2, H3, H4, H5, H6, H7, H8, H9, H10, H11, HS⟩
    rw [hh]
    isplitl [HS Hg]
    · iapply (carried_next m c t)
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    icases HS with ⟨⟨%d, %hd, HS⟩, Hg⟩
    obtain rfl := hd t rfl h0
    iapply (run_rest c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (hB m c t) (fun h => h0 ((first_iff t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS]; · iexact HS
    iintro ⟨H0, H1, H2, H3, H4, H5, H6, H7, H8, H9, H10, H11, HS⟩
    isplitl [HS Hg]
    · iapply (carried_next m c t)
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

theorem body_row (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  exact triple_restated (body_at m c t) rfl .rfl fun _ => .rfl

set_option backward.isDefEq.respectTransparency.types false in
/-- The launch: the arrays end as the proof data says, every counter at zero. -/
theorem run_all : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_ok m c).loose) (hq := fun _ _ _ => rfl) (howed := fun _ _ => rfl) (V := V m) (hmain := hmain m Variants.none)
    (hA := A_eq m) (hin := carried_in m) (hout := fun c => carried_out m c _)

/-- The arguments end unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_all m ρ))) ((θ_run defs _ _).mono (fun _ h => h.2) (run_all m ρ))

end Cert.ConvProjValue

end
-- ==== Proof.ConvProjBits.lean ====
module

public import proofs.«01_k».proof.Proof.ConvProjFrame
public import proofs.«01_k».proof.Proof.Gen.ConvProj
public import proofs.«01_k».proof.Defs

/-! # The printed program's frame

No operation of this call is rewritten: the printed program and its idealisation are the same program up to the
names, so the frame of the one, at the machine's numbers, is the frame of the other. -/

@[expose] public section

set_option maxRecDepth 100000
set_option maxHeartbeats 2000000

noncomputable section

namespace Cert.ConvProjBits

open Idealize.ShloMosaic Idealize.SL.Sem

set_option backward.isDefEq.respectTransparency.types false in
theorem main_eq : @Cert.ConvProj.main Bits _ Cert.ConvProj.Gen.facts = @Cert.ConvProjIdeal.main Bits _ Cert.ConvProjIdeal.Gen.facts := by rfl

set_option backward.isDefEq.respectTransparency.types false in
theorem bodies_eq : @Cert.ConvProj.defs₀ Bits _ Cert.ConvProj.Gen.facts = @Cert.ConvProjIdeal.defs₀ Bits _ Cert.ConvProjIdeal.Gen.facts := by
  unfold Cert.ConvProj.defs₀ Cert.ConvProjIdeal.defs₀
  congr 1
  funext l a
  match l, a with
  | ⟨0, _⟩, (t, s) =>
    dsimp only
    rfl

set_option backward.isDefEq.respectTransparency.types false in
/-- The printed kernel ends with its arguments as they were. -/
theorem printed_frame : Cert.quiescent_ConvProj := by
  intro m g _
  have hd : @Cert.ConvProj.defs Bits _ Cert.ConvProj.Gen.facts = @Cert.ConvProjIdeal.defs Bits _ Cert.ConvProjIdeal.Gen.facts :=
    congrArg (Pipeline.defs Cert.ConvProj.pcfgs) bodies_eq
  rw [hd, main_eq]
  exact Cert.ConvProjValue.frame m g

end Cert.ConvProjBits

end
-- ==== Proof.ConvProjValue.lean ====
module

public import proofs.«01_k».proof.Proof.ConvProjFrame
public import Idealize.ShloMosaic.Lib.Pipeline.ValueKit

/-! # What the convolution's projection leaves in its output arrays

Over the reals: the gated input `a · σ(l)` and the gate's `silu`, of the projected rows, for every batch, token and
column. -/

@[expose] public section

set_option maxRecDepth 16384
set_option maxHeartbeats 2000000

noncomputable section

namespace Cert.ConvProjValue

open Cert.ConvProjIdeal Cert.ConvProjIdeal.Gen Idealize.ShloMosaic Idealize.ShloMosaic.TcCoe

/-- One entry of a normalised row: divided by the root of its mean square, times the gain, then scaled and shifted. -/
def entry (X : Fin 1024 → EReal) (g s b : EReal) (j : Fin 1024) : EReal :=
  X j * Ideal.rsqrt (Ideal.div (∑ k, X k * X k) (Ideal.ofBits FTy.f32 1149239296#32) + Ideal.ofBits FTy.f32 897988541#32) * g * (1 + s) + b

/-- The normalised rows: a row below 256 is modulated by the context's shift and scale, another by its batch's. -/
def rows (x : Vec Ideal S16x2304x1024 .f32) (mc : Vec Ideal S1x3x1024 .f32) (ml : Vec Ideal S16x3x1024 .f32) (g : Vec Ideal S1024 .f32)
    (b : Fin 16) (r : Fin 2304) (j : Fin 1024) : EReal :=
  entry (fun k => x (ix3 b r k)) (g (ix1 j)) (if r.val < 256 then mc (ix3 0 1 j) else ml (ix3 b 1 j)) (if r.val < 256 then mc (ix3 0 0 j) else ml (ix3 b 0 j)) j

/-- A projected entry. -/
def proj (h : Fin 1024 → EReal) (w : Vec Ideal S2x1024x6144 .f32) (b : Vec Ideal S2x6144 .f32) (n : Fin 6144) : EReal :=
  ∑ k, h k * w (ix3 0 k n) + b (ix2 0 n)

/-- The logistic function. -/
def logistic (a : EReal) : EReal := Ideal.div 1 (1 + Ideal.exp (-a))

/-- The gated input. -/
def specA (x : Vec Ideal S16x2304x1024 .f32) (mc : Vec Ideal S1x3x1024 .f32) (ml : Vec Ideal S16x3x1024 .f32) (g : Vec Ideal S1024 .f32)
    (w : Vec Ideal S2x1024x6144 .f32) (b : Vec Ideal S2x6144 .f32) : Vec Ideal S16x2304x2048 .bf16 := fun i =>
  proj (rows x mc ml g (i 0) (i 1)) w b ⟨(i 2).val, by have h : (i 2).val < 2048 := (i 2).isLt; omega⟩
    * logistic (proj (rows x mc ml g (i 0) (i 1)) w b ⟨2048 + (i 2).val, by have h : (i 2).val < 2048 := (i 2).isLt; omega⟩)

/-- The gate. -/
def specB (x : Vec Ideal S16x2304x1024 .f32) (mc : Vec Ideal S1x3x1024 .f32) (ml : Vec Ideal S16x3x1024 .f32) (g : Vec Ideal S1024 .f32)
    (w : Vec Ideal S2x1024x6144 .f32) (b : Vec Ideal S2x6144 .f32) : Vec Ideal S16x2304x2048 .bf16 := fun i =>
  proj (rows x mc ml g (i 0) (i 1)) w b ⟨4096 + (i 2).val, by have h : (i 2).val < 2048 := (i 2).isLt; omega⟩
    * logistic (proj (rows x mc ml g (i 0) (i 1)) w b ⟨4096 + (i 2).val, by have h : (i 2).val < 2048 := (i 2).isLt; omega⟩)

theorem hRows_apply (x : Vec Ideal S1x2304x1024 .f32) (md : Vec Ideal S1x3x1024 .f32) (g : Vec Ideal S1x1024 .f32) (r : Fin 9) (z : S256x1024.Idx)
    (q : Fin 2304) (hq : q.val = 256 * r.val + (z 0).val) :
    hRows x md g r z = entry (fun k => x (ix3 0 q k)) (g (ix2 0 (z 1))) (md (ix3 0 1 (z 1))) (md (ix3 0 0 (z 1))) (z 1) := by
  have hl : 256 * r.val + (z 0).val < 2304 := hq ▸ q.isLt
  rw [show q = ⟨256 * r.val + (z 0).val, hl⟩ from Fin.ext hq]
  unfold hRows k0_pay4 k0_pay3 xRows entry
  pointwise
  rw [← mul_assoc]

theorem hAll_apply (x : Vec Ideal S1x2304x1024 .f32) (mc ml : Vec Ideal S1x3x1024 .f32) (g : Vec Ideal S1x1024 .f32) (r : Fin 2304) (j : Fin 1024) :
    hAll x mc ml g (ix2 r j) = entry (fun k => x (ix3 0 r k)) (g (ix2 0 j))
      (if r.val < 256 then mc (ix3 0 1 j) else ml (ix3 0 1 j)) (if r.val < 256 then mc (ix3 0 0 j) else ml (ix3 0 0 j)) j := by
  unfold hAll
  rw [hRows_apply _ _ _ _ _ r (Nat.div_add_mod _ _).symm]
  show entry _ _ ((if r.val < 256 then mc else ml) (ix3 0 1 j)) ((if r.val < 256 then mc else ml) (ix3 0 0 j)) j = _
  by_cases h : r.val < 256
  · rw [if_pos h, if_pos h, if_pos h]; rfl
  · rw [if_neg h, if_neg h, if_neg h]; rfl

theorem outA_apply (d : Vec Ideal S2304x1024 .bf16) (w0 w1 : Vec Ideal S1x1024x256 .bf16) (b0 b1 : Vec Ideal S1x256 .f32) (y : S1x2304x256.Idx) :
    outA d w0 w1 b0 b1 y = (∑ k, d (ix2 (y 1) k) * w0 (ix3 0 k (y 2)) + b0 (ix2 0 (y 2)))
      * logistic (∑ k, d (ix2 (y 1) k) * w1 (ix3 0 k (y 2)) + b1 (ix2 0 (y 2))) := by
  unfold outA k0_pay22 k0_pay5 k0_pay6 dRows logistic
  pointwise
  simp only [Nat.div_add_mod, zero_sub]
  rfl

theorem outB_apply (d : Vec Ideal S2304x1024 .bf16) (w : Vec Ideal S1x1024x256 .bf16) (b : Vec Ideal S1x256 .f32) (y : S1x2304x256.Idx) :
    outB d w b y = (∑ k, d (ix2 (y 1) k) * w (ix3 0 k (y 2)) + b (ix2 0 (y 2)))
      * logistic (∑ k, d (ix2 (y 1) k) * w (ix3 0 k (y 2)) + b (ix2 0 (y 2))) := by
  unfold outB k0_pay23 k0_pay21 k0_pay7 dRows logistic
  pointwise
  simp only [Nat.div_add_mod, zero_sub]
  rfl

variable (m : (ℓ : Loc nD τ sig) → Buf (Elt Ideal) ℓ)

theorem index_w (t : Fin cfg0.N) : win0_4.index t = ![0, 0, t.val % 8] ∧ win0_5.index t = ![0, 0, 8 + t.val % 8]
    ∧ win0_6.index t = ![0, 0, 16 + t.val % 8] ∧ win0_7.index t = ![0, t.val % 8] ∧ win0_8.index t = ![0, t.val % 8]
    ∧ win0_9.index t = ![0, t.val % 8] ∧ win0_10.index t = ![t.val / 8, 0, t.val % 8] ∧ win0_11.index t = ![t.val / 8, 0, t.val % 8] := by
  revert t; decide +kernel

/-- The scratch's row during batch `b`. -/
theorem hB_apply (c : Dev nD) (t : Fin cfg0.N) (r : Fin 2304) (j : Fin 1024) :
    hB m c t (ix2 r j) = rows (m ((c : Thread nD τ).loc main_arg0)) (m ((c : Thread nD τ).loc main_arg1)) (m ((c : Thread nD τ).loc main_arg2))
      (m ((c : Thread nD τ).loc main_arg3)) (batch t) r j := by
  unfold hB rows
  rw [hAll_apply]
  have hg : gB m c (ix2 0 j) = m ((c : Thread nD τ).loc main_arg3) (ix1 j) := by
    unfold gB
    entry_read
    pointwise
  rw [hg]
  rfl

theorem weight4 (c : Dev nD) (t : Fin cfg0.N) (k : Fin 1024) (j : Fin 256) (n : Fin 6144) (hn : n.val = 256 * (t.val % 8) + j.val) :
    iblk m c 4 t (ix3 0 k j) = m ((c : Thread nD τ).loc main_arg4) (ix3 0 k n) := by
  obtain ⟨e4, e5, e6, e7, e8, e9, e10, e11⟩ := index_w t
  blk_simp [iblk]
  entry_read
  pointwise
  blk_ext [e4, hn]

theorem weight5 (c : Dev nD) (t : Fin cfg0.N) (k : Fin 1024) (j : Fin 256) (n : Fin 6144) (hn : n.val = 2048 + (256 * (t.val % 8) + j.val)) :
    iblk m c 5 t (ix3 0 k j) = m ((c : Thread nD τ).loc main_arg4) (ix3 0 k n) := by
  obtain ⟨e4, e5, e6, e7, e8, e9, e10, e11⟩ := index_w t
  blk_simp [iblk]
  entry_read
  pointwise
  blk_ext [e5, hn]

theorem weight6 (c : Dev nD) (t : Fin cfg0.N) (k : Fin 1024) (j : Fin 256) (n : Fin 6144) (hn : n.val = 4096 + (256 * (t.val % 8) + j.val)) :
    iblk m c 6 t (ix3 0 k j) = m ((c : Thread nD τ).loc main_arg4) (ix3 0 k n) := by
  obtain ⟨e4, e5, e6, e7, e8, e9, e10, e11⟩ := index_w t
  blk_simp [iblk]
  entry_read
  pointwise
  blk_ext [e6, hn]

theorem bias7 (c : Dev nD) (t : Fin cfg0.N) (j : Fin 256) (n : Fin 6144) (hn : n.val = 256 * (t.val % 8) + j.val) :
    iblk m c 7 t (ix2 0 j) = m ((c : Thread nD τ).loc main_arg5) (ix2 0 n) := by
  obtain ⟨e4, e5, e6, e7, e8, e9, e10, e11⟩ := index_w t
  blk_simp [iblk]
  entry_read
  pointwise
  blk_ext [e7, hn]

theorem bias8 (c : Dev nD) (t : Fin cfg0.N) (j : Fin 256) (n : Fin 6144) (hn : n.val = 2048 + (256 * (t.val % 8) + j.val)) :
    iblk m c 8 t (ix2 0 j) = m ((c : Thread nD τ).loc main_arg5) (ix2 0 n) := by
  obtain ⟨e4, e5, e6, e7, e8, e9, e10, e11⟩ := index_w t
  blk_simp [iblk]
  entry_read
  pointwise
  blk_ext [e8, hn]

theorem bias9 (c : Dev nD) (t : Fin cfg0.N) (j : Fin 256) (n : Fin 6144) (hn : n.val = 4096 + (256 * (t.val % 8) + j.val)) :
    iblk m c 9 t (ix2 0 j) = m ((c : Thread nD τ).loc main_arg5) (ix2 0 n) := by
  obtain ⟨e4, e5, e6, e7, e8, e9, e10, e11⟩ := index_w t
  blk_simp [iblk]
  entry_read
  pointwise
  blk_ext [e9, hn]

theorem finalA (c : Dev nD) : (dats m 0 c).arrAt 10 cfg0.N = specA (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  obtain ⟨e4, e5, e6, e7, e8, e9, e10, e11⟩ := index_w t
  have h2 : (y 2).val < 256 := (y 2).isLt
  have hm : t.val % 8 < 8 := Nat.mod_lt _ (by decide)
  rw [after10]
  refine (outA_apply _ _ _ _ _ y).trans ?_
  refine Eq.trans ?_ (congrArg (specA _ _ _ _ _ _) (show ix3 (batch t) (y 1) ⟨256 * (t.val % 8) + (y 2).val, by omega⟩ = _ from by blk_ext [e10, batch]))
  show _ = proj _ _ _ ⟨256 * (t.val % 8) + (y 2).val, _⟩ * logistic (proj _ _ _ ⟨2048 + (256 * (t.val % 8) + (y 2).val), _⟩)
  unfold proj
  rw [bias7 m c t (y 2) ⟨256 * (t.val % 8) + (y 2).val, by omega⟩ rfl, bias8 m c t (y 2) ⟨2048 + (256 * (t.val % 8) + (y 2).val), by omega⟩ rfl]
  simp only [hB_apply m c t (y 1), weight4 m c t _ (y 2) ⟨256 * (t.val % 8) + (y 2).val, by omega⟩ rfl, weight5 m c t _ (y 2) ⟨2048 + (256 * (t.val % 8) + (y 2).val), by omega⟩ rfl]
  rfl

theorem finalB (c : Dev nD) : (dats m 0 c).arrAt 11 cfg0.N = specB (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  obtain ⟨e4, e5, e6, e7, e8, e9, e10, e11⟩ := index_w t
  have h2 : (y 2).val < 256 := (y 2).isLt
  have hm : t.val % 8 < 8 := Nat.mod_lt _ (by decide)
  rw [after11]
  refine (outB_apply _ _ _ y).trans ?_
  refine Eq.trans ?_ (congrArg (specB _ _ _ _ _ _) (show ix3 (batch t) (y 1) ⟨256 * (t.val % 8) + (y 2).val, by omega⟩ = _ from by blk_ext [e11, batch]))
  show _ = proj _ _ _ ⟨4096 + (256 * (t.val % 8) + (y 2).val), _⟩ * logistic (proj _ _ _ ⟨4096 + (256 * (t.val % 8) + (y 2).val), _⟩)
  unfold proj
  rw [bias9 m c t (y 2) ⟨4096 + (256 * (t.val % 8) + (y 2).val), by omega⟩ rfl]
  simp only [hB_apply m c t (y 1), weight6 m c t _ (y 2) ⟨4096 + (256 * (t.val % 8) + (y 2).val), by omega⟩ rfl]
  rfl

end Cert.ConvProjValue

end
-- ==== Proof.ConvProjReference.lean ====
module

public import proofs.«01_k».proof.Proof.ConvProjValue
public import proofs.«01_k».proof.Proof.Gen.ConvProjRefIdeal.Read

/-! # The reference of the convolution's projection, entry by entry -/

@[expose] public section

set_option maxRecDepth 16384
set_option maxHeartbeats 2000000

noncomputable section

namespace Cert.ConvProjValue

open Cert.ConvProjRefIdeal Cert.ConvProjRefIdeal.Read Idealize.ShloMosaic Idealize.ShloMosaic.TcCoe

variable (x0 : (⟨S16x2304x1024, .f32⟩ : BufTy).Contents (Elt Ideal)) (x1 : (⟨S1x3x1024, .f32⟩ : BufTy).Contents (Elt Ideal)) (x2 : (⟨S16x3x1024, .f32⟩ : BufTy).Contents (Elt Ideal)) (x3 : (⟨S1024, .f32⟩ : BufTy).Contents (Elt Ideal)) (x4 : (⟨S2x1024x6144, .f32⟩ : BufTy).Contents (Elt Ideal)) (x5 : (⟨S2x6144, .f32⟩ : BufTy).Contents (Elt Ideal))

theorem ref_ctx (i : S16x256x1024.Idx) (r : Fin 2304) (hr : r.val = (i 1).val) : val_main_v25 x0 x1 x3 i
    = entry (fun k => x0 (ix3 (i 0) r k)) (x3 (ix1 (i 2))) (x1 (ix3 0 1 (i 2))) (x1 (ix3 0 0 (i 2))) (i 2) := by
  have hl : (i 1).val < 2304 := hr ▸ r.isLt
  rw [show r = ⟨(i 1).val, hl⟩ from Fin.ext hr]
  unfold val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 entry
  pointwise

theorem ref_lat (i : S16x2048x1024.Idx) (r : Fin 2304) (hr : r.val = 256 + (i 1).val) : val_main_v51 x0 x2 x3 i
    = entry (fun k => x0 (ix3 (i 0) r k)) (x3 (ix1 (i 2))) (x2 (ix3 (i 0) 1 (i 2))) (x2 (ix3 (i 0) 0 (i 2))) (i 2) := by
  have hl : 256 + (i 1).val < 2304 := hr ▸ r.isLt
  rw [show r = ⟨256 + (i 1).val, hl⟩ from Fin.ext hr]
  unfold val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_cst_3 val_main_cst_4 val_main_cst_5 val_main_cst_6 entry
  pointwise

theorem ref_rows (b : Fin 16) (r : Fin 2304) (j : Fin 1024) : val_main_v52 x0 x1 x2 x3 (ix3 b r j) = rows x0 x1 x2 x3 b r j := by
  unfold val_main_v52 rows
  pointwise
  by_cases h : r.val < 256
  · refine (dif_pos h).trans ((ref_ctx x0 x1 x3 _ r rfl).trans ?_)
    rw [if_pos h, if_pos h]
    rfl
  · refine (dif_neg h).trans ((ref_lat x0 x2 x3 _ r ?_).trans ?_)
    · show r.val = 256 + (r.val - 256)
      omega
    rw [if_neg h, if_neg h]
    rfl

theorem ref_A (i : S16x2304x2048.Idx) : val_main_v71 x0 x1 x2 x3 x4 x5 i = specA x0 x1 x2 x3 x4 x5 i := by
  unfold val_main_v71 val_main_v70 val_main_v69 val_main_v68 val_main_v67 val_main_v66 val_main_v65 val_main_v64 val_main_v62 val_main_v61 val_main_v60 val_main_v59 val_main_v58 val_main_v57 val_main_v56 val_main_v55 val_main_v54 val_main_v53 val_main_cst_8 val_main_cst_7 specA logistic proj
  pointwise
  simp only [ref_rows x0 x1 x2 x3 (i 0) (i 1)]

theorem ref_B (i : S16x2304x2048.Idx) : val_main_v73 x0 x1 x2 x3 x4 x5 i = specB x0 x1 x2 x3 x4 x5 i := by
  unfold val_main_v73 val_main_v72 val_main_call0_v5 val_main_call0_v4 val_main_call0_v3 val_main_call0_v2 val_main_call0_v1 val_main_call0_v0 val_main_v63 val_main_v60 val_main_v59 val_main_v58 val_main_v57 val_main_v56 val_main_v55 val_main_v54 val_main_v53 val_main_call0_cst val_main_call0_cst_0 specB logistic proj
  pointwise
  simp only [ref_rows x0 x1 x2 x3 (i 0) (i 1)]

end Cert.ConvProjValue

end
-- ==== Proof.ConvProjClaim.lean ====
module

public import proofs.«01_k».proof.Proof.ConvProjReference
public import proofs.«01_k».proof.Proof.Gen.ConvProjRefIdeal.Run
public import proofs.«01_k».proof.Defs

/-! # The claims about the convolution's projection -/

@[expose] public section

set_option maxRecDepth 16384
set_option maxHeartbeats 1000000

noncomputable section

namespace Cert.ConvProjValue

open Idealize.ShloMosaic Idealize.ShloMosaic.TcCoe Idealize.SL.Sem

/-- The idealised kernel ends with its arguments as they were. -/
theorem ideal_frame : Cert.quiescent_ConvProjIdeal := fun m g _ => frame m g

/-- The reference ends with its arguments as they were. -/
theorem ref_frame : Cert.quiescent_ConvProjRefIdeal := fun m g _ =>
  (θ_run _ _ _).mono (fun r h => ⟨fun c => (h c).2.2, sem_eq_zero_of_no_sems (by decide) r.2⟩) (Cert.ConvProjRefIdeal.Value.run m g)

open Cert.ConvProjIdeal Cert.ConvProjIdeal.Gen in
/-- What the launch leaves: both outputs at the formulas, the arguments as they were. -/
theorem run_value (m : (ℓ : Loc nD τ sig) → Buf (Elt Ideal) ℓ) (g : Dev nD → PrngReg) :
    θ_run (Cert.ConvProjIdeal.defs (F := Ideal)) (onTc (τ := τ) (Cert.ConvProjIdeal.main (F := Ideal))) ⟨m, fun _ => 0, g⟩ (fun r =>
      (∀ c : Dev nD, r.2.mem ((c : Thread nD τ).loc main_v8_0) = specA (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)))
      ∧ (∀ c : Dev nD, r.2.mem ((c : Thread nD τ).loc main_v8_1) = specB (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)))) :=
  (θ_run _ _ _).mono (fun r h => ⟨fun c => ((h.1 c).1 10).trans (finalA m c), fun c => ((h.1 c).1 11).trans (finalB m c)⟩) (run_all m g)

/-- Over the reals the kernel computes the reference's two results. -/
theorem conforms : Cert.algebraic_ConvProjIdeal_ConvProjRefIdeal := by
  intro m g m' g' _ hagree
  refine ⟨fun c => _, fun c => _,
    (θ_run _ _ _).mono (fun r h c => ⟨h.1.1 c, h.1.2 c, h.2.1 c⟩) (θ_run_and (run_value m g) (frame m g)),
    (θ_run _ _ _).mono (fun r h c => ⟨(h c).1.trans ?_, (h c).2.1.trans ?_, (h c).2.2⟩) (Cert.ConvProjRefIdeal.Value.run m' g')⟩
  · obtain ⟨e0, e1, e2, e3, e4, e5⟩ := hagree c
    refine (Cert.ConvProjRefIdeal.Read.val_main_v71_eq m' c).trans ((funext fun i => ref_A _ _ _ _ _ _ i).trans ?_)
    rw [e0, e1, e2, e3, e4, e5]
  · obtain ⟨e0, e1, e2, e3, e4, e5⟩ := hagree c
    refine (Cert.ConvProjRefIdeal.Read.val_main_v73_eq m' c).trans ((funext fun i => ref_B _ _ _ _ _ _ i).trans ?_)
    rw [e0, e1, e2, e3, e4, e5]

end Cert.ConvProjValue

end
-- ==== Proof.HgrnOutKernel.lean ====
module

public import proofs.«01_k».proof.Proof.Gen.HgrnOutIdeal.Value
public import proofs.«01_k».proof.Proof.Gen.HgrnOutRefIdeal.Read
public import Idealize.ShloMosaic.Lib.Pipeline.ValueKit
public import Idealize.ShloMosaic.Lib.Claim

@[expose] public section

set_option maxRecDepth 16384
set_option maxHeartbeats 1000000

noncomputable section

namespace Cert.HgrnOutValue

open Cert.HgrnOutIdeal Cert.HgrnOutIdeal.Gen Idealize.ShloMosaic Idealize.ShloMosaic.TcCoe Idealize.SL.Sem

variable (m : (ℓ : Loc nD τ sig) → Buf (Elt Ideal) ℓ)

/-- The residual output at an index: the token plus its stream's gate times its row of the product. -/
def out (og : S16x2304x2048.Idx → EReal) (xa : S16x2304x1024.Idx → EReal) (modc : S1x3x1024.Idx → EReal)
    (modl : S16x3x1024.Idx → EReal) (w : S2x2048x1024.Idx → EReal) (i : S16x2304x1024.Idx) : EReal :=
  xa i + (if (i 1).val < 256 then modc (ix3 0 2 (i 2)) else modl (ix3 (i 0) 2 (i 2)))
    * ∑ k : Fin 2048, og (ix3 (i 0) (i 1) k) * w (ix3 0 k (i 2))

theorem pay2_apply (og : Vec Ideal S1x256x2048 .bf16) (w : Vec Ideal S1x2048x1024 .bf16) (b : Vec Ideal S1x1024 .f32)
    (x : Vec Ideal S1x256x1024 .f32) (g : Vec Ideal S1x1x1024 .f32) (y : S1x256x1024.Idx) :
    k0_pay2 og w b x g y = x y + g (ix3 0 0 (y 2)) * (∑ k : Fin 2048, og (ix3 0 (y 1) k) * w (ix3 0 k (y 2)) + b (ix2 0 (y 2))) := by
  unfold k0_pay2 k0_pay1
  pointwise

theorem pay3_apply (og : Vec Ideal S1x256x2048 .bf16) (w : Vec Ideal S1x2048x1024 .bf16) (b : Vec Ideal S1x1024 .f32)
    (x : Vec Ideal S1x256x1024 .f32) (g : Vec Ideal S1x1x1024 .f32) (y : S1x256x1024.Idx) :
    k0_pay3 og w b x g y = x y + g (ix3 0 0 (y 2)) * (∑ k : Fin 2048, og (ix3 0 (y 1) k) * w (ix3 0 k (y 2)) + b (ix2 0 (y 2))) := by
  unfold k0_pay3 k0_pay1
  pointwise

/-- Each window's block index at point `t`: image `t / 9`, row tile `t % 9`. -/
theorem idx (t : Fin cfg0.N) : win0_0.index t = ![t.val / 9, t.val % 9, 0] ∧ win0_1.index t = ![t.val / 9, t.val % 9, 0]
    ∧ win0_2.index t = ![0, 0, 0] ∧ win0_3.index t = ![t.val / 9, 0, 0] ∧ win0_4.index t = ![0, 0, 0]
    ∧ win0_5.index t = ![0, 0] ∧ win0_6.index t = ![t.val / 9, t.val % 9, 0] :=
  by
  revert t; decide +kernel

theorem bias_zero (c : Dev nD) (t : Fin cfg0.N) (j : S1x1024.Idx) : iblk m c 5 t j = (0 : EReal) := by
  blk_simp [iblk]
  entry_read
  pointwise

theorem weight (c : Dev nD) (t : Fin cfg0.N) (j : S1x2048x1024.Idx) :
    iblk m c 4 t j = m ((c : Thread nD τ).loc main_arg4) (ix3 0 (j 1) (j 2)) := by
  obtain ⟨e0, e1, e2, e3, e4, e5, e6⟩ := idx t
  blk_simp [iblk]
  entry_read
  pointwise
  blk_ext [e4]

theorem final (c : Dev nD) : (dats m 0 c).arrAt 6 cfg0.N = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨e0, e1, e2, e3, e4, e5, e6⟩ := idx t
  blk_simp
  rw [after0_6]
  by_cases h0 : t.val % 9 = 0
  · rw [outsAt0_A m c t h0 (by omega)]
    frame_out
    rw [pay2_apply, bias_zero, add_zero]
    unfold out
    rw [if_pos (by blk_simp [e6]; idx_bounds y; omega)]
    congr 1
    · blk_ext [iblk, V_main_arg1, e1, e6]
    congr 1
    · refine (View.ld_unit_apply_of _ _ _ _ _ (ix3 0 2 (y 2)) fun a => ?_).trans ?_
      · fin_cases a <;> simp
      · blk_ext [iblk, V_main_arg2, e2, e6]
    refine Finset.sum_congr rfl fun k _ => ?_
    rw [weight]
    congr 1
    · blk_ext [iblk, V_main_arg0, e0, e6]
    · blk_ext [e6]
  · rw [outsAt0_B m c t h0 (by omega)]
    frame_out
    rw [pay3_apply, bias_zero, add_zero]
    unfold out
    rw [if_neg (by blk_simp [e6]; idx_bounds y; omega)]
    congr 1
    · blk_ext [iblk, V_main_arg1, e1, e6]
    congr 1
    · refine (View.ld_unit_apply_of _ _ _ _ _ (ix3 0 2 (y 2)) fun a => ?_).trans ?_
      · fin_cases a <;> simp
      · blk_ext [iblk, V_main_arg3, e3, e6]
    refine Finset.sum_congr rfl fun k _ => ?_
    rw [weight]
    congr 1
    · blk_ext [iblk, V_main_arg0, e0, e6]
    · blk_ext [e6]

end Cert.HgrnOutValue
-- ==== Proof.HgrnOutClaim.lean ====
module

public import proofs.«01_k».proof.Proof.HgrnOutKernel
public import proofs.«01_k».proof.Proof.Gen.HgrnOutRefIdeal.Run
public import proofs.«01_k».proof.Defs

@[expose] public section

set_option maxRecDepth 16384
set_option maxHeartbeats 1000000

noncomputable section

namespace Cert.HgrnOutValue

open Cert.HgrnOutRefIdeal Cert.HgrnOutRefIdeal.Read Idealize.ShloMosaic Idealize.ShloMosaic.TcCoe Idealize.SL.Sem

/-- The host reference computes the same function of the same arguments. -/
theorem ref_out (x0 : S16x2304x2048.Idx → EReal) (x1 : S16x2304x1024.Idx → EReal) (x2 : S1x3x1024.Idx → EReal)
    (x3 : S16x3x1024.Idx → EReal) (x4 : S2x2048x1024.Idx → EReal) :
    val_main_v20 (F := Ideal) x0 x1 x2 x3 x4 = out x0 x1 x2 x3 x4 := by
  funext i
  unfold val_main_v20 val_main_v19 val_main_v18 val_main_v17 val_main_v16 val_main_v15 val_main_v14 val_main_v13 val_main_v12
    val_main_v11 val_main_v10 val_main_v9 val_main_v8 val_main_v7 val_main_v6 val_main_v5 val_main_v4 val_main_v3 val_main_v2 val_main_v1 val_main_v0 out
  pointwise
  by_cases h : (i 1).val < 256
  · rw [dif_pos h, if_pos h]
  · have e : 256 + ((i 1).val - 256) = (i 1).val := by omega
    rw [dif_neg h, if_neg h]
    simp only [e]
    exact congrArg (fun z => x1 z + x3 (ix3 (i 0) 2 (i 2)) * ∑ k : Fin 2048, x0 (ix3 (i 0) (i 1) k) * x4 (ix3 0 k (i 2)))
      (ix3_eta (n0 := 16) (n1 := 2304) (n2 := 1024) i)

/-- The kernel's result is the reference's, element by element over the extended reals. -/
theorem conforms : Cert.algebraic_HgrnOutIdeal_HgrnOutRefIdeal := by
  intro m g m' g' _ hagree
  refine ⟨fun c => _, (θ_run _ _ _).mono (fun r h c => ⟨(h c).1.trans (final m c), (h c).2⟩) (Cert.HgrnOutIdeal.Value.run_blocks m g),
    (θ_run _ _ _).mono (fun r h c => ⟨(h c).1.trans ?_, (h c).2⟩) (Cert.HgrnOutRefIdeal.Value.run m' g')⟩
  obtain ⟨e0, e1, e2, e3, e4⟩ := hagree c
  refine (val_main_v20_eq _ _ _ _ _).trans ((ref_out _ _ _ _ _).trans ?_)
  rw [e0, e1, e2, e3, e4]

/-- The reference keeps its arguments, and having no semaphore ends with none raised. -/
theorem ref_frame : Cert.quiescent_HgrnOutRefIdeal := fun m g _ =>
  (θ_run _ _ _).mono (fun r h => ⟨fun c => (h c).2, sem_eq_zero_of_no_sems (by decide) r.2⟩) (Cert.HgrnOutRefIdeal.Value.run m g)

end Cert.HgrnOutValue
-- ==== Proof.HgrnProjRows.lean ====
module

public import proofs.«01_k».proof.Proof.Gen.HgrnProjIdeal.Frame
public import proofs.«01_k».proof.Proof.Gen.HgrnProjIdeal.Skeleton
public import Idealize.ShloMosaic.Lib.WritesUnit
public import Idealize.ShloMosaic.Lib.Pipeline.ValueKit

/-! # The body of the convolution projection, run once

The kernel normalises and modulates the 2304 token rows of a batch once, at the first of the eight column
blocks, into a scratch buffer; every column block then multiplies the scratch rows, 256 at a time, with its
blocks of the weights. The two runs below name what the scratch and the two outputs hold afterwards. -/

@[expose] public section

set_option maxRecDepth 16384
set_option maxHeartbeats 4000000

noncomputable section

namespace Cert.HgrnProjValue

open Cert.HgrnProjIdeal Cert.HgrnProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Rows `256 r … 256 r + 255` of a batch's token block. -/
def xRows (x : Vec F S1x2304x1024 .f32) (r : Fin 9) : Vec F S1x256x1024 .f32 := fun z =>
  x (ix3 0 ⟨256 * r.val + (z 1).val, by have h : (z 1).val < 256 := (z 1).isLt; omega⟩ (z 2))

/-- The normalised and modulated rows `256 r … 256 r + 255`. -/
def hRows (x : Vec F S1x2304x1024 .f32) (md : Vec F S1x3x1024 .f32) (g : Vec F S1x1024 .f32) (r : Fin 9) : Vec F S256x1024 .bf16 :=
  k0_pay5 (k0_pay4 g) (fun z => md (ix3 0 1 (z 2))) (xRows x r) (fun z => md (ix3 0 0 (z 2)))

/-- All normalised and modulated rows: the first 256 by the context's modulation, the others by the latent's. -/
def hAll (x : Vec F S1x2304x1024 .f32) (mc ml : Vec F S1x3x1024 .f32) (g : Vec F S1x1024 .f32) : Vec F S2304x1024 .bf16 := fun y =>
  hRows x (if (y 0).val < 256 then mc else ml) g ⟨(y 0).val / 256, by have h : (y 0).val < 2304 := (y 0).isLt; omega⟩
    (ix2 ⟨(y 0).val % 256, Nat.mod_lt _ (by decide)⟩ (y 1))

/-- Rows `256 r … 256 r + 255` of the scratch. -/
def dRows (d : Vec F S2304x1024 .bf16) (r : Fin 9) : Vec F S256x1024 .bf16 := fun z =>
  d (ix2 ⟨256 * r.val + (z 0).val, by have h : (z 0).val < 256 := (z 0).isLt; omega⟩ (z 1))

/-- The context rows are loaded from row 0 … -/
theorem off1_eq : k0_off1 = ![0, 256 * (0 : Fin 9).val, 0] := by decide +kernel

/-- … and stored from row 0. -/
theorem off2_eq : k0_off2 = ![0, 0] := by decide +kernel

/-- Trip `k` loads rows from `256 k + 256` of the token block. -/
theorem off3_eq : ∀ k : Fin k0_t1_loop.trips, k0_off3 k = ![0, 256 * k.val + 256, 0] := by decide +kernel

/-- Trip `k` stores rows from `256 k + 256` of the scratch. -/
theorem off4_eq : ∀ k : Fin k0_t1_loop.trips, k0_off4 k = ![256 * k.val + 256, 0] := by decide +kernel

variable (c : Dev nD) (i : grid0.Coords) (arg2 : Memref sig .tc .vmem S1x2304x1024 .f32) (harg2 : arg2.IsWhole) (arg3 : Memref sig .tc .vmem S1x3x1024 .f32) (harg3 : arg3.IsWhole) (arg4 : Memref sig .tc .vmem S1x3x1024 .f32) (harg4 : arg4.IsWhole) (arg5 : Memref sig .tc .vmem S1x1024 .f32) (harg5 : arg5.IsWhole) (arg6 : Memref sig .tc .vmem S1x1024x256 .bf16) (harg6 : arg6.IsWhole) (arg7 : Memref sig .tc .vmem S1x1024x256 .bf16) (harg7 : arg7.IsWhole) (arg8 : Memref sig .tc .vmem S1x1024x256 .bf16) (harg8 : arg8.IsWhole) (arg9 : Memref sig .tc .vmem S1x1024x256 .bf16) (harg9 : arg9.IsWhole) (arg10 : Memref sig .tc .vmem S1x1024x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x2304x256 .bf16) (harg13 : arg13.IsWhole) (arg14 : Memref sig .tc .vmem S1x2304x256 .bf16) (harg14 : arg14.IsWhole) (arg15 : Memref sig .tc .vmem S1x2304x256 .bf16) (harg15 : arg15.IsWhole) (arg16 : Memref sig .tc .vmem S1x2304x256 .f32) (harg16 : arg16.IsWhole) (arg17 : Memref sig .tc .vmem S1x2304x256 .bf16) (harg17 : arg17.IsWhole) (arg18 : Memref sig .tc .vmem S1x2304x256 .f32) (harg18 : arg18.IsWhole) (arg19 : Memref sig .tc .vmem S1x2304x256 .bf16) (harg19 : arg19.IsWhole) (arg20 : Memref sig .tc .vmem S2304x1024 .bf16) (harg20 : arg20.IsWhole)

/-- What the scratch holds before trip `k` of the latent rows' loop: the rows of the trips before, and below
    row 256 what it held at the loop's entry. -/
def Filled (h1 : k0_cond1 i = 1#1) (v977 : FVec F S1x1024 .f32) (v978 : Vec F S1x1x1024 .f32) (X2 : BufTy.Contents (Elt F) arg2.view.ty)
    (X4 : BufTy.Contents (Elt F) arg4.view.ty) (G f : BufTy.Contents (Elt F) arg20.view.ty) (k : ℕ) : Prop :=
  (∀ (k' : Fin k0_t1_loop.trips), k'.val < k → ∀ (y : S2304x1024.Idx) (z : S256x1024.Idx), (y 0).val = 256 * k'.val + 256 + (z 0).val → (y 1).val = (z 1).val →
    arg20.view.read (Elt F) f y = k0_pay5 v977 v978
      (arg2.view.readAt (Elt F) (Rect.unit (s := S1x2304x1024) (k0_off3 k') S1x256x1024.size (k0_off3_inb i k' h1)).toLoadRect X2)
      (arg4.view.readAt (Elt F) (Rect.unit (s := S1x3x1024) ![0, 0, 0] S1x1x1024.size inb_S1x3x1024_S1x1x1024_0_0_0).toLoadRect X4) z)
  ∧ ∀ y : S2304x1024.Idx, (y 0).val < 256 → arg20.view.read (Elt F) f y = arg20.view.read (Elt F) G y

/-- Before trip `k` of the latent rows' loop: the token block and the modulation as they were, the scratch filled so far. -/
abbrev latentInv (h1 : k0_cond1 i = 1#1) (v977 : FVec F S1x1024 .f32) (v978 : Vec F S1x1x1024 .f32)
    (X2 : BufTy.Contents (Elt F) arg2.view.ty) (X4 : BufTy.Contents (Elt F) arg4.view.ty) (G : BufTy.Contents (Elt F) arg20.view.ty) (k : ℕ) (_ : Unit) : sProp 𝕄 :=
  iprop((arg2.view.loc (c : Thread nD τ) ↦[arg2.view.set]{fullShare} X2) ∗ (arg4.view.loc (c : Thread nD τ) ↦[arg4.view.set]{fullShare} X4)
    ∗ (∃ f, (arg20.view.loc (c : Thread nD τ) ↦[arg20.view.set]{fullShare} f) ∗ ⌜Filled i arg2 arg4 arg20 h1 v977 v978 X2 X4 G f k⌝))

/-- A trip of the latent rows' loop stores its 256 rows. -/
theorem latent_step (E : Set ℕ) (h1 : k0_cond1 i = 1#1) (v977 : FVec F S1x1024 .f32) (v978 : Vec F S1x1x1024 .f32)
    (X2 : BufTy.Contents (Elt F) arg2.view.ty) (X4 : BufTy.Contents (Elt F) arg4.view.ty) (G : BufTy.Contents (Elt F) arg20.view.ty)
    (k : Fin k0_t1_loop.trips) (acc : Unit) :
    latentInv c i arg2 arg4 arg20 h1 v977 v978 X2 X4 G k acc
      ⊢ wp Idealize.ShloMosaic.frame (wpE (defs₀ (F := F)) Variants.none (c : Thread nD τ) none) E
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 v977 v978 k acc)
        (latentInv c i arg2 arg4 arg20 h1 v977 v978 X2 X4 G (k.val + 1)) := by
  have hk : k.val < 8 := Nat.lt_of_lt_of_le k.isLt k0_t1_abs.2.1
  unfold k0_t1_body
  iintro ⟨H2, H4, ⟨%f, HS, %hf⟩⟩
  sl_exec
  sl_step
  isplitl [H2]; · iexact H2
  isplitl [H4]; · iexact H4
  iexists _; isplitl [HS]; · iexact HS
  ipureintro
  refine ⟨fun k' hk' y z h0 h1' => ?_, fun y hy => ?_⟩
  · by_cases hkk : k' = k
    · subst hkk
      exact View.read_writes_cons_rows_of_mem _ _ _ _ _ y z (off4_eq k') h0 h1'
    · have hlt : k'.val < k.val := by have : k'.val ≠ k.val := fun h => hkk (Fin.ext h); omega
      have hz : (z 0).val < 256 := (z 0).isLt
      rw [View.read_writes_cons_rows_of_not_mem _ _ _ _ _ y (off4_eq k) (rfl : _ = 256) (Or.inl (by omega))]
      exact hf.1 k' hlt y z h0 h1'
  · rw [View.read_writes_cons_rows_of_not_mem _ _ _ _ _ y (off4_eq k) (rfl : _ = 256) (Or.inl (by omega))]
    exact hf.2 y hy

/-- A loop by its invariant, in front of the rest of the program. -/
theorem loop_then {w : ℕ} {lb ub st : BitVec w} {hok : Scf.OK lb ub st} (c : Dev nD) (E : Set ℕ)
    {body : Fin (Scf.trips lb ub st) → Unit → Prog _ Unit} (inv : ℕ → Unit → sProp 𝕄)
    (step : ∀ (k : Fin (Scf.trips lb ub st)) (acc : Unit), inv k acc ⊢ wp Idealize.ShloMosaic.frame (wpE (defs₀ (F := F)) Variants.none (c : Thread nD τ) none) E (body k acc) (inv (k.val + 1)))
    {β : Type} {kk : Unit → Prog _ β} {Q : β → sProp 𝕄} :
    iprop(inv 0 () ∗ (∀ acc, inv (Scf.trips lb ub st) acc -∗ wp Idealize.ShloMosaic.frame (wpE (defs₀ (F := F)) Variants.none (c : Thread nD τ) none) E (kk acc) Q))
      ⊢ wp Idealize.ShloMosaic.frame (wpE (defs₀ (F := F)) Variants.none (c : Thread nD τ) none) E (Scf.for lb ub st hok () body >>= kk) Q :=
  BI.wand_elim (Scf.wp_for_bind Idealize.ShloMosaic.frame _ E lb ub st hok () body inv step)

/-- The queries: `silu` of the projection. -/
def outQ (d : Vec F S2304x1024 .bf16) (w : Vec F S1x1024x256 .bf16) : Vec F S1x2304x256 .bf16 := fun y =>
  k0_pay22 (k0_pay14 (k0_pay8 (dRows d ⟨(y 1).val / 256, by have h : (y 1).val < 2304 := (y 1).isLt; omega⟩) w) k0_pay13)
    (ix3 0 ⟨(y 1).val % 256, Nat.mod_lt _ (by decide)⟩ (y 2))

/-- The values. -/
def outV (d : Vec F S2304x1024 .bf16) (w : Vec F S1x1024x256 .bf16) : Vec F S1x2304x256 .bf16 := fun y =>
  k0_pay23 (k0_pay9 (dRows d ⟨(y 1).val / 256, by have h : (y 1).val < 2304 := (y 1).isLt; omega⟩) w)
    (ix3 0 ⟨(y 1).val % 256, Nat.mod_lt _ (by decide)⟩ (y 2))

/-- The output gate: `silu` of the projection. -/
def outGate (d : Vec F S2304x1024 .bf16) (w : Vec F S1x1024x256 .bf16) : Vec F S1x2304x256 .bf16 := fun y =>
  k0_pay24 (k0_pay15 (k0_pay10 (dRows d ⟨(y 1).val / 256, by have h : (y 1).val < 2304 := (y 1).isLt; omega⟩) w))
    (ix3 0 ⟨(y 1).val % 256, Nat.mod_lt _ (by decide)⟩ (y 2))

/-- The forward forget gate's logarithm. -/
def outGF (d : Vec F S2304x1024 .bf16) (w : Vec F S1x1024x256 .bf16) (b : Vec F S1x256 .f32) : Vec F S1x2304x256 .f32 := fun y =>
  k0_pay25 (k0_pay17 (k0_pay6 b) (k0_pay11 (dRows d ⟨(y 1).val / 256, by have h : (y 1).val < 2304 := (y 1).isLt; omega⟩) w))
    (ix3 0 ⟨(y 1).val % 256, Nat.mod_lt _ (by decide)⟩ (y 2))

/-- The forward keys. -/
def outKF (d : Vec F S2304x1024 .bf16) (w : Vec F S1x1024x256 .bf16) (b : Vec F S1x256 .f32) : Vec F S1x2304x256 .bf16 := fun y =>
  k0_pay26 (k0_pay18 (k0_pay6 b) (k0_pay11 (dRows d ⟨(y 1).val / 256, by have h : (y 1).val < 2304 := (y 1).isLt; omega⟩) w))
    (ix3 0 ⟨(y 1).val % 256, Nat.mod_lt _ (by decide)⟩ (y 2))

/-- The backward forget gate's logarithm. -/
def outGB (d : Vec F S2304x1024 .bf16) (w : Vec F S1x1024x256 .bf16) (b : Vec F S1x256 .f32) : Vec F S1x2304x256 .f32 := fun y =>
  k0_pay27 (k0_pay19 (k0_pay7 b) (k0_pay12 (dRows d ⟨(y 1).val / 256, by have h : (y 1).val < 2304 := (y 1).isLt; omega⟩) w)) (k0_pay20 (k0_pay7 b))
    (ix3 0 ⟨(y 1).val % 256, Nat.mod_lt _ (by decide)⟩ (y 2))

/-- The backward keys. -/
def outKB (d : Vec F S2304x1024 .bf16) (w : Vec F S1x1024x256 .bf16) (b : Vec F S1x256 .f32) : Vec F S1x2304x256 .bf16 := fun y =>
  k0_pay29 (k0_pay28 (k0_pay19 (k0_pay7 b) (k0_pay12 (dRows d ⟨(y 1).val / 256, by have h : (y 1).val < 2304 := (y 1).isLt; omega⟩) w)) (k0_pay20 (k0_pay7 b)))
    (ix3 0 ⟨(y 1).val % 256, Nat.mod_lt _ (by decide)⟩ (y 2))

omit [FloatOps F] [Named F] in
/-- An output stored in nine row blocks reads block by block. -/
theorem tiles_read {sp : Space} {φ : EltTy} (v : View sig .tc sp S1x2304x256 φ) (f : BufTy.Contents (Elt F) v.ty) (P : Fin 9 → Vec F S1x256x256 φ)
    (h : ∀ (r : Fin 9) (a : Fin 3), (![0, 256 * r.val, 0] : Fin 3 → ℕ) a + S1x256x256.size a ≤ S1x2304x256.size a) :
    v.read (Elt F) (v.writes (Elt F) f [⟨Rect.unit (s := S1x2304x256) ![0, 2048, 0] S1x256x256.size (h 8), P 8⟩,
      ⟨Rect.unit (s := S1x2304x256) ![0, 1792, 0] S1x256x256.size (h 7), P 7⟩, ⟨Rect.unit (s := S1x2304x256) ![0, 1536, 0] S1x256x256.size (h 6), P 6⟩,
      ⟨Rect.unit (s := S1x2304x256) ![0, 1280, 0] S1x256x256.size (h 5), P 5⟩, ⟨Rect.unit (s := S1x2304x256) ![0, 1024, 0] S1x256x256.size (h 4), P 4⟩,
      ⟨Rect.unit (s := S1x2304x256) ![0, 768, 0] S1x256x256.size (h 3), P 3⟩, ⟨Rect.unit (s := S1x2304x256) ![0, 512, 0] S1x256x256.size (h 2), P 2⟩,
      ⟨Rect.unit (s := S1x2304x256) ![0, 256, 0] S1x256x256.size (h 1), P 1⟩, ⟨Rect.unit (s := S1x2304x256) ![0, 0, 0] S1x256x256.size (h 0), P 0⟩])
    = fun y => P ⟨(y 1).val / 256, by have h : (y 1).val < 2304 := (y 1).isLt; omega⟩ (ix3 0 ⟨(y 1).val % 256, Nat.mod_lt _ (by decide)⟩ (y 2)) := by
  funext y
  have hy : (y 1).val < 2304 := (y 1).isLt
  have hy0 : (y 0).val = 0 := Nat.lt_one_iff.mp (y 0).isLt
  refine View.read_tilePieces v f S1x256x256.size (fun r : Fin 9 => ![0, 256 * r.val, 0]) h P 9 le_rfl y ⟨(y 1).val / 256, by omega⟩ (by dsimp only; omega)
    (ix3 0 ⟨(y 1).val % 256, Nat.mod_lt _ (by decide)⟩ (y 2)) (fun a => ?_) 1 (fun r hr => ?_)
  · fin_cases a
    · exact hy0
    · exact (Nat.div_add_mod (y 1).val 256).symm
    · exact (Nat.zero_add _).symm
  · have : r.val ≠ (y 1).val / 256 := fun e => hr (Fin.ext e)
    show (y 1).val < 256 * r.val ∨ 256 * r.val + 256 ≤ (y 1).val
    omega

omit [FloatOps F] [Named F] in
/-- A load of 256 scratch rows reads those rows. -/
theorem rows_load (d : Vec F S2304x1024 .bf16) (r : Fin 9) (h : ∀ a : Fin 2, (![256 * r.val, 0] : Fin 2 → ℕ) a + S256x1024.size a ≤ S2304x1024.size a) :
    arg20.view.readAt (Elt F) (Rect.unit (s := S2304x1024) ![256 * r.val, 0] S256x1024.size h).toLoadRect (harg20.unread d) = dRows d r := by
  rw [View.readAt_eq_ld, harg20.read_unread]
  funext z
  refine (View.ld_unit_apply_of d _ _ h z (ix2 ⟨256 * r.val + (z 0).val, by have h : (z 0).val < 256 := (z 0).isLt; omega⟩ (z 1)) fun a => ?_).trans rfl
  fin_cases a
  · rfl
  · exact (Nat.zero_add _).symm

omit [FloatOps F] [Named F] in
theorem full_load3 {sp : Space} (m : Memref sig .tc sp S1x1024x256 .bf16) (hm : m.IsWhole) (x : Vec F S1x1024x256 .bf16) :
    m.view.readAt (Elt F) (Rect.unit (s := S1x1024x256) ![0, 0, 0] S1x1024x256.size inb_S1x1024x256_S1x1024x256_0_0_0).toLoadRect (hm.unread x) = x := by
  rw [View.readAt_eq_ld, hm.read_unread]
  funext z
  refine View.ld_unit_apply_of x _ _ _ z z fun a => ?_
  fin_cases a <;> exact (Nat.zero_add _).symm

omit [FloatOps F] [Named F] in
theorem full_load2 {sp : Space} (m : Memref sig .tc sp S1x256 .f32) (hm : m.IsWhole) (x : Vec F S1x256 .f32) :
    m.view.readAt (Elt F) (Rect.unit (s := S1x256) ![0, 0] S1x256.size inb_S1x256_S1x256_0_0).toLoadRect (hm.unread x) = x := by
  rw [View.readAt_eq_ld, hm.read_unread]
  funext z
  refine View.ld_unit_apply_of x _ _ _ z z fun a => ?_
  fin_cases a <;> exact (Nat.zero_add _).symm

omit [FloatOps F] [Named F] in
theorem gain_load {sp : Space} (m : Memref sig .tc sp S1x1024 .f32) (hm : m.IsWhole) (x : Vec F S1x1024 .f32) :
    m.view.readAt (Elt F) (Rect.unit (s := S1x1024) ![0, 0] S1x1024.size inb_S1x1024_S1x1024_0_0).toLoadRect (hm.unread x) = x := by
  rw [View.readAt_eq_ld, hm.read_unread]
  funext z
  refine View.ld_unit_apply_of x _ _ _ z z fun a => ?_
  fin_cases a <;> exact (Nat.zero_add _).symm

omit [FloatOps F] [Named F] in
theorem mod_load {sp : Space} (m : Memref sig .tc sp S1x3x1024 .f32) (hm : m.IsWhole) (x : Vec F S1x3x1024 .f32) (r : Fin 3)
    (h : ∀ a : Fin 3, (![0, r.val, 0] : Fin 3 → ℕ) a + S1x1x1024.size a ≤ S1x3x1024.size a) :
    m.view.readAt (Elt F) (Rect.unit (s := S1x3x1024) ![0, r.val, 0] S1x1x1024.size h).toLoadRect (hm.unread x) = fun z => x (ix3 0 r (z 2)) := by
  rw [View.readAt_eq_ld, hm.read_unread]
  funext z
  have h0 : (z 0).val = 0 := Nat.lt_one_iff.mp (z 0).isLt
  have h1 : (z 1).val = 0 := Nat.lt_one_iff.mp (z 1).isLt
  refine View.ld_unit_apply_of x _ _ _ z (ix3 0 r (z 2)) fun a => ?_
  fin_cases a
  · show 0 = 0 + (z 0).val
    omega
  · show r.val = r.val + (z 1).val
    omega
  · exact (Nat.zero_add _).symm

omit [FloatOps F] [Named F] in
theorem tok_load (x : Vec F S1x2304x1024 .f32) (r : Fin 9) (off : Fin 3 → ℕ) (ho : off = ![0, 256 * r.val, 0])
    (h : ∀ a : Fin 3, off a + S1x256x1024.size a ≤ S1x2304x1024.size a) :
    arg2.view.readAt (Elt F) (Rect.unit (s := S1x2304x1024) off S1x256x1024.size h).toLoadRect (harg2.unread x) = xRows x r := by
  subst ho
  rw [View.readAt_eq_ld, harg2.read_unread]
  funext z
  have h0 : (z 0).val = 0 := Nat.lt_one_iff.mp (z 0).isLt
  refine (View.ld_unit_apply_of x _ _ h z (ix3 0 ⟨256 * r.val + (z 1).val, by have h : (z 1).val < 256 := (z 1).isLt; omega⟩ (z 2)) fun a => ?_).trans rfl
  fin_cases a
  · show 0 = 0 + (z 0).val
    omega
  · rfl
  · exact (Nat.zero_add _).symm

/-- One block of 256 rows, normalised and modulated, from the loads that make it. -/
theorem latent_rows {sp : Space} (m : Memref sig .tc sp S1x3x1024 .f32) (hm : m.IsWhole) (x : Vec F S1x2304x1024 .f32) (md : Vec F S1x3x1024 .f32) (g : Vec F S1x1024 .f32) (r : Fin 9)
    (off : Fin 3 → ℕ) (ho : off = ![0, 256 * r.val, 0]) (h : ∀ a : Fin 3, off a + S1x256x1024.size a ≤ S1x2304x1024.size a) (z : S256x1024.Idx) :
    k0_pay5 (k0_pay4 (arg5.view.readAt (Elt F) (Rect.unit (s := S1x1024) ![0, 0] S1x1024.size inb_S1x1024_S1x1024_0_0).toLoadRect (harg5.unread g)))
      (m.view.readAt (Elt F) (Rect.unit (s := S1x3x1024) ![0, 1, 0] S1x1x1024.size inb_S1x3x1024_S1x1x1024_0_1_0).toLoadRect (hm.unread md))
      (arg2.view.readAt (Elt F) (Rect.unit (s := S1x2304x1024) off S1x256x1024.size h).toLoadRect (harg2.unread x))
      (m.view.readAt (Elt F) (Rect.unit (s := S1x3x1024) ![0, 0, 0] S1x1x1024.size inb_S1x3x1024_S1x1x1024_0_0_0).toLoadRect (hm.unread md)) z
    = hRows x md g r z := by
  rw [gain_load, tok_load arg2 harg2 x r off ho h]
  have e1 := mod_load m hm md 1 inb_S1x3x1024_S1x1x1024_0_1_0
  have e0 := mod_load m hm md 0 inb_S1x3x1024_S1x1x1024_0_0_0
  exact congrFun (congrArg₂ (fun a b => k0_pay5 (k0_pay4 g) a (xRows x r) b) e1 e0) z

omit [FloatOps F] [Named F] in
theorem row_inb (r : Fin 9) (a : Fin 2) : (![256 * r.val, 0] : Fin 2 → ℕ) a + S256x1024.size a ≤ S2304x1024.size a := by
  revert r a; decide

omit [FloatOps F] [Named F] in
theorem tile_inb (r : Fin 9) (a : Fin 3) : (![0, 256 * r.val, 0] : Fin 3 → ℕ) a + S1x256x256.size a ≤ S1x2304x256.size a := by
  revert r a; decide

/-! Each output's row block, from the loads that make it. -/

abbrev loadsQ (d : Vec F S2304x1024 .bf16) (w : Vec F S1x1024x256 .bf16) (r : Fin 9) : Vec F S1x256x256 .bf16 :=
  k0_pay22 (k0_pay14 (k0_pay8 (arg20.view.readAt (Elt F) (Rect.unit (s := S2304x1024) ![256 * r.val, 0] S256x1024.size (row_inb r)).toLoadRect (harg20.unread d)) (arg6.view.readAt (Elt F) (Rect.unit (s := S1x1024x256) ![0, 0, 0] S1x1024x256.size inb_S1x1024x256_S1x1024x256_0_0_0).toLoadRect (harg6.unread w))) k0_pay13)

theorem tileQ (d : Vec F S2304x1024 .bf16) (w : Vec F S1x1024x256 .bf16) (r : Fin 9) :
    k0_pay22 (k0_pay14 (k0_pay8 (arg20.view.readAt (Elt F) (Rect.unit (s := S2304x1024) ![256 * r.val, 0] S256x1024.size (row_inb r)).toLoadRect (harg20.unread d)) (arg6.view.readAt (Elt F) (Rect.unit (s := S1x1024x256) ![0, 0, 0] S1x1024x256.size inb_S1x1024x256_S1x1024x256_0_0_0).toLoadRect (harg6.unread w))) k0_pay13)
    = k0_pay22 (k0_pay14 (k0_pay8 (dRows d r) w) k0_pay13) := by
  rw [rows_load, full_load3]

abbrev loadsV (d : Vec F S2304x1024 .bf16) (w : Vec F S1x1024x256 .bf16) (r : Fin 9) : Vec F S1x256x256 .bf16 :=
  k0_pay23 (k0_pay9 (arg20.view.readAt (Elt F) (Rect.unit (s := S2304x1024) ![256 * r.val, 0] S256x1024.size (row_inb r)).toLoadRect (harg20.unread d)) (arg7.view.readAt (Elt F) (Rect.unit (s := S1x1024x256) ![0, 0, 0] S1x1024x256.size inb_S1x1024x256_S1x1024x256_0_0_0).toLoadRect (harg7.unread w)))

theorem tileV (d : Vec F S2304x1024 .bf16) (w : Vec F S1x1024x256 .bf16) (r : Fin 9) :
    k0_pay23 (k0_pay9 (arg20.view.readAt (Elt F) (Rect.unit (s := S2304x1024) ![256 * r.val, 0] S256x1024.size (row_inb r)).toLoadRect (harg20.unread d)) (arg7.view.readAt (Elt F) (Rect.unit (s := S1x1024x256) ![0, 0, 0] S1x1024x256.size inb_S1x1024x256_S1x1024x256_0_0_0).toLoadRect (harg7.unread w)))
    = k0_pay23 (k0_pay9 (dRows d r) w) := by
  rw [rows_load, full_load3]

abbrev loadsGate (d : Vec F S2304x1024 .bf16) (w : Vec F S1x1024x256 .bf16) (r : Fin 9) : Vec F S1x256x256 .bf16 :=
  k0_pay24 (k0_pay15 (k0_pay10 (arg20.view.readAt (Elt F) (Rect.unit (s := S2304x1024) ![256 * r.val, 0] S256x1024.size (row_inb r)).toLoadRect (harg20.unread d)) (arg8.view.readAt (Elt F) (Rect.unit (s := S1x1024x256) ![0, 0, 0] S1x1024x256.size inb_S1x1024x256_S1x1024x256_0_0_0).toLoadRect (harg8.unread w))))

theorem tileGate (d : Vec F S2304x1024 .bf16) (w : Vec F S1x1024x256 .bf16) (r : Fin 9) :
    k0_pay24 (k0_pay15 (k0_pay10 (arg20.view.readAt (Elt F) (Rect.unit (s := S2304x1024) ![256 * r.val, 0] S256x1024.size (row_inb r)).toLoadRect (harg20.unread d)) (arg8.view.readAt (Elt F) (Rect.unit (s := S1x1024x256) ![0, 0, 0] S1x1024x256.size inb_S1x1024x256_S1x1024x256_0_0_0).toLoadRect (harg8.unread w))))
    = k0_pay24 (k0_pay15 (k0_pay10 (dRows d r) w)) := by
  rw [rows_load, full_load3]

abbrev loadsGF (d : Vec F S2304x1024 .bf16) (w : Vec F S1x1024x256 .bf16) (b : Vec F S1x256 .f32) (r : Fin 9) : Vec F S1x256x256 .f32 :=
  k0_pay25 (k0_pay17 (k0_pay6 (arg11.view.readAt (Elt F) (Rect.unit (s := S1x256) ![0, 0] S1x256.size inb_S1x256_S1x256_0_0).toLoadRect (harg11.unread b))) (k0_pay11 (arg20.view.readAt (Elt F) (Rect.unit (s := S2304x1024) ![256 * r.val, 0] S256x1024.size (row_inb r)).toLoadRect (harg20.unread d)) (arg9.view.readAt (Elt F) (Rect.unit (s := S1x1024x256) ![0, 0, 0] S1x1024x256.size inb_S1x1024x256_S1x1024x256_0_0_0).toLoadRect (harg9.unread w))))

theorem tileGF (d : Vec F S2304x1024 .bf16) (w : Vec F S1x1024x256 .bf16) (b : Vec F S1x256 .f32) (r : Fin 9) :
    k0_pay25 (k0_pay17 (k0_pay6 (arg11.view.readAt (Elt F) (Rect.unit (s := S1x256) ![0, 0] S1x256.size inb_S1x256_S1x256_0_0).toLoadRect (harg11.unread b))) (k0_pay11 (arg20.view.readAt (Elt F) (Rect.unit (s := S2304x1024) ![256 * r.val, 0] S256x1024.size (row_inb r)).toLoadRect (harg20.unread d)) (arg9.view.readAt (Elt F) (Rect.unit (s := S1x1024x256) ![0, 0, 0] S1x1024x256.size inb_S1x1024x256_S1x1024x256_0_0_0).toLoadRect (harg9.unread w))))
    = k0_pay25 (k0_pay17 (k0_pay6 b) (k0_pay11 (dRows d r) w)) := by
  rw [rows_load, full_load3, full_load2]

abbrev loadsKF (d : Vec F S2304x1024 .bf16) (w : Vec F S1x1024x256 .bf16) (b : Vec F S1x256 .f32) (r : Fin 9) : Vec F S1x256x256 .bf16 :=
  k0_pay26 (k0_pay18 (k0_pay6 (arg11.view.readAt (Elt F) (Rect.unit (s := S1x256) ![0, 0] S1x256.size inb_S1x256_S1x256_0_0).toLoadRect (harg11.unread b))) (k0_pay11 (arg20.view.readAt (Elt F) (Rect.unit (s := S2304x1024) ![256 * r.val, 0] S256x1024.size (row_inb r)).toLoadRect (harg20.unread d)) (arg9.view.readAt (Elt F) (Rect.unit (s := S1x1024x256) ![0, 0, 0] S1x1024x256.size inb_S1x1024x256_S1x1024x256_0_0_0).toLoadRect (harg9.unread w))))

theorem tileKF (d : Vec F S2304x1024 .bf16) (w : Vec F S1x1024x256 .bf16) (b : Vec F S1x256 .f32) (r : Fin 9) :
    k0_pay26 (k0_pay18 (k0_pay6 (arg11.view.readAt (Elt F) (Rect.unit (s := S1x256) ![0, 0] S1x256.size inb_S1x256_S1x256_0_0).toLoadRect (harg11.unread b))) (k0_pay11 (arg20.view.readAt (Elt F) (Rect.unit (s := S2304x1024) ![256 * r.val, 0] S256x1024.size (row_inb r)).toLoadRect (harg20.unread d)) (arg9.view.readAt (Elt F) (Rect.unit (s := S1x1024x256) ![0, 0, 0] S1x1024x256.size inb_S1x1024x256_S1x1024x256_0_0_0).toLoadRect (harg9.unread w))))
    = k0_pay26 (k0_pay18 (k0_pay6 b) (k0_pay11 (dRows d r) w)) := by
  rw [rows_load, full_load3, full_load2]

abbrev loadsGB (d : Vec F S2304x1024 .bf16) (w : Vec F S1x1024x256 .bf16) (b : Vec F S1x256 .f32) (r : Fin 9) : Vec F S1x256x256 .f32 :=
  k0_pay27 (k0_pay19 (k0_pay7 (arg12.view.readAt (Elt F) (Rect.unit (s := S1x256) ![0, 0] S1x256.size inb_S1x256_S1x256_0_0).toLoadRect (harg12.unread b))) (k0_pay12 (arg20.view.readAt (Elt F) (Rect.unit (s := S2304x1024) ![256 * r.val, 0] S256x1024.size (row_inb r)).toLoadRect (harg20.unread d)) (arg10.view.readAt (Elt F) (Rect.unit (s := S1x1024x256) ![0, 0, 0] S1x1024x256.size inb_S1x1024x256_S1x1024x256_0_0_0).toLoadRect (harg10.unread w)))) (k0_pay20 (k0_pay7 (arg12.view.readAt (Elt F) (Rect.unit (s := S1x256) ![0, 0] S1x256.size inb_S1x256_S1x256_0_0).toLoadRect (harg12.unread b))))

theorem tileGB (d : Vec F S2304x1024 .bf16) (w : Vec F S1x1024x256 .bf16) (b : Vec F S1x256 .f32) (r : Fin 9) :
    k0_pay27 (k0_pay19 (k0_pay7 (arg12.view.readAt (Elt F) (Rect.unit (s := S1x256) ![0, 0] S1x256.size inb_S1x256_S1x256_0_0).toLoadRect (harg12.unread b))) (k0_pay12 (arg20.view.readAt (Elt F) (Rect.unit (s := S2304x1024) ![256 * r.val, 0] S256x1024.size (row_inb r)).toLoadRect (harg20.unread d)) (arg10.view.readAt (Elt F) (Rect.unit (s := S1x1024x256) ![0, 0, 0] S1x1024x256.size inb_S1x1024x256_S1x1024x256_0_0_0).toLoadRect (harg10.unread w)))) (k0_pay20 (k0_pay7 (arg12.view.readAt (Elt F) (Rect.unit (s := S1x256) ![0, 0] S1x256.size inb_S1x256_S1x256_0_0).toLoadRect (harg12.unread b))))
    = k0_pay27 (k0_pay19 (k0_pay7 b) (k0_pay12 (dRows d r) w)) (k0_pay20 (k0_pay7 b)) := by
  rw [rows_load, full_load3, full_load2]

abbrev loadsKB (d : Vec F S2304x1024 .bf16) (w : Vec F S1x1024x256 .bf16) (b : Vec F S1x256 .f32) (r : Fin 9) : Vec F S1x256x256 .bf16 :=
  k0_pay29 (k0_pay28 (k0_pay19 (k0_pay7 (arg12.view.readAt (Elt F) (Rect.unit (s := S1x256) ![0, 0] S1x256.size inb_S1x256_S1x256_0_0).toLoadRect (harg12.unread b))) (k0_pay12 (arg20.view.readAt (Elt F) (Rect.unit (s := S2304x1024) ![256 * r.val, 0] S256x1024.size (row_inb r)).toLoadRect (harg20.unread d)) (arg10.view.readAt (Elt F) (Rect.unit (s := S1x1024x256) ![0, 0, 0] S1x1024x256.size inb_S1x1024x256_S1x1024x256_0_0_0).toLoadRect (harg10.unread w)))) (k0_pay20 (k0_pay7 (arg12.view.readAt (Elt F) (Rect.unit (s := S1x256) ![0, 0] S1x256.size inb_S1x256_S1x256_0_0).toLoadRect (harg12.unread b)))))

theorem tileKB (d : Vec F S2304x1024 .bf16) (w : Vec F S1x1024x256 .bf16) (b : Vec F S1x256 .f32) (r : Fin 9) :
    k0_pay29 (k0_pay28 (k0_pay19 (k0_pay7 (arg12.view.readAt (Elt F) (Rect.unit (s := S1x256) ![0, 0] S1x256.size inb_S1x256_S1x256_0_0).toLoadRect (harg12.unread b))) (k0_pay12 (arg20.view.readAt (Elt F) (Rect.unit (s := S2304x1024) ![256 * r.val, 0] S256x1024.size (row_inb r)).toLoadRect (harg20.unread d)) (arg10.view.readAt (Elt F) (Rect.unit (s := S1x1024x256) ![0, 0, 0] S1x1024x256.size inb_S1x1024x256_S1x1024x256_0_0_0).toLoadRect (harg10.unread w)))) (k0_pay20 (k0_pay7 (arg12.view.readAt (Elt F) (Rect.unit (s := S1x256) ![0, 0] S1x256.size inb_S1x256_S1x256_0_0).toLoadRect (harg12.unread b)))))
    = k0_pay29 (k0_pay28 (k0_pay19 (k0_pay7 b) (k0_pay12 (dRows d r) w)) (k0_pay20 (k0_pay7 b))) := by
  rw [rows_load, full_load3, full_load2]

end Cert.HgrnProjValue

end
-- ==== Proof.HgrnProjRest.lean ====
module

public import proofs.«01_k».proof.Proof.HgrnProjRows

/-! # The recurrence's projection, one grid point: a later column block -/

@[expose] public section

set_option maxRecDepth 16384
set_option maxHeartbeats 4000000

noncomputable section

namespace Cert.HgrnProjValue

open Cert.HgrnProjIdeal Cert.HgrnProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S1x2304x1024 .f32) (harg2 : arg2.IsWhole) (arg3 : Memref sig .tc .vmem S1x3x1024 .f32) (harg3 : arg3.IsWhole) (arg4 : Memref sig .tc .vmem S1x3x1024 .f32) (harg4 : arg4.IsWhole) (arg5 : Memref sig .tc .vmem S1x1024 .f32) (harg5 : arg5.IsWhole) (arg6 : Memref sig .tc .vmem S1x1024x256 .bf16) (harg6 : arg6.IsWhole) (arg7 : Memref sig .tc .vmem S1x1024x256 .bf16) (harg7 : arg7.IsWhole) (arg8 : Memref sig .tc .vmem S1x1024x256 .bf16) (harg8 : arg8.IsWhole) (arg9 : Memref sig .tc .vmem S1x1024x256 .bf16) (harg9 : arg9.IsWhole) (arg10 : Memref sig .tc .vmem S1x1024x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x2304x256 .bf16) (harg13 : arg13.IsWhole) (arg14 : Memref sig .tc .vmem S1x2304x256 .bf16) (harg14 : arg14.IsWhole) (arg15 : Memref sig .tc .vmem S1x2304x256 .bf16) (harg15 : arg15.IsWhole) (arg16 : Memref sig .tc .vmem S1x2304x256 .f32) (harg16 : arg16.IsWhole) (arg17 : Memref sig .tc .vmem S1x2304x256 .bf16) (harg17 : arg17.IsWhole) (arg18 : Memref sig .tc .vmem S1x2304x256 .f32) (harg18 : arg18.IsWhole) (arg19 : Memref sig .tc .vmem S1x2304x256 .bf16) (harg19 : arg19.IsWhole) (arg20 : Memref sig .tc .vmem S2304x1024 .bf16) (harg20 : arg20.IsWhole)

/-- A body at a later column block: the scratch is only read. -/
theorem run_rest (x0 : Vec F S1x2304x1024 .f32) (x1 x2 : Vec F S1x3x1024 .f32) (x3 : Vec F S1x1024 .f32) (x4 x5 x6 x7 x8 : Vec F S1x1024x256 .bf16)
    (x9 x10 : Vec F S1x256 .f32) (d : Vec F S2304x1024 .bf16) (hc0 : ¬ k0_cond1 i = 1#1) (E : Set ℕ) (K : PUnit → sProp 𝕄) :
    iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare x8
      ∗ owns (c : Thread nD τ) arg11 fullShare x9
      ∗ owns (c : Thread nD τ) arg12 fullShare x10
      ∗ (∃ e, owns (c : Thread nD τ) arg13 fullShare e)
      ∗ (∃ e, owns (c : Thread nD τ) arg14 fullShare e)
      ∗ (∃ e, owns (c : Thread nD τ) arg15 fullShare e)
      ∗ (∃ e, owns (c : Thread nD τ) arg16 fullShare e)
      ∗ (∃ e, owns (c : Thread nD τ) arg17 fullShare e)
      ∗ (∃ e, owns (c : Thread nD τ) arg18 fullShare e)
      ∗ (∃ e, owns (c : Thread nD τ) arg19 fullShare e)
      ∗ owns (c : Thread nD τ) arg20 fullShare d
      ∗ (iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare x8
      ∗ owns (c : Thread nD τ) arg11 fullShare x9
      ∗ owns (c : Thread nD τ) arg12 fullShare x10
      ∗ owns (c : Thread nD τ) arg13 fullShare (outQ d x4)
      ∗ owns (c : Thread nD τ) arg14 fullShare (outV d x5)
      ∗ owns (c : Thread nD τ) arg15 fullShare (outGate d x6)
      ∗ owns (c : Thread nD τ) arg16 fullShare (outGF d x7 x9)
      ∗ owns (c : Thread nD τ) arg17 fullShare (outKF d x7 x9)
      ∗ owns (c : Thread nD τ) arg18 fullShare (outGB d x8 x10)
      ∗ owns (c : Thread nD τ) arg19 fullShare (outKB d x8 x10)
      ∗ owns (c : Thread nD τ) arg20 fullShare d) -∗ K ⟨⟩))
    ⊢ wp Idealize.ShloMosaic.frame (wpE (defs₀ (F := F)) Variants.none c none) E
        (cc0_hgrn_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_hgrn_proj_eq_skeleton]
  unfold cc0_hgrn_proj_skel
  simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%e13, %f13, %hf13, H13⟩, ⟨%e14, %f14, %hf14, H14⟩, ⟨%e15, %f15, %hf15, H15⟩, ⟨%e16, %f16, %hf16, H16⟩, ⟨%e17, %f17, %hf17, H17⟩, ⟨%e18, %f18, %hf18, H18⟩, ⟨%e19, %f19, %hf19, H19⟩, ⟨%f20, %hf20, H20⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg20.eq_unread hf20
  sl_exec (disch := first | sl_exact hc0)
  sl_step
  iapply HK
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; rotate_left
    · iexact H13
    · ipureintro
      exact (tiles_read arg13.view f13 (loadsQ arg6 harg6 arg20 harg20 d x4) tile_inb).trans (funext fun y => congrFun (tileQ arg6 harg6 arg20 harg20 d x4 _) _)
  isplitl [H14]
  · iexists _; isplitr; rotate_left
    · iexact H14
    · ipureintro
      exact (tiles_read arg14.view f14 (loadsV arg7 harg7 arg20 harg20 d x5) tile_inb).trans (funext fun y => congrFun (tileV arg7 harg7 arg20 harg20 d x5 _) _)
  isplitl [H15]
  · iexists _; isplitr; rotate_left
    · iexact H15
    · ipureintro
      exact (tiles_read arg15.view f15 (loadsGate arg8 harg8 arg20 harg20 d x6) tile_inb).trans (funext fun y => congrFun (tileGate arg8 harg8 arg20 harg20 d x6 _) _)
  isplitl [H16]
  · iexists _; isplitr; rotate_left
    · iexact H16
    · ipureintro
      exact (tiles_read arg16.view f16 (loadsGF arg9 harg9 arg11 harg11 arg20 harg20 d x7 x9) tile_inb).trans (funext fun y => congrFun (tileGF arg9 harg9 arg11 harg11 arg20 harg20 d x7 x9 _) _)
  isplitl [H17]
  · iexists _; isplitr; rotate_left
    · iexact H17
    · ipureintro
      exact (tiles_read arg17.view f17 (loadsKF arg9 harg9 arg11 harg11 arg20 harg20 d x7 x9) tile_inb).trans (funext fun y => congrFun (tileKF arg9 harg9 arg11 harg11 arg20 harg20 d x7 x9 _) _)
  isplitl [H18]
  · iexists _; isplitr; rotate_left
    · iexact H18
    · ipureintro
      exact (tiles_read arg18.view f18 (loadsGB arg10 harg10 arg12 harg12 arg20 harg20 d x8 x10) tile_inb).trans (funext fun y => congrFun (tileGB arg10 harg10 arg12 harg12 arg20 harg20 d x8 x10 _) _)
  isplitl [H19]
  · iexists _; isplitr; rotate_left
    · iexact H19
    · ipureintro
      exact (tiles_read arg19.view f19 (loadsKB arg10 harg10 arg12 harg12 arg20 harg20 d x8 x10) tile_inb).trans (funext fun y => congrFun (tileKB arg10 harg10 arg12 harg12 arg20 harg20 d x8 x10 _) _)
  iexists _; isplitr; · ipureintro; exact harg20.read_unread _
  iexact H20

end Cert.HgrnProjValue

end
-- ==== Proof.HgrnProjFirst.lean ====
module

public import proofs.«01_k».proof.Proof.HgrnProjRows

/-! # The recurrence's projection, one grid point: the first column block -/

@[expose] public section

set_option maxRecDepth 16384
set_option maxHeartbeats 4000000

noncomputable section

namespace Cert.HgrnProjValue

open Cert.HgrnProjIdeal Cert.HgrnProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S1x2304x1024 .f32) (harg2 : arg2.IsWhole) (arg3 : Memref sig .tc .vmem S1x3x1024 .f32) (harg3 : arg3.IsWhole) (arg4 : Memref sig .tc .vmem S1x3x1024 .f32) (harg4 : arg4.IsWhole) (arg5 : Memref sig .tc .vmem S1x1024 .f32) (harg5 : arg5.IsWhole) (arg6 : Memref sig .tc .vmem S1x1024x256 .bf16) (harg6 : arg6.IsWhole) (arg7 : Memref sig .tc .vmem S1x1024x256 .bf16) (harg7 : arg7.IsWhole) (arg8 : Memref sig .tc .vmem S1x1024x256 .bf16) (harg8 : arg8.IsWhole) (arg9 : Memref sig .tc .vmem S1x1024x256 .bf16) (harg9 : arg9.IsWhole) (arg10 : Memref sig .tc .vmem S1x1024x256 .bf16) (harg10 : arg10.IsWhole) (arg11 : Memref sig .tc .vmem S1x256 .f32) (harg11 : arg11.IsWhole) (arg12 : Memref sig .tc .vmem S1x256 .f32) (harg12 : arg12.IsWhole) (arg13 : Memref sig .tc .vmem S1x2304x256 .bf16) (harg13 : arg13.IsWhole) (arg14 : Memref sig .tc .vmem S1x2304x256 .bf16) (harg14 : arg14.IsWhole) (arg15 : Memref sig .tc .vmem S1x2304x256 .bf16) (harg15 : arg15.IsWhole) (arg16 : Memref sig .tc .vmem S1x2304x256 .f32) (harg16 : arg16.IsWhole) (arg17 : Memref sig .tc .vmem S1x2304x256 .bf16) (harg17 : arg17.IsWhole) (arg18 : Memref sig .tc .vmem S1x2304x256 .f32) (harg18 : arg18.IsWhole) (arg19 : Memref sig .tc .vmem S1x2304x256 .bf16) (harg19 : arg19.IsWhole) (arg20 : Memref sig .tc .vmem S2304x1024 .bf16) (harg20 : arg20.IsWhole)

/-- A body at the first column block: the scratch is filled, then used. -/
theorem run_first (x0 : Vec F S1x2304x1024 .f32) (x1 x2 : Vec F S1x3x1024 .f32) (x3 : Vec F S1x1024 .f32) (x4 x5 x6 x7 x8 : Vec F S1x1024x256 .bf16)
    (x9 x10 : Vec F S1x256 .f32) (hc0 : k0_cond1 i = 1#1) (E : Set ℕ) (K : PUnit → sProp 𝕄) :
    iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare x8
      ∗ owns (c : Thread nD τ) arg11 fullShare x9
      ∗ owns (c : Thread nD τ) arg12 fullShare x10
      ∗ (∃ e, owns (c : Thread nD τ) arg13 fullShare e)
      ∗ (∃ e, owns (c : Thread nD τ) arg14 fullShare e)
      ∗ (∃ e, owns (c : Thread nD τ) arg15 fullShare e)
      ∗ (∃ e, owns (c : Thread nD τ) arg16 fullShare e)
      ∗ (∃ e, owns (c : Thread nD τ) arg17 fullShare e)
      ∗ (∃ e, owns (c : Thread nD τ) arg18 fullShare e)
      ∗ (∃ e, owns (c : Thread nD τ) arg19 fullShare e)
      ∗ (∃ e, owns (c : Thread nD τ) arg20 fullShare e)
      ∗ (iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare x6
      ∗ owns (c : Thread nD τ) arg9 fullShare x7
      ∗ owns (c : Thread nD τ) arg10 fullShare x8
      ∗ owns (c : Thread nD τ) arg11 fullShare x9
      ∗ owns (c : Thread nD τ) arg12 fullShare x10
      ∗ owns (c : Thread nD τ) arg13 fullShare (outQ (hAll x0 x1 x2 x3) x4)
      ∗ owns (c : Thread nD τ) arg14 fullShare (outV (hAll x0 x1 x2 x3) x5)
      ∗ owns (c : Thread nD τ) arg15 fullShare (outGate (hAll x0 x1 x2 x3) x6)
      ∗ owns (c : Thread nD τ) arg16 fullShare (outGF (hAll x0 x1 x2 x3) x7 x9)
      ∗ owns (c : Thread nD τ) arg17 fullShare (outKF (hAll x0 x1 x2 x3) x7 x9)
      ∗ owns (c : Thread nD τ) arg18 fullShare (outGB (hAll x0 x1 x2 x3) x8 x10)
      ∗ owns (c : Thread nD τ) arg19 fullShare (outKB (hAll x0 x1 x2 x3) x8 x10)
      ∗ owns (c : Thread nD τ) arg20 fullShare (hAll x0 x1 x2 x3)) -∗ K ⟨⟩))
    ⊢ wp Idealize.ShloMosaic.frame (wpE (defs₀ (F := F)) Variants.none c none) E
        (cc0_hgrn_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_hgrn_proj_eq_skeleton]
  unfold cc0_hgrn_proj_skel
  simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%e13, %f13, %hf13, H13⟩, ⟨%e14, %f14, %hf14, H14⟩, ⟨%e15, %f15, %hf15, H15⟩, ⟨%e16, %f16, %hf16, H16⟩, ⟨%e17, %f17, %hf17, H17⟩, ⟨%e18, %f18, %hf18, H18⟩, ⟨%e19, %f19, %hf19, H19⟩, ⟨%e20, %f20, %hf20, H20⟩, HK⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  sl_exec (disch := first | sl_exact hc0)
  iapply (loop_then c E (latentInv c i arg2 arg4 arg20 hc0 _ _ (harg2.unread x0) (harg4.unread x2) _)
    (latent_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 E hc0 _ _ _ _ _))
  isplitl [H2 H4 H20]
  · isplitl [H2]; · iexact H2
    isplitl [H4]; · iexact H4
    iexists _; isplitl [H20]; · iexact H20
    ipureintro
    exact ⟨fun _ h => absurd h (Nat.not_lt_zero _), fun _ _ => rfl⟩
  iintro %_ ⟨H2, H4, ⟨%f, H20, %hf⟩⟩
  have hf20 : arg20.view.read (Elt F) f = hAll x0 x1 x2 x3 := by
    funext y
    have hy : (y 0).val < 2304 := (y 0).isLt
    by_cases hlt : (y 0).val < 256
    · refine (hf.2 y hlt).trans ((View.read_writes_cons_rows_of_mem _ _ _ _ _ y (ix2 ⟨(y 0).val, hlt⟩ (y 1)) off2_eq (Nat.zero_add _).symm rfl).trans ?_)
      refine (latent_rows arg2 harg2 arg5 harg5 arg3 harg3 x0 x1 x3 0 _ off1_eq _ _).trans ?_
      unfold hAll
      rw [if_pos hlt]
      have e0 : (0 : Fin 9) = ⟨(y 0).val / 256, by omega⟩ := Fin.ext (Nat.div_eq_of_lt hlt).symm
      have e1 : (⟨(y 0).val, hlt⟩ : Fin 256) = ⟨(y 0).val % 256, Nat.mod_lt _ (by decide)⟩ := Fin.ext (Nat.mod_eq_of_lt hlt).symm
      exact congrArg₂ (fun a b => hRows x0 x1 x3 a (ix2 b (y 1))) e0 e1
    · have ht : k0_t1_loop.trips = 8 := by decide +kernel
      refine (hf.1 ⟨(y 0).val / 256 - 1, by omega⟩ (by dsimp only; show _ < k0_t1_loop.trips; omega) y (ix2 ⟨(y 0).val % 256, Nat.mod_lt _ (by decide)⟩ (y 1))
        (by show (y 0).val = 256 * ((y 0).val / 256 - 1) + 256 + (y 0).val % 256; omega) rfl).trans ?_
      refine (latent_rows arg2 harg2 arg5 harg5 arg4 harg4 x0 x2 x3 ⟨(y 0).val / 256, by omega⟩ _ ((off3_eq _).trans ?_) _ _).trans ?_
      · have e : 256 * ((y 0).val / 256 - 1) + 256 = 256 * ((y 0).val / 256) := by omega
        exact congrArg (fun q => ![0, q, 0]) e
      · unfold hAll
        rw [if_neg hlt]
  obtain rfl := harg20.eq_unread hf20
  sl_exec
  sl_step
  iapply HK
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; rotate_left
    · iexact H13
    · ipureintro
      exact (tiles_read arg13.view f13 (loadsQ arg6 harg6 arg20 harg20 (hAll x0 x1 x2 x3) x4) tile_inb).trans (funext fun y => congrFun (tileQ arg6 harg6 arg20 harg20 (hAll x0 x1 x2 x3) x4 _) _)
  isplitl [H14]
  · iexists _; isplitr; rotate_left
    · iexact H14
    · ipureintro
      exact (tiles_read arg14.view f14 (loadsV arg7 harg7 arg20 harg20 (hAll x0 x1 x2 x3) x5) tile_inb).trans (funext fun y => congrFun (tileV arg7 harg7 arg20 harg20 (hAll x0 x1 x2 x3) x5 _) _)
  isplitl [H15]
  · iexists _; isplitr; rotate_left
    · iexact H15
    · ipureintro
      exact (tiles_read arg15.view f15 (loadsGate arg8 harg8 arg20 harg20 (hAll x0 x1 x2 x3) x6) tile_inb).trans (funext fun y => congrFun (tileGate arg8 harg8 arg20 harg20 (hAll x0 x1 x2 x3) x6 _) _)
  isplitl [H16]
  · iexists _; isplitr; rotate_left
    · iexact H16
    · ipureintro
      exact (tiles_read arg16.view f16 (loadsGF arg9 harg9 arg11 harg11 arg20 harg20 (hAll x0 x1 x2 x3) x7 x9) tile_inb).trans (funext fun y => congrFun (tileGF arg9 harg9 arg11 harg11 arg20 harg20 (hAll x0 x1 x2 x3) x7 x9 _) _)
  isplitl [H17]
  · iexists _; isplitr; rotate_left
    · iexact H17
    · ipureintro
      exact (tiles_read arg17.view f17 (loadsKF arg9 harg9 arg11 harg11 arg20 harg20 (hAll x0 x1 x2 x3) x7 x9) tile_inb).trans (funext fun y => congrFun (tileKF arg9 harg9 arg11 harg11 arg20 harg20 (hAll x0 x1 x2 x3) x7 x9 _) _)
  isplitl [H18]
  · iexists _; isplitr; rotate_left
    · iexact H18
    · ipureintro
      exact (tiles_read arg18.view f18 (loadsGB arg10 harg10 arg12 harg12 arg20 harg20 (hAll x0 x1 x2 x3) x8 x10) tile_inb).trans (funext fun y => congrFun (tileGB arg10 harg10 arg12 harg12 arg20 harg20 (hAll x0 x1 x2 x3) x8 x10 _) _)
  isplitl [H19]
  · iexists _; isplitr; rotate_left
    · iexact H19
    · ipureintro
      exact (tiles_read arg19.view f19 (loadsKB arg10 harg10 arg12 harg12 arg20 harg20 (hAll x0 x1 x2 x3) x8 x10) tile_inb).trans (funext fun y => congrFun (tileKB arg10 harg10 arg12 harg12 arg20 harg20 (hAll x0 x1 x2 x3) x8 x10 _) _)
  iexists _; isplitr; · ipureintro; exact harg20.read_unread _
  iexact H20

end Cert.HgrnProjValue

end
-- ==== Proof.HgrnProjFrame.lean ====
module

public import proofs.«01_k».proof.Proof.HgrnProjRest
public import proofs.«01_k».proof.Proof.HgrnProjFirst
public import Idealize.ShloMosaic.Lib.Pipeline.FrameBody
public import Idealize.ShloMosaic.Lib.WordCmp
public import Idealize.ShloMosaic.Lib.Claim

/-! # The pipeline around the body

The scratch carries the normalised rows of a batch from the batch's first column block to its last. With that as
the invariant between the points, every point's body leaves its output blocks at the values the run names, and the
launch gives what the output arrays hold in the end. -/

@[expose] public section

set_option maxRecDepth 16384
set_option maxHeartbeats 4000000

noncomputable section

namespace Cert.HgrnProjValue

open Cert.HgrnProjIdeal Cert.HgrnProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first column block of a batch is every eighth point. -/
theorem first_iff (t : Fin grid0.N) : k0_cond1 (grid0.coords t) = 1#1 ↔ t.val % 8 = 0 := by
  have ht : t.val < 128 := Nat.lt_of_lt_of_eq t.isLt N_0
  have e0 : (grid0.coords t 0).val = t.val / 8 % 16 := Pipeline.Grid.coords_val t 0 (by decide) rfl
  have e1 : (grid0.coords t 1).val = t.val / 1 % 8 := Pipeline.Grid.coords_val t 1 (by decide) rfl
  simp only [k0_cond1, e0, e1]
  word_cmp

theorem index_in (t : Fin cfg0.N) : win0_0.index t = ![t.val / 8, 0, 0] ∧ win0_1.index t = ![0, 0, 0]
    ∧ win0_2.index t = ![t.val / 8, 0, 0] ∧ win0_3.index t = ![0, 0] := by
  revert t; decide +kernel

/-- The token rows of batch `b`. -/
def xB (c : Dev nD) (b : Fin 16) : Vec F S1x2304x1024 .f32 := fun y => m ((c : Thread nD τ).loc main_arg0) (ix3 b (y 1) (y 2))
/-- The context's modulation, the same for every batch. -/
def mcB (c : Dev nD) : Vec F S1x3x1024 .f32 := fun y => m ((c : Thread nD τ).loc main_arg1) (ix3 0 (y 1) (y 2))
/-- The latent's modulation of batch `b`. -/
def mlB (c : Dev nD) (b : Fin 16) : Vec F S1x3x1024 .f32 := fun y => m ((c : Thread nD τ).loc main_arg2) (ix3 b (y 1) (y 2))
/-- The norm's gain. -/
def gB (c : Dev nD) : Vec F S1x1024 .f32 := fun y => V m c (Pipeline.arrRef spec0 3) (ix2 0 (y 1))

/-- The batch of a point. -/
def batch (t : Fin cfg0.N) : Fin 16 := ⟨t.val / 8, by have h : t.val < 128 := Nat.lt_of_lt_of_eq t.isLt N_0; omega⟩

theorem blk_x (c : Dev nD) (t : Fin cfg0.N) : iblk m c 0 t = xB m c (batch t) := by
  obtain ⟨e0, e1, e2, e3⟩ := index_in t
  funext y
  unfold xB batch
  blk_ext [iblk, V_main_arg0, e0]

theorem blk_mc (c : Dev nD) (t : Fin cfg0.N) : iblk m c 1 t = mcB m c := by
  obtain ⟨e0, e1, e2, e3⟩ := index_in t
  funext y
  unfold mcB
  blk_ext [iblk, V_main_arg1, e1]

theorem blk_ml (c : Dev nD) (t : Fin cfg0.N) : iblk m c 2 t = mlB m c (batch t) := by
  obtain ⟨e0, e1, e2, e3⟩ := index_in t
  funext y
  unfold mlB batch
  blk_ext [iblk, V_main_arg2, e2]

theorem blk_g (c : Dev nD) (t : Fin cfg0.N) : iblk m c 3 t = gB m c := by
  obtain ⟨e0, e1, e2, e3⟩ := index_in t
  funext y
  unfold gB
  blk_ext [iblk, e3]

/-- The normalised and modulated rows of the batch of point `t`. -/
def hB (c : Dev nD) (t : Fin cfg0.N) : Vec F S2304x1024 .bf16 := hAll (xB m c (batch t)) (mcB m c) (mlB m c (batch t)) (gB m c)

/-- The scratch operand. -/
abbrev scM : Memref sig .tc .vmem S2304x1024 .bf16 := Memref.whole cc0_scratch0

/-- Between the points: after a point that is not a batch's last the scratch holds the batch's rows. -/
def carried (c : Dev nD) (k : Fin (cfg0.N + 1)) : sProp 𝕄 :=
  iprop((∃ d, ⌜∀ t : Fin cfg0.N, t.val = k.val → t.val % 8 ≠ 0 → d = hB m c t⌝ ∗ owns (c : Thread nD τ) scM fullShare d) ∗ (∃ r, prngReg c r))

theorem carried_eq (c : Dev nD) (k : Fin (cfg0.N + 1)) : (carried m c k : sProp 𝕄)
    = iprop((∃ d, ⌜∀ t : Fin cfg0.N, t.val = k.val → t.val % 8 ≠ 0 → d = hB m c t⌝ ∗ owns (c : Thread nD τ) scM fullShare d) ∗ (∃ r, prngReg c r)) := rfl

theorem scoped_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

theorem carried_in (c : Dev nD) : (Pipeline.ΦA spec0 c : sProp 𝕄) ⊢ carried m c 0 := by
  rw [scoped_eq]
  unfold carried
  iintro ⟨⟨%d, H⟩, Hg⟩
  isplitl [H]
  · iexists d; isplitr
    · ipureintro
      intro t h0 h1
      exact absurd (by rw [h0]; rfl) h1
    iexact H
  iexact Hg

theorem carried_out (c : Dev nD) (k : Fin (cfg0.N + 1)) : carried m c k ⊢ (Pipeline.ΦA spec0 c : sProp 𝕄) := by
  rw [scoped_eq]
  unfold carried
  iintro ⟨⟨%d, %hd, H⟩, Hg⟩
  isplitl [H]
  · iexists d; iexact H
  iexact Hg

/-- The proof data: the inputs stay, the outputs are as named, the scratch carries the rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outQ (hB m c t) (iblk m c 4 t)
    | ⟨12, _⟩ => outV (hB m c t) (iblk m c 5 t)
    | ⟨13, _⟩ => outGate (hB m c t) (iblk m c 6 t)
    | ⟨14, _⟩ => outGF (hB m c t) (iblk m c 7 t) (iblk m c 9 t)
    | ⟨15, _⟩ => outKF (hB m c t) (iblk m c 7 t) (iblk m c 9 t)
    | ⟨16, _⟩ => outGB (hB m c t) (iblk m c 8 t) (iblk m c 10 t)
    | ⟨17, _⟩ => outKB (hB m c t) (iblk m c 8 t) (iblk m c 10 t)
    | ⟨_ + 18, h⟩ => absurd h (Nat.not_lt.2 (Nat.le_add_left _ _))
  Φ k := carried m c k
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = outQ (hB m c t) (iblk m c 4 t) := by dsimp only [dats]
theorem after12 (c : Dev nD) (t : Fin cfg0.N) : (dats m 0 c).after 12 t = outV (hB m c t) (iblk m c 5 t) := by dsimp only [dats]
theorem after13 (c : Dev nD) (t : Fin cfg0.N) : (dats m 0 c).after 13 t = outGate (hB m c t) (iblk m c 6 t) := by dsimp only [dats]
theorem after14 (c : Dev nD) (t : Fin cfg0.N) : (dats m 0 c).after 14 t = outGF (hB m c t) (iblk m c 7 t) (iblk m c 9 t) := by dsimp only [dats]
theorem after15 (c : Dev nD) (t : Fin cfg0.N) : (dats m 0 c).after 15 t = outKF (hB m c t) (iblk m c 7 t) (iblk m c 9 t) := by dsimp only [dats]
theorem after16 (c : Dev nD) (t : Fin cfg0.N) : (dats m 0 c).after 16 t = outGB (hB m c t) (iblk m c 8 t) (iblk m c 10 t) := by dsimp only [dats]
theorem after17 (c : Dev nD) (t : Fin cfg0.N) : (dats m 0 c).after 17 t = outKB (hB m c t) (iblk m c 8 t) (iblk m c 10 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

/-- What the body finds at point `t` … -/
def bodyPre (c : Dev nD) (t : Fin cfg0.N) : sProp 𝕄 :=
  iprop(carried m c t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d)))

/-- … and what it leaves. -/
def bodyPost (c : Dev nD) (t : Fin cfg0.N) : sProp 𝕄 :=
  iprop(carried m c t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t))

/-- The rows stay those of the batch until its last point. -/
theorem carried_next (c : Dev nD) (t : Fin cfg0.N) :
    iprop(owns (c : Thread nD τ) scM fullShare (hB m c t) ∗ (∃ r, prngReg c r)) ⊢ (carried m c t.succ : sProp 𝕄) := by
  unfold carried
  iintro ⟨H, Hg⟩
  isplitl [H]
  · iexists _; isplitr
    · ipureintro
      intro t' h0 h1
      have h0' : t'.val = t.val + 1 := h0
      have hb : batch t' = batch t := Fin.ext (by show t'.val / 8 = t.val / 8; omega)
      unfold hB
      rw [hb]
    iexact H
  iexact Hg

/-- The body at any point. -/
theorem body_at (c : Dev nD) (t : Fin cfg0.N) :
    bodyPre m c t ⊢ wp Idealize.ShloMosaic.frame (wpE (defs₀ (F := F)) Variants.none c none) Set.univ (bodyAt0 t) (fun _ => bodyPost m c t) := by
  have hh : hAll (iblk m c 0 t) (iblk m c 1 t) (iblk m c 2 t) (iblk m c 3 t) = hB m c t := by
    rw [blk_x, blk_mc, blk_ml, blk_g]; rfl
  unfold bodyPre bodyPost bodyAt0
  simp only [before0, before1, before2, before3, before4, before5, before6, before7, before8, before9, before10]
  rw [show (dats m 0 c).owesAt () t.succ = (dats m 0 c).owesAt () t.castSucc from rfl, after0, after1, after2, after3, after4, after5, after6, after7, after8, after9, after10, after11, after12, after13, after14, after15, after16, after17]
  rw [carried_eq m c t.castSucc]
  by_cases h0 : t.val % 8 = 0
  · rw [← hh]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    icases HS with ⟨⟨%d, %hd, HS⟩, Hg⟩
    iapply (run_first c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ((first_iff t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS]; · iexists _; iexact HS
    iintro ⟨H0, H1, H2, H3, H4, H5, H6, H7, H8, H9, H10, H11, H12, H13, H14, H15, H16, H17, HS⟩
    rw [hh]
    isplitl [HS Hg]
    · iapply (carried_next m c t)
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  · iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    icases HS with ⟨⟨%d, %hd, HS⟩, Hg⟩
    obtain rfl := hd t rfl h0
    iapply (run_rest c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (hB m c t) (fun h => h0 ((first_iff t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS]; · iexact HS
    iintro ⟨H0, H1, H2, H3, H4, H5, H6, H7, H8, H9, H10, H11, H12, H13, H14, H15, H16, H17, HS⟩
    isplitl [HS Hg]
    · iapply (carried_next m c t)
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17

theorem body_row (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  exact triple_restated (body_at m c t) rfl .rfl fun _ => .rfl

set_option backward.isDefEq.respectTransparency.types false in
/-- The launch: the arrays end as the proof data says, every counter at zero. -/
theorem run_all : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_ok m c).loose) (hq := fun _ _ _ => rfl) (howed := fun _ _ => rfl) (V := V m) (hmain := hmain m Variants.none)
    (hA := A_eq m) (hin := carried_in m) (hout := fun c => carried_out m c _)

/-- The arguments end unchanged and every counter reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_all m ρ))) ((θ_run defs _ _).mono (fun _ h => h.2) (run_all m ρ))

end Cert.HgrnProjValue

end
-- ==== Proof.HgrnProjBits.lean ====
module

public import proofs.«01_k».proof.Proof.HgrnProjFrame
public import proofs.«01_k».proof.Proof.Gen.HgrnProj
public import proofs.«01_k».proof.Defs

/-! # The printed program's frame

The one rewritten operation is a constant, read by name in the idealisation. Reading the name as the machine's own
rounding of it gives back the printed program, so the frame proved for any reading of the name is the frame of both. -/

@[expose] public section

set_option maxRecDepth 100000
set_option maxHeartbeats 4000000

noncomputable section

namespace Cert.HgrnProjBits

open Idealize.ShloMosaic Idealize.SL.Sem

/-- A named constant read as its printed bits. -/
abbrev nb : Named Bits := ⟨fun _ _ {φ} bits => Scalar.ofBits φ bits⟩

set_option backward.isDefEq.respectTransparency.types false in
theorem main_eq : @Cert.HgrnProj.main Bits _ Cert.HgrnProj.Gen.facts = @Cert.HgrnProjIdeal.main Bits _ Cert.HgrnProjIdeal.Gen.facts := by rfl

set_option backward.isDefEq.respectTransparency.types false in
theorem bodies_eq : @Cert.HgrnProj.defs₀ Bits _ Cert.HgrnProj.Gen.facts = @Cert.HgrnProjIdeal.defs₀ Bits _ nb Cert.HgrnProjIdeal.Gen.facts := by
  unfold Cert.HgrnProj.defs₀ Cert.HgrnProjIdeal.defs₀
  congr 1
  funext l a
  match l, a with
  | ⟨0, _⟩, (t, s) =>
    dsimp only
    rfl

set_option backward.isDefEq.respectTransparency.types false in
/-- The printed kernel ends with its arguments as they were. -/
theorem printed_frame : Cert.quiescent_HgrnProj := by
  intro m g _
  have hd : @Cert.HgrnProj.defs Bits _ Cert.HgrnProj.Gen.facts = @Cert.HgrnProjIdeal.defs Bits _ nb Cert.HgrnProjIdeal.Gen.facts :=
    congrArg (Pipeline.defs Cert.HgrnProj.pcfgs) bodies_eq
  rw [hd, main_eq]
  exact @Cert.HgrnProjValue.frame Bits _ nb m g

end Cert.HgrnProjBits

end
-- ==== Proof.HgrnProjValue.lean ====
module

public import proofs.«01_k».proof.Proof.HgrnProjFrame
public import proofs.«01_k».proof.Proof.ConvProjValue
public import Idealize.ShloMosaic.Lib.Pipeline.ValueKit

/-! # What the recurrence's projection leaves in its output arrays

Over the reals, for every batch, token and column of the projected rows: the queries and the output gate are `silu`
of their columns, the values are their columns, and each direction's forget gate `f` gives its logarithm to base two
and its keys `1 - f`. -/

@[expose] public section

set_option maxRecDepth 16384
set_option maxHeartbeats 2000000

noncomputable section

namespace Cert.HgrnProjValue

open Cert.HgrnProjIdeal Cert.HgrnProjIdeal.Gen Idealize.ShloMosaic Idealize.ShloMosaic.TcCoe
open Cert.ConvProjValue (entry rows)

/-- A projected entry. -/
def proj (h : Fin 1024 → EReal) (w : Vec Ideal S2x1024x10240 .f32) (n : Fin 10240) : EReal := ∑ k, h k * w (ix3 0 k n)

/-- The product of a value and its logistic function. -/
def silu (p : EReal) : EReal := p * ConvProjValue.logistic p

/-- A forget gate: between its lower bound and one. -/
def forget (l p : EReal) : EReal := l + (1 - l) * ConvProjValue.logistic p

/-- The logarithm to base two. -/
def log2 (f : EReal) : EReal := Ideal.log f * (((Real.log 2)⁻¹ : ℝ) : EReal)

/-- An array read off the projection's columns from `o` on. -/
def columns (o : ℕ) (ho : o + 2048 ≤ 10240) (φ : EReal → Fin 2048 → EReal) (x : Vec Ideal S16x2304x1024 .f32) (mc : Vec Ideal S1x3x1024 .f32)
    (ml : Vec Ideal S16x3x1024 .f32) (g : Vec Ideal S1024 .f32) (w : Vec Ideal S2x1024x10240 .f32) (i : S16x2304x2048.Idx) : EReal :=
  φ (proj (rows x mc ml g (i 0) (i 1)) w ⟨o + (i 2).val, by have h : (i 2).val < 2048 := (i 2).isLt; omega⟩) (i 2)

section Specs
variable (x : Vec Ideal S16x2304x1024 .f32) (mc : Vec Ideal S1x3x1024 .f32) (ml : Vec Ideal S16x3x1024 .f32) (g : Vec Ideal S1024 .f32)
  (w : Vec Ideal S2x1024x10240 .f32) (lb : Vec Ideal S2x2x2048 .f32)

/-- The queries. -/
def specQ : Vec Ideal S16x2304x2048 .bf16 := columns 0 (by decide) (fun p _ => silu p) x mc ml g w
/-- The values. -/
def specV : Vec Ideal S16x2304x2048 .bf16 := columns 2048 (by decide) (fun p _ => p) x mc ml g w
/-- The output gate. -/
def specGate : Vec Ideal S16x2304x2048 .bf16 := columns 8192 (by decide) (fun p _ => silu p) x mc ml g w
/-- The forward decays. -/
def specGF : Vec Ideal S16x2304x2048 .f32 := columns 4096 (by decide) (fun p n => log2 (forget (lb (ix3 0 0 n)) p)) x mc ml g w
/-- The forward keys. -/
def specKF : Vec Ideal S16x2304x2048 .bf16 := columns 4096 (by decide) (fun p n => 1 - forget (lb (ix3 0 0 n)) p) x mc ml g w
/-- The backward decays. -/
def specGB : Vec Ideal S16x2304x2048 .f32 := columns 6144 (by decide) (fun p n => log2 (forget (lb (ix3 1 0 n)) p)) x mc ml g w
/-- The backward keys. -/
def specKB : Vec Ideal S16x2304x2048 .bf16 := columns 6144 (by decide) (fun p n => 1 - forget (lb (ix3 1 0 n)) p) x mc ml g w
end Specs

theorem hRows_apply (x : Vec Ideal S1x2304x1024 .f32) (md : Vec Ideal S1x3x1024 .f32) (g : Vec Ideal S1x1024 .f32) (r : Fin 9) (z : S256x1024.Idx)
    (q : Fin 2304) (hq : q.val = 256 * r.val + (z 0).val) :
    hRows x md g r z = entry (fun k => x (ix3 0 q k)) (g (ix2 0 (z 1))) (md (ix3 0 1 (z 1))) (md (ix3 0 0 (z 1))) (z 1) := by
  have hl : 256 * r.val + (z 0).val < 2304 := hq ▸ q.isLt
  rw [show q = ⟨256 * r.val + (z 0).val, hl⟩ from Fin.ext hq]
  unfold hRows k0_pay5 k0_pay4 xRows entry
  pointwise
  rw [← mul_assoc]

theorem hAll_apply (x : Vec Ideal S1x2304x1024 .f32) (mc ml : Vec Ideal S1x3x1024 .f32) (g : Vec Ideal S1x1024 .f32) (r : Fin 2304) (j : Fin 1024) :
    hAll x mc ml g (ix2 r j) = entry (fun k => x (ix3 0 r k)) (g (ix2 0 j))
      (if r.val < 256 then mc (ix3 0 1 j) else ml (ix3 0 1 j)) (if r.val < 256 then mc (ix3 0 0 j) else ml (ix3 0 0 j)) j := by
  unfold hAll
  rw [hRows_apply _ _ _ _ _ r (Nat.div_add_mod _ _).symm]
  show entry _ _ ((if r.val < 256 then mc else ml) (ix3 0 1 j)) ((if r.val < 256 then mc else ml) (ix3 0 0 j)) j = _
  by_cases h : r.val < 256
  · rw [if_pos h, if_pos h, if_pos h]; rfl
  · rw [if_neg h, if_neg h, if_neg h]; rfl

/-- The named constant's value. -/
theorem named_val : (Named.named κ "inv_ln2" 0x3FB8AA3B#32 : Ideal FTy.f32) = (((Real.log 2)⁻¹ : ℝ) : EReal) :=
  IdealRules.named_const.ideal_named_scalar _ _ _ _ rfl

/-- A block's projected entry. -/
def pr (d : Vec Ideal S2304x1024 .bf16) (w : Vec Ideal S1x1024x256 .bf16) (y : S1x2304x256.Idx) : EReal := ∑ k, d (ix2 (y 1) k) * w (ix3 0 k (y 2))

section Blocks
variable (d : Vec Ideal S2304x1024 .bf16) (w : Vec Ideal S1x1024x256 .bf16) (b : Vec Ideal S1x256 .f32) (y : S1x2304x256.Idx)

theorem outQ_apply : outQ d w y = silu (pr d w y) := by
  unfold outQ k0_pay22 k0_pay14 k0_pay8 k0_pay13 dRows silu ConvProjValue.logistic pr
  pointwise
  simp only [Nat.div_add_mod, zero_sub]
  rfl

theorem outV_apply : outV d w y = pr d w y := by
  unfold outV k0_pay23 k0_pay9 dRows pr
  pointwise
  simp only [Nat.div_add_mod]
  rfl

theorem outGate_apply : outGate d w y = silu (pr d w y) := by
  unfold outGate k0_pay24 k0_pay15 k0_pay10 dRows silu ConvProjValue.logistic pr
  pointwise
  simp only [Nat.div_add_mod, zero_sub]
  rfl

theorem outGF_apply : outGF d w b y = log2 (forget (b (ix2 0 (y 2))) (pr d w y)) := by
  unfold outGF k0_pay25 k0_pay17 k0_pay16 k0_pay11 k0_pay6 dRows log2 forget ConvProjValue.logistic pr
  rw [named_val]
  pointwise
  simp only [Nat.div_add_mod, zero_sub]
  rfl

theorem outKF_apply : outKF d w b y = 1 - forget (b (ix2 0 (y 2))) (pr d w y) := by
  unfold outKF k0_pay26 k0_pay18 k0_pay16 k0_pay11 k0_pay6 dRows forget ConvProjValue.logistic pr
  pointwise
  simp only [Nat.div_add_mod, zero_sub]
  rfl

theorem outGB_apply : outGB d w b y = log2 (forget (b (ix2 0 (y 2))) (pr d w y)) := by
  unfold outGB k0_pay27 k0_pay21 k0_pay19 k0_pay20 k0_pay12 k0_pay7 dRows log2 forget ConvProjValue.logistic pr
  rw [named_val]
  pointwise
  simp only [Nat.div_add_mod, zero_sub]
  rfl

theorem outKB_apply : outKB d w b y = 1 - forget (b (ix2 0 (y 2))) (pr d w y) := by
  unfold outKB k0_pay29 k0_pay28 k0_pay21 k0_pay19 k0_pay20 k0_pay12 k0_pay7 dRows forget ConvProjValue.logistic pr
  pointwise
  simp only [Nat.div_add_mod, zero_sub]
  rfl
end Blocks

variable (m : (ℓ : Loc nD τ sig) → Buf (Elt Ideal) ℓ)

theorem index_w (t : Fin cfg0.N) : win0_4.index t = ![0, 0, t.val % 8] ∧ win0_5.index t = ![0, 0, 8 + t.val % 8]
    ∧ win0_6.index t = ![0, 0, 32 + t.val % 8] ∧ win0_7.index t = ![0, 0, 16 + t.val % 8] ∧ win0_8.index t = ![0, 0, 24 + t.val % 8]
    ∧ win0_9.index t = ![0, t.val % 8] ∧ win0_10.index t = ![0, t.val % 8] := by
  revert t; decide +kernel

theorem index_o (t : Fin cfg0.N) : win0_11.index t = ![t.val / 8, 0, t.val % 8] ∧ win0_12.index t = ![t.val / 8, 0, t.val % 8]
    ∧ win0_13.index t = ![t.val / 8, 0, t.val % 8] ∧ win0_14.index t = ![t.val / 8, 0, t.val % 8] ∧ win0_15.index t = ![t.val / 8, 0, t.val % 8]
    ∧ win0_16.index t = ![t.val / 8, 0, t.val % 8] ∧ win0_17.index t = ![t.val / 8, 0, t.val % 8] := by
  revert t; decide +kernel

/-- The scratch's row during batch `b`. -/
theorem hB_apply (c : Dev nD) (t : Fin cfg0.N) (r : Fin 2304) (j : Fin 1024) :
    hB m c t (ix2 r j) = rows (m ((c : Thread nD τ).loc main_arg0)) (m ((c : Thread nD τ).loc main_arg1)) (m ((c : Thread nD τ).loc main_arg2))
      (m ((c : Thread nD τ).loc main_arg3)) (batch t) r j := by
  unfold hB rows
  rw [hAll_apply]
  have hg : gB m c (ix2 0 j) = m ((c : Thread nD τ).loc main_arg3) (ix1 j) := by
    unfold gB
    entry_read
    pointwise
  rw [hg]
  rfl

theorem weight4 (c : Dev nD) (t : Fin cfg0.N) (k : Fin 1024) (j : Fin 256) (n : Fin 10240) (hn : n.val = 0 + (256 * (t.val % 8) + j.val)) :
    iblk m c 4 t (ix3 0 k j) = m ((c : Thread nD τ).loc main_arg4) (ix3 0 k n) := by
  obtain ⟨e4, e5, e6, e7, e8, e9, e10⟩ := index_w t
  blk_simp [iblk]
  entry_read
  pointwise
  blk_ext [e4, hn]

theorem weight5 (c : Dev nD) (t : Fin cfg0.N) (k : Fin 1024) (j : Fin 256) (n : Fin 10240) (hn : n.val = 2048 + (256 * (t.val % 8) + j.val)) :
    iblk m c 5 t (ix3 0 k j) = m ((c : Thread nD τ).loc main_arg4) (ix3 0 k n) := by
  obtain ⟨e4, e5, e6, e7, e8, e9, e10⟩ := index_w t
  blk_simp [iblk]
  entry_read
  pointwise
  blk_ext [e5, hn]

theorem weight6 (c : Dev nD) (t : Fin cfg0.N) (k : Fin 1024) (j : Fin 256) (n : Fin 10240) (hn : n.val = 8192 + (256 * (t.val % 8) + j.val)) :
    iblk m c 6 t (ix3 0 k j) = m ((c : Thread nD τ).loc main_arg4) (ix3 0 k n) := by
  obtain ⟨e4, e5, e6, e7, e8, e9, e10⟩ := index_w t
  blk_simp [iblk]
  entry_read
  pointwise
  blk_ext [e6, hn]

theorem weight7 (c : Dev nD) (t : Fin cfg0.N) (k : Fin 1024) (j : Fin 256) (n : Fin 10240) (hn : n.val = 4096 + (256 * (t.val % 8) + j.val)) :
    iblk m c 7 t (ix3 0 k j) = m ((c : Thread nD τ).loc main_arg4) (ix3 0 k n) := by
  obtain ⟨e4, e5, e6, e7, e8, e9, e10⟩ := index_w t
  blk_simp [iblk]
  entry_read
  pointwise
  blk_ext [e7, hn]

theorem weight8 (c : Dev nD) (t : Fin cfg0.N) (k : Fin 1024) (j : Fin 256) (n : Fin 10240) (hn : n.val = 6144 + (256 * (t.val % 8) + j.val)) :
    iblk m c 8 t (ix3 0 k j) = m ((c : Thread nD τ).loc main_arg4) (ix3 0 k n) := by
  obtain ⟨e4, e5, e6, e7, e8, e9, e10⟩ := index_w t
  blk_simp [iblk]
  entry_read
  pointwise
  blk_ext [e8, hn]

theorem bound9 (c : Dev nD) (t : Fin cfg0.N) (j : Fin 256) (n : Fin 2048) (hn : n.val = 256 * (t.val % 8) + j.val) :
    iblk m c 9 t (ix2 0 j) = m ((c : Thread nD τ).loc main_arg5) (ix3 0 0 n) := by
  obtain ⟨e4, e5, e6, e7, e8, e9, e10⟩ := index_w t
  blk_simp [iblk]
  entry_read
  pointwise
  blk_ext [e9, hn]

theorem bound10 (c : Dev nD) (t : Fin cfg0.N) (j : Fin 256) (n : Fin 2048) (hn : n.val = 256 * (t.val % 8) + j.val) :
    iblk m c 10 t (ix2 0 j) = m ((c : Thread nD τ).loc main_arg5) (ix3 1 0 n) := by
  obtain ⟨e4, e5, e6, e7, e8, e9, e10⟩ := index_w t
  blk_simp [iblk]
  entry_read
  pointwise
  blk_ext [e10, hn]

/-- The column of the whole array that column `y 2` of point `t`'s block is. -/
def col (t : Fin cfg0.N) (y : S1x2304x256.Idx) : Fin 2048 :=
  ⟨256 * (t.val % 8) + (y 2).val, by have h2 : (y 2).val < 256 := (y 2).isLt; have hm : t.val % 8 < 8 := Nat.mod_lt _ (by decide); omega⟩

/-- A block's projected entry, in the whole projection: the block's weights are the array's columns from `o` on. -/
theorem pr_eq (c : Dev nD) (t : Fin cfg0.N) (w : Vec Ideal S1x1024x256 .bf16) (o : ℕ) (ho : o + 2048 ≤ 10240) (y : S1x2304x256.Idx)
    (hw : ∀ (k : Fin 1024) (n : Fin 10240), n.val = o + (256 * (t.val % 8) + (y 2).val) →
      w (ix3 0 k (y 2)) = m ((c : Thread nD τ).loc main_arg4) (ix3 0 k n)) :
    pr (hB m c t) w y = proj (rows (m ((c : Thread nD τ).loc main_arg0)) (m ((c : Thread nD τ).loc main_arg1)) (m ((c : Thread nD τ).loc main_arg2))
      (m ((c : Thread nD τ).loc main_arg3)) (batch t) (y 1)) (m ((c : Thread nD τ).loc main_arg4))
      ⟨o + (col t y).val, by have h : (col t y).val < 2048 := (col t y).isLt; omega⟩ := by
  unfold pr proj
  refine Finset.sum_congr rfl fun k _ => ?_
  rw [hB_apply m c t (y 1) k, hw k ⟨o + (col t y).val, by have h : (col t y).val < 2048 := (col t y).isLt; omega⟩ rfl]

/-- A block's entry, in the whole array: the block's weights are the array's columns from `o` on. -/
theorem block_at (c : Dev nD) (t : Fin cfg0.N) (w : Vec Ideal S1x1024x256 .bf16) (o : ℕ) (ho : o + 2048 ≤ 10240) (φ : EReal → Fin 2048 → EReal)
    (y : S1x2304x256.Idx) (q : S16x2304x2048.Idx) (hq : ix3 (batch t) (y 1) (col t y) = q)
    (hw : ∀ (k : Fin 1024) (n : Fin 10240), n.val = o + (256 * (t.val % 8) + (y 2).val) →
      w (ix3 0 k (y 2)) = m ((c : Thread nD τ).loc main_arg4) (ix3 0 k n)) :
    φ (pr (hB m c t) w y) (col t y) = columns o ho φ (m ((c : Thread nD τ).loc main_arg0)) (m ((c : Thread nD τ).loc main_arg1))
      (m ((c : Thread nD τ).loc main_arg2)) (m ((c : Thread nD τ).loc main_arg3)) (m ((c : Thread nD τ).loc main_arg4)) q := by
  rw [← hq, pr_eq m c t w o ho y hw]
  rfl

theorem finalQ (c : Dev nD) : (dats m 0 c).arrAt 11 cfg0.N = specQ (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 11 _ (by decide +kernel) fun t hf y => ?_
  rw [after11, outQ_apply]
  exact block_at m c t _ 0 (by decide) (fun p _ => silu p) y _ (by blk_ext [(index_o t).1, batch, col])
    fun k n hn => weight4 m c t k (y 2) n hn

theorem finalV (c : Dev nD) : (dats m 0 c).arrAt 12 cfg0.N = specV (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 12 _ (by decide +kernel) fun t hf y => ?_
  rw [after12, outV_apply]
  exact block_at m c t _ 2048 (by decide) (fun p _ => p) y _ (by blk_ext [(index_o t).2.1, batch, col])
    fun k n hn => weight5 m c t k (y 2) n hn

theorem finalGate (c : Dev nD) : (dats m 0 c).arrAt 13 cfg0.N = specGate (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 13 _ (by decide +kernel) fun t hf y => ?_
  rw [after13, outGate_apply]
  exact block_at m c t _ 8192 (by decide) (fun p _ => silu p) y _ (by blk_ext [(index_o t).2.2.1, batch, col])
    fun k n hn => weight6 m c t k (y 2) n hn

theorem finalGF (c : Dev nD) : (dats m 0 c).arrAt 14 cfg0.N = specGF (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 14 _ (by decide +kernel) fun t hf y => ?_
  rw [after14, outGF_apply, bound9 m c t (y 2) (col t y) rfl]
  exact block_at m c t _ 4096 (by decide) (fun p n => log2 (forget (m ((c : Thread nD τ).loc main_arg5) (ix3 0 0 n)) p)) y _ (by blk_ext [(index_o t).2.2.2.1, batch, col])
    fun k n hn => weight7 m c t k (y 2) n hn

theorem finalKF (c : Dev nD) : (dats m 0 c).arrAt 15 cfg0.N = specKF (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 15 _ (by decide +kernel) fun t hf y => ?_
  rw [after15, outKF_apply, bound9 m c t (y 2) (col t y) rfl]
  exact block_at m c t _ 4096 (by decide) (fun p n => 1 - forget (m ((c : Thread nD τ).loc main_arg5) (ix3 0 0 n)) p) y _ (by blk_ext [(index_o t).2.2.2.2.1, batch, col])
    fun k n hn => weight7 m c t k (y 2) n hn

theorem finalGB (c : Dev nD) : (dats m 0 c).arrAt 16 cfg0.N = specGB (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 16 _ (by decide +kernel) fun t hf y => ?_
  rw [after16, outGB_apply, bound10 m c t (y 2) (col t y) rfl]
  exact block_at m c t _ 6144 (by decide) (fun p n => log2 (forget (m ((c : Thread nD τ).loc main_arg5) (ix3 1 0 n)) p)) y _ (by blk_ext [(index_o t).2.2.2.2.2.1, batch, col])
    fun k n hn => weight8 m c t k (y 2) n hn

theorem finalKB (c : Dev nD) : (dats m 0 c).arrAt 17 cfg0.N = specKB (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 17 _ (by decide +kernel) fun t hf y => ?_
  rw [after17, outKB_apply, bound10 m c t (y 2) (col t y) rfl]
  exact block_at m c t _ 6144 (by decide) (fun p n => 1 - forget (m ((c : Thread nD τ).loc main_arg5) (ix3 1 0 n)) p) y _ (by blk_ext [(index_o t).2.2.2.2.2.2, batch, col])
    fun k n hn => weight8 m c t k (y 2) n hn

end Cert.HgrnProjValue

end
-- ==== Proof.HgrnProjReference.lean ====
module

public import proofs.«01_k».proof.Proof.HgrnProjValue
public import proofs.«01_k».proof.Proof.ConvProjReference
public import proofs.«01_k».proof.Proof.Gen.HgrnProjRefIdeal.Read

/-! # The reference of the recurrence's projection, entry by entry -/

@[expose] public section

set_option maxRecDepth 16384
set_option maxHeartbeats 2000000

noncomputable section

namespace Cert.HgrnProjValue

open Cert.HgrnProjRefIdeal Cert.HgrnProjRefIdeal.Read Idealize.ShloMosaic Idealize.ShloMosaic.TcCoe
open Cert.ConvProjValue (entry rows)

variable (x0 : (⟨S16x2304x1024, .f32⟩ : BufTy).Contents (Elt Ideal)) (x1 : (⟨S1x3x1024, .f32⟩ : BufTy).Contents (Elt Ideal)) (x2 : (⟨S16x3x1024, .f32⟩ : BufTy).Contents (Elt Ideal)) (x3 : (⟨S1024, .f32⟩ : BufTy).Contents (Elt Ideal)) (x4 : (⟨S2x1024x10240, .f32⟩ : BufTy).Contents (Elt Ideal)) (x5 : (⟨S2x2x2048, .f32⟩ : BufTy).Contents (Elt Ideal))

/-- The normalised rows are those of the convolution's projection. -/
theorem ref_rows (b : Fin 16) (r : Fin 2304) (j : Fin 1024) : val_main_v52 x0 x1 x2 x3 (ix3 b r j) = rows x0 x1 x2 x3 b r j :=
  Cert.ConvProjValue.ref_rows x0 x1 x2 x3 b r j

/-- A column of the projection. -/
theorem ref_proj (b : Fin 16) (r : Fin 2304) (n : Fin 10240) : val_main_v55 x0 x1 x2 x3 x4 (ix3 b r n) = proj (rows x0 x1 x2 x3 b r) x4 n := by
  unfold val_main_v55 val_main_v54 val_main_v53 proj
  pointwise
  simp only [ref_rows x0 x1 x2 x3 b r]

theorem two_val : (Ideal.ofBits FTy.f32 0x40000000#32 : EReal) = ((2 : ℝ) : EReal) := by
  simp [Ideal.ofBits, Ideal.ieee, -EReal.coe_mul]; norm_num

/-- Dividing by the logarithm of two is multiplying by its reciprocal. -/
theorem div_log_two (a : EReal) : Ideal.div a (Ideal.log (Ideal.ofBits FTy.f32 0x40000000#32)) = a * (((Real.log 2)⁻¹ : ℝ) : EReal) := by
  have h : Real.log 2 ≠ 0 := (Real.log_pos (by norm_num)).ne'
  rw [two_val, Ideal.log_coe, if_neg (by norm_num), Ideal.div_coe h, one_div]

theorem ref_Q (i : S16x2304x2048.Idx) : val_main_v109 x0 x1 x2 x3 x4 i = specQ x0 x1 x2 x3 x4 i := by
  unfold val_main_v109 val_main_v107 val_main_call0_v5 val_main_call0_v4 val_main_call0_v3 val_main_call0_v2 val_main_call0_v1 val_main_call0_v0 val_main_call0_cst val_main_call0_cst_0 val_main_v56 specQ columns silu ConvProjValue.logistic
  pointwise
  simp only [ref_proj x0 x1 x2 x3 x4 (i 0) (i 1), zero_add]

theorem ref_V (i : S16x2304x2048.Idx) : val_main_v110 x0 x1 x2 x3 x4 i = specV x0 x1 x2 x3 x4 i := by
  unfold val_main_v110 val_main_v57 specV columns
  pointwise
  simp only [ref_proj x0 x1 x2 x3 x4 (i 0) (i 1)]

theorem ref_Gate (i : S16x2304x2048.Idx) : val_main_v111 x0 x1 x2 x3 x4 i = specGate x0 x1 x2 x3 x4 i := by
  unfold val_main_v111 val_main_v108 val_main_call1_v5 val_main_call1_v4 val_main_call1_v3 val_main_call1_v2 val_main_call1_v1 val_main_call1_v0 val_main_call1_cst val_main_call1_cst_0 val_main_v60 specGate columns silu ConvProjValue.logistic
  pointwise
  simp only [ref_proj x0 x1 x2 x3 x4 (i 0) (i 1)]

/-- The forward forget gate. -/
theorem ref_forward (i : S16x2304x2048.Idx) : val_main_v76 x0 x1 x2 x3 x4 x5 i
    = forget (x5 (ix3 0 0 (i 2))) (proj (rows x0 x1 x2 x3 (i 0) (i 1)) x4 ⟨4096 + (i 2).val, by have h : (i 2).val < 2048 := (i 2).isLt; omega⟩) := by
  unfold val_main_v76 val_main_v75 val_main_v74 val_main_v73 val_main_v72 val_main_v71 val_main_v70 val_main_v69 val_main_v68 val_main_v67 val_main_v66 val_main_v65 val_main_v64 val_main_v63 val_main_v62 val_main_v61 val_main_v58 val_main_cst_7 val_main_cst_8 val_main_cst_9 forget ConvProjValue.logistic
  pointwise
  simp only [ref_proj x0 x1 x2 x3 x4 (i 0) (i 1)]

/-- The backward forget gate. -/
theorem ref_backward (i : S16x2304x2048.Idx) : val_main_v99 x0 x1 x2 x3 x4 x5 i
    = forget (x5 (ix3 1 0 (i 2))) (proj (rows x0 x1 x2 x3 (i 0) (i 1)) x4 ⟨6144 + (i 2).val, by have h : (i 2).val < 2048 := (i 2).isLt; omega⟩) := by
  unfold val_main_v99 val_main_v98 val_main_v97 val_main_v96 val_main_v95 val_main_v94 val_main_v93 val_main_v92 val_main_v91 val_main_v90 val_main_v89 val_main_v88 val_main_v87 val_main_v86 val_main_v85 val_main_v84 val_main_v59 val_main_cst_12 val_main_cst_13 val_main_cst_14 forget ConvProjValue.logistic
  pointwise
  simp only [ref_proj x0 x1 x2 x3 x4 (i 0) (i 1)]

theorem ref_GF (i : S16x2304x2048.Idx) : val_main_v81 x0 x1 x2 x3 x4 x5 i = specGF x0 x1 x2 x3 x4 x5 i := by
  unfold val_main_v81 val_main_v80 val_main_v79 val_main_v78 val_main_v77 val_main_cst_10 specGF columns log2
  pointwise
  exact (div_log_two _).trans (congrArg (fun f => Ideal.log f * (((Real.log 2)⁻¹ : ℝ) : EReal)) (ref_forward x0 x1 x2 x3 x4 x5 i))

theorem ref_KF (i : S16x2304x2048.Idx) : val_main_v112 x0 x1 x2 x3 x4 x5 i = specKF x0 x1 x2 x3 x4 x5 i := by
  unfold val_main_v112 val_main_v83 val_main_v82 val_main_cst_11 specKF columns
  pointwise
  exact congrArg (fun f => 1 - f) (ref_forward x0 x1 x2 x3 x4 x5 i)

theorem ref_GB (i : S16x2304x2048.Idx) : val_main_v104 x0 x1 x2 x3 x4 x5 i = specGB x0 x1 x2 x3 x4 x5 i := by
  unfold val_main_v104 val_main_v103 val_main_v102 val_main_v101 val_main_v100 val_main_cst_15 specGB columns log2
  pointwise
  exact (div_log_two _).trans (congrArg (fun f => Ideal.log f * (((Real.log 2)⁻¹ : ℝ) : EReal)) (ref_backward x0 x1 x2 x3 x4 x5 i))

theorem ref_KB (i : S16x2304x2048.Idx) : val_main_v113 x0 x1 x2 x3 x4 x5 i = specKB x0 x1 x2 x3 x4 x5 i := by
  unfold val_main_v113 val_main_v106 val_main_v105 val_main_cst_16 specKB columns
  pointwise
  exact congrArg (fun f => 1 - f) (ref_backward x0 x1 x2 x3 x4 x5 i)

end Cert.HgrnProjValue

end
-- ==== Proof.HgrnProjClaim.lean ====
module

public import proofs.«01_k».proof.Proof.HgrnProjReference
public import proofs.«01_k».proof.Proof.Gen.HgrnProjRefIdeal.Run
public import proofs.«01_k».proof.Defs

/-! # The claims about the recurrence's projection -/

@[expose] public section

set_option maxRecDepth 16384
set_option maxHeartbeats 1000000

noncomputable section

namespace Cert.HgrnProjValue

open Idealize.ShloMosaic Idealize.ShloMosaic.TcCoe Idealize.SL.Sem

/-- The idealised kernel ends with its arguments as they were. -/
theorem ideal_frame : Cert.quiescent_HgrnProjIdeal := fun m g _ => frame m g

/-- The reference ends with its arguments as they were. -/
theorem ref_frame : Cert.quiescent_HgrnProjRefIdeal := fun m g _ =>
  (θ_run _ _ _).mono (fun r h => ⟨fun c => (h c).2.2.2.2.2.2.2, sem_eq_zero_of_no_sems (by decide) r.2⟩) (Cert.HgrnProjRefIdeal.Value.run m g)

/-- The named constant is the reciprocal of the logarithm of two. -/
theorem preserves : Cert.preserves_HgrnProj_HgrnProjIdeal :=
  IdealRules.named_const.statement Cert.HgrnProjIdeal.κ "inv_ln2" .f32 0x3FB8AA3B#32 _ rfl

open Cert.HgrnProjIdeal Cert.HgrnProjIdeal.Gen in
/-- What the launch leaves: the seven outputs at the formulas. -/
theorem run_value (m : (ℓ : Loc nD τ sig) → Buf (Elt Ideal) ℓ) (g : Dev nD → PrngReg) :
    θ_run (Cert.HgrnProjIdeal.defs (F := Ideal)) (onTc (τ := τ) (Cert.HgrnProjIdeal.main (F := Ideal))) ⟨m, fun _ => 0, g⟩ (fun r =>
      (∀ c : Dev nD, r.2.mem ((c : Thread nD τ).loc main_v8_0) = specQ (m ((c : Thread nD τ).loc main_arg0)) (m ((c : Thread nD τ).loc main_arg1)) (m ((c : Thread nD τ).loc main_arg2)) (m ((c : Thread nD τ).loc main_arg3)) (m ((c : Thread nD τ).loc main_arg4)))
      ∧ (∀ c : Dev nD, r.2.mem ((c : Thread nD τ).loc main_v8_1) = specV (m ((c : Thread nD τ).loc main_arg0)) (m ((c : Thread nD τ).loc main_arg1)) (m ((c : Thread nD τ).loc main_arg2)) (m ((c : Thread nD τ).loc main_arg3)) (m ((c : Thread nD τ).loc main_arg4)))
      ∧ (∀ c : Dev nD, r.2.mem ((c : Thread nD τ).loc main_v8_2) = specGate (m ((c : Thread nD τ).loc main_arg0)) (m ((c : Thread nD τ).loc main_arg1)) (m ((c : Thread nD τ).loc main_arg2)) (m ((c : Thread nD τ).loc main_arg3)) (m ((c : Thread nD τ).loc main_arg4)))
      ∧ (∀ c : Dev nD, r.2.mem ((c : Thread nD τ).loc main_v8_3) = specGF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ (∀ c : Dev nD, r.2.mem ((c : Thread nD τ).loc main_v8_4) = specKF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ (∀ c : Dev nD, r.2.mem ((c : Thread nD τ).loc main_v8_5) = specGB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ (∀ c : Dev nD, r.2.mem ((c : Thread nD τ).loc main_v8_6) = specKB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) :=
  (θ_run _ _ _).mono (fun r h => ⟨fun c => ((h.1 c).1 11).trans (finalQ m c), fun c => ((h.1 c).1 12).trans (finalV m c), fun c => ((h.1 c).1 13).trans (finalGate m c), fun c => ((h.1 c).1 14).trans (finalGF m c), fun c => ((h.1 c).1 15).trans (finalKF m c), fun c => ((h.1 c).1 16).trans (finalGB m c), fun c => ((h.1 c).1 17).trans (finalKB m c)⟩) (run_all m g)

/-- Over the reals the kernel computes the reference's seven results. -/
theorem conforms : Cert.algebraic_HgrnProjIdeal_HgrnProjRefIdeal := by
  intro m g m' g' _ hagree
  refine ⟨fun c => _, fun c => _, fun c => _, fun c => _, fun c => _, fun c => _, fun c => _,
    (θ_run _ _ _).mono (fun r h c => ⟨h.1.1 c, h.1.2.1 c, h.1.2.2.1 c, h.1.2.2.2.1 c, h.1.2.2.2.2.1 c, h.1.2.2.2.2.2.1 c, h.1.2.2.2.2.2.2 c, h.2.1 c⟩) (θ_run_and (run_value m g) (frame m g)),
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.HgrnProjRefIdeal.Value.run m' g')⟩
  · obtain ⟨e0, e1, e2, e3, e4, e5⟩ := hagree c
    refine (Cert.HgrnProjRefIdeal.Read.val_main_v109_eq m' c).trans ((funext fun i => ref_Q _ _ _ _ _ i).trans ?_)
    rw [e0, e1, e2, e3, e4]
  · obtain ⟨e0, e1, e2, e3, e4, e5⟩ := hagree c
    refine (Cert.HgrnProjRefIdeal.Read.val_main_v110_eq _ _ _ _ _).trans ((funext fun i => ref_V _ _ _ _ _ i).trans ?_)
    rw [e0, e1, e2, e3, e4]
  · obtain ⟨e0, e1, e2, e3, e4, e5⟩ := hagree c
    refine (Cert.HgrnProjRefIdeal.Read.val_main_v111_eq m' c).trans ((funext fun i => ref_Gate _ _ _ _ _ i).trans ?_)
    rw [e0, e1, e2, e3, e4]
  · obtain ⟨e0, e1, e2, e3, e4, e5⟩ := hagree c
    refine (Cert.HgrnProjRefIdeal.Read.val_main_v81_eq m' c).trans ((funext fun i => ref_GF _ _ _ _ _ _ i).trans ?_)
    rw [e0, e1, e2, e3, e4, e5]
  · obtain ⟨e0, e1, e2, e3, e4, e5⟩ := hagree c
    refine (Cert.HgrnProjRefIdeal.Read.val_main_v112_eq m' c).trans ((funext fun i => ref_KF _ _ _ _ _ _ i).trans ?_)
    rw [e0, e1, e2, e3, e4, e5]
  · obtain ⟨e0, e1, e2, e3, e4, e5⟩ := hagree c
    refine (Cert.HgrnProjRefIdeal.Read.val_main_v104_eq m' c).trans ((funext fun i => ref_GB _ _ _ _ _ _ i).trans ?_)
    rw [e0, e1, e2, e3, e4, e5]
  · obtain ⟨e0, e1, e2, e3, e4, e5⟩ := hagree c
    refine (Cert.HgrnProjRefIdeal.Read.val_main_v113_eq m' c).trans ((funext fun i => ref_KB _ _ _ _ _ _ i).trans ?_)
    rw [e0, e1, e2, e3, e4, e5]

end Cert.HgrnProjValue

end
-- ==== Proof.ConvColsTrip.lean ====
module

public import proofs.«01_k».proof.Proof.Gen.ConvColsIdeal.Loops
public import Idealize.ShloMosaic.Lib.Pipeline.ValueKit

/-! # What one trip of the column convolution's loop stores

A trip convolves one slab of 256 channels down the grid's 32 rows. It stores one block of 16 tokens for every row: the sum
over the taps that stay inside the grid, and the bias. -/

@[expose] public section

set_option maxRecDepth 16384
set_option maxHeartbeats 2000000

noncomputable section

namespace Cert.ConvColsValue

open Cert.ConvColsIdeal Cert.ConvColsIdeal.Gen Idealize.ShloMosaic Idealize.ShloMosaic.TcCoe Idealize.SL.Sem

/-- The slab a trip works on, as the kernel computes it. -/
def slab (k : Fin k0_t1_loop.trips) : ℕ := k0_off1 k 0

theorem slab_eq (k : Fin k0_t1_loop.trips) : slab k = k.val := by revert k; decide +kernel

theorem slab_lt (k : Fin k0_t1_loop.trips) : slab k < 8 := by revert k; decide +kernel

theorem weights_inb (k : Fin k0_t1_loop.trips) : ∀ a, (![slab k, 0, 0] : Fin 3 → ℕ) a + S1x31x256.size a ≤ S8x31x256.size a := by
  have h := slab_lt k
  intro a
  fin_cases a
  · show slab k + 1 ≤ 8; omega
  · exact Nat.le_refl _
  · exact Nat.le_refl _

theorem bias_inb (k : Fin k0_t1_loop.trips) : ∀ a, (![slab k, 0, 0] : Fin 3 → ℕ) a + S1x1x256.size a ≤ S8x1x256.size a := by
  have h := slab_lt k
  intro a
  fin_cases a
  · show slab k + 1 ≤ 8; omega
  · exact Nat.le_refl _
  · exact Nat.le_refl _

theorem row_inb (k : Fin k0_t1_loop.trips) (r : ℕ) (hr : r < 32) :
    ∀ a, (![slab k, r, 0, 0] : Fin 4 → ℕ) a + S1x1x16x256.size a ≤ S8x32x16x256.size a := by
  have h := slab_lt k
  intro a
  fin_cases a
  · show slab k + 1 ≤ 8; omega
  · show r + 1 ≤ 32; omega
  · exact Nat.le_refl _
  · exact Nat.le_refl _

theorem block_inb (k : Fin k0_t1_loop.trips) (r : ℕ) (hr : r < 32) :
    ∀ a, (![slab k, r * 16, 0] : Fin 3 → ℕ) a + S1x16x256.size a ≤ S8x512x256.size a := by
  have h := slab_lt k
  intro a
  fin_cases a
  · show slab k + 1 ≤ 8; omega
  · show r * 16 + 16 ≤ 512; omega
  · exact Nat.le_refl _

theorem tap_slices (k : ℕ) (hk : k < 31) : S31x256.Slices ![k, 0] S1x256 := by
  refine ⟨rfl, fun a => ?_⟩
  fin_cases a
  · show k + 1 ≤ 31; omega
  · exact Nat.le_refl _

/-- The rows read by the taps, the weights and the bias of one slab. -/
abbrev Rows := ℕ → Vec Ideal S1x1x16x256 .f32

/-- The first `n` taps of row `r`, added up in order; a tap outside the grid adds nothing. -/
def taps (A : Rows) (W : Vec Ideal S1x31x256 .f32) (r : ℕ) : ℕ → FVec Ideal S16x256 .f32
  | 0 => broadcast S16x256 (Scalar.ofBits .f32 0x00000000#32)
  | k + 1 => if h : k < 31 ∧ 15 ≤ r + k ∧ r + k < 47 then
      addf (taps A W r k) (mulf (shapeCast S16x256 (A (r + k - 15)) Gen.shapeCasts_S1x1x16x256_S16x256)
        (broadcastTo S16x256 (extractStridedSlice S1x256 ![k, 0] (shapeCast S31x256 W Gen.shapeCasts_S1x31x256_S31x256) (tap_slices k h.1))
          Gen.broadcasts_S1x256_S16x256))
    else taps A W r k

/-- What is stored for row `r`. -/
def rowBlock (A : Rows) (W : Vec Ideal S1x31x256 .f32) (B : Vec Ideal S1x1x256 .f32) (r : ℕ) : FVec Ideal S1x16x256 .f32 :=
  shapeCast S1x16x256 (addf (taps A W r 31) (broadcastTo S16x256 (shapeCast S1x256 B Gen.shapeCasts_S1x1x256_S1x256) Gen.broadcasts_S1x256_S16x256))
    Gen.shapeCasts_S16x256_S1x16x256

/-- The pieces stored for the first `n` rows, the last one first. -/
def rowPieces (k : Fin k0_t1_loop.trips) (A : Rows) (W : Vec Ideal S1x31x256 .f32) (B : Vec Ideal S1x1x256 .f32) :
    ℕ → List (View.Piece (Elt Ideal) S8x512x256 .f32)
  | 0 => []
  | n + 1 => if h : n < 32 then
      ⟨Rect.unit (s := S8x512x256) ![slab k, n * 16, 0] S1x16x256.size (block_inb k n h), rowBlock A W B n⟩ :: rowPieces k A W B n
    else rowPieces k A W B n

section Trip
variable (𝒱 : Variants) (c : Dev nD) (bd : Option 𝒱.V) (i : grid0.Coords)
  (arg2 : Memref sig .tc .vmem S1x32x16x2048 .bf16) (harg2 : arg2.IsWhole) (arg3 : Memref sig .tc .vmem S1x32x16x2048 .bf16) (harg3 : arg3.IsWhole)
  (arg4 : Memref sig .tc .vmem S1x32x16x1024 .f32) (harg4 : arg4.IsWhole) (arg5 : Memref sig .tc .vmem S1x3x1024 .f32) (harg5 : arg5.IsWhole)
  (arg6 : Memref sig .tc .vmem S8x31x256 .f32) (harg6 : arg6.IsWhole) (arg7 : Memref sig .tc .vmem S8x1x256 .f32) (harg7 : arg7.IsWhole)
  (arg8 : Memref sig .tc .vmem S1x2048 .f32) (harg8 : arg8.IsWhole) (arg9 : Memref sig .tc .vmem S1x2048 .f32) (harg9 : arg9.IsWhole)
  (arg10 : Memref sig .tc .vmem S1x2048x1024 .bf16) (harg10 : arg10.IsWhole) (arg11 : Memref sig .tc .vmem S1x1024 .f32) (harg11 : arg11.IsWhole)
  (arg12 : Memref sig .tc .vmem S1x1024 .f32) (harg12 : arg12.IsWhole) (arg13 : Memref sig .tc .vmem S1x32x16x1024 .f32) (harg13 : arg13.IsWhole)
  (arg14 : Memref sig .tc .vmem S8x32x16x256 .f32) (harg14 : arg14.IsWhole) (arg15 : Memref sig .tc .vmem S8x512x256 .f32) (harg15 : arg15.IsWhole)
  (v44 : FVec Ideal S32x16x256 .f32) (X6 : BufTy.Contents (Elt Ideal) arg6.view.ty) (X7 : BufTy.Contents (Elt Ideal) arg7.view.ty)
  (X14 : BufTy.Contents (Elt Ideal) arg14.view.ty) (k : Fin k0_t1_loop.trips)

/-- The rows of the trip's slab. -/
def tripRows : Rows := fun r => if h : r < 32 then
    arg14.view.readAt (Elt Ideal) (Rect.unit (s := S8x32x16x256) ![slab k, r, 0, 0] S1x1x16x256.size (row_inb k r h)).toLoadRect X14
  else fun _ => 0

/-- The slab's weights. -/
def tripWeights : Vec Ideal S1x31x256 .f32 :=
  arg6.view.readAt (Elt Ideal) (Rect.unit (s := S8x31x256) ![slab k, 0, 0] S1x31x256.size (weights_inb k)).toLoadRect X6

/-- The slab's bias. -/
def tripBias : Vec Ideal S1x1x256 .f32 :=
  arg7.view.readAt (Elt Ideal) (Rect.unit (s := S8x1x256) ![slab k, 0, 0] S1x1x256.size (bias_inb k)).toLoadRect X7

set_option maxRecDepth 100000 in
/-- The trip's pieces are the rows' blocks. -/
theorem trip_pieces :
    (trip_k0_t1 (F := Ideal) 𝒱 c bd i arg2 harg2 arg3 harg3 arg4 harg4 arg5 harg5 arg6 harg6 arg7 harg7 arg8 harg8 arg9 harg9 arg10 harg10 arg11 harg11
      arg12 harg12 arg13 harg13 arg14 harg14 arg15 harg15 v44 X6 X7 X14 k).1
      = rowPieces k (tripRows arg14 X14 k) (tripWeights arg6 X6 k) (tripBias arg7 X7 k) 32 := by
  unfold trip_k0_t1
  rfl

end Trip

end Cert.ConvColsValue

end
-- ==== Proof.ConvColsSlab.lean ====
module

public import proofs.«01_k».proof.Proof.ConvColsTrip

/-! # The convolved slabs, entry by entry

The loop's pieces cover the second scratch array, and each holds the same function of the first: the sum over the taps that
stay inside the grid, and the bias. -/

@[expose] public section

set_option maxRecDepth 16384
set_option maxHeartbeats 2000000

noncomputable section

namespace Cert.ConvColsValue

open Cert.ConvColsIdeal Cert.ConvColsIdeal.Gen Idealize.ShloMosaic Idealize.ShloMosaic.TcCoe Idealize.SL.Sem

/-- Pieces that all hold the values of one function leave that function wherever one of them reaches. -/
theorem canon_agrees {s : Shape} {e : EltTy} (P : s.Idx → Elt Ideal e) (L : List (View.Piece (Elt Ideal) s e))
    (hL : ∀ p ∈ L, ∀ x, p.2 x = P (p.1.emb x)) (y : s.Idx) (hy : ∃ p ∈ L, y ∈ p.1.set) : View.canon L y = P y := by
  induction L with
  | nil => obtain ⟨p, hp, _⟩ := hy; cases hp
  | cons q L ih =>
    by_cases h : y ∈ q.1.set
    · obtain ⟨x, rfl⟩ : ∃ x, q.1.emb x = y := q.1.exists_idx_of_mem h
      exact (View.canon_cons_emb q.1 q.2 L x).trans (hL q (List.mem_cons_self ..) x)
    · rw [View.canon_cons_of_not_mem q L h]
      refine ih (fun p hp => hL p (List.mem_cons_of_mem _ hp)) ?_
      obtain ⟨p, hp, hm⟩ := hy
      rcases List.mem_cons.mp hp with rfl | hp
      · exact absurd hm h
      · exact ⟨p, hp, hm⟩

/-- One entry of the convolution: the taps inside the grid, and the bias. -/
def convEntry (U : Vec Ideal S8x32x16x256 .f32) (W : Vec Ideal S8x31x256 .f32) (B : Vec Ideal S8x1x256 .f32) (s : Fin 8) (r : ℕ) (q : Fin 16)
    (j : Fin 256) : EReal :=
  ∑ k ∈ Finset.range 31, (if h : k < 31 ∧ 15 ≤ r + k ∧ r + k < 47 then U (ix4 s ⟨r + k - 15, by omega⟩ q j) * W (ix3 s ⟨k, h.1⟩ j) else 0)
    + B (ix3 s 0 j)

/-- The whole second scratch array: token `16 r + q` of slab `s` is row `r`, column `q`. -/
def convAt (U : Vec Ideal S8x32x16x256 .f32) (W : Vec Ideal S8x31x256 .f32) (B : Vec Ideal S8x1x256 .f32) : Vec Ideal S8x512x256 .f32 := fun z =>
  convEntry U W B (z 0) ((z 1).val / 16) ⟨(z 1).val % 16, Nat.mod_lt _ (by decide)⟩ (z 2)

theorem taps_apply (A : Rows) (W : Vec Ideal S1x31x256 .f32) (r n : ℕ) (y : S16x256.Idx) : taps A W r n y
    = ∑ k ∈ Finset.range n, (if h : k < 31 ∧ 15 ≤ r + k ∧ r + k < 47 then A (r + k - 15) (ix4 0 0 (y 0) (y 1)) * W (ix3 0 ⟨k, h.1⟩ (y 1)) else 0) := by
  induction n with
  | zero =>
    unfold taps
    pointwise
    try simp
  | succ n ih =>
    rw [Finset.sum_range_succ, ← ih]
    by_cases h : n < 31 ∧ 15 ≤ r + n ∧ r + n < 47
    · rw [taps.eq_2, dif_pos h, dif_pos h]
      pointwise
    · rw [taps.eq_2, dif_neg h, dif_neg h, add_zero]

theorem rowBlock_apply (A : Rows) (W : Vec Ideal S1x31x256 .f32) (B : Vec Ideal S1x1x256 .f32) (r : ℕ) (x : S1x16x256.Idx) :
    rowBlock A W B r x = ∑ k ∈ Finset.range 31, (if h : k < 31 ∧ 15 ≤ r + k ∧ r + k < 47 then
        A (r + k - 15) (ix4 0 0 (x 1) (x 2)) * W (ix3 0 ⟨k, h.1⟩ (x 2)) else 0) + B (ix3 0 0 (x 2)) := by
  unfold rowBlock
  pointwise
  rw [taps_apply]
  rfl

section Loop
variable (𝒱 : Variants) (c : Dev nD) (bd : Option 𝒱.V) (i : grid0.Coords)
  (arg2 : Memref sig .tc .vmem S1x32x16x2048 .bf16) (harg2 : arg2.IsWhole) (arg3 : Memref sig .tc .vmem S1x32x16x2048 .bf16) (harg3 : arg3.IsWhole)
  (arg4 : Memref sig .tc .vmem S1x32x16x1024 .f32) (harg4 : arg4.IsWhole) (arg5 : Memref sig .tc .vmem S1x3x1024 .f32) (harg5 : arg5.IsWhole)
  (arg6 : Memref sig .tc .vmem S8x31x256 .f32) (harg6 : arg6.IsWhole) (arg7 : Memref sig .tc .vmem S8x1x256 .f32) (harg7 : arg7.IsWhole)
  (arg8 : Memref sig .tc .vmem S1x2048 .f32) (harg8 : arg8.IsWhole) (arg9 : Memref sig .tc .vmem S1x2048 .f32) (harg9 : arg9.IsWhole)
  (arg10 : Memref sig .tc .vmem S1x2048x1024 .bf16) (harg10 : arg10.IsWhole) (arg11 : Memref sig .tc .vmem S1x1024 .f32) (harg11 : arg11.IsWhole)
  (arg12 : Memref sig .tc .vmem S1x1024 .f32) (harg12 : arg12.IsWhole) (arg13 : Memref sig .tc .vmem S1x32x16x1024 .f32) (harg13 : arg13.IsWhole)
  (arg14 : Memref sig .tc .vmem S8x32x16x256 .f32) (harg14 : arg14.IsWhole) (arg15 : Memref sig .tc .vmem S8x512x256 .f32) (harg15 : arg15.IsWhole)
  (v44 : FVec Ideal S32x16x256 .f32) (X6 : BufTy.Contents (Elt Ideal) arg6.view.ty) (X7 : BufTy.Contents (Elt Ideal) arg7.view.ty)
  (X14 : BufTy.Contents (Elt Ideal) arg14.view.ty)

/-- What a trip stores for row `n`, at the place it is stored. -/
theorem row_value (k : Fin k0_t1_loop.trips) (n : ℕ) (hn : n < 32) (x : S1x16x256.Idx) :
    rowBlock (tripRows arg14 X14 k) (tripWeights arg6 X6 k) (tripBias arg7 X7 k) n x
      = convAt (arg14.view.read (Elt Ideal) X14) (arg6.view.read (Elt Ideal) X6) (arg7.view.read (Elt Ideal) X7)
          ((Rect.unit (s := S8x512x256) ![slab k, n * 16, 0] S1x16x256.size (block_inb k n hn)).emb x) := by
  have hk := slab_lt k
  have h0 : (x 0).val < 1 := (x 0).isLt
  have h1 : (x 1).val < 16 := (x 1).isLt
  have h2 : (x 2).val < 256 := (x 2).isLt
  have hz : (Rect.unit (s := S8x512x256) ![slab k, n * 16, 0] S1x16x256.size (block_inb k n hn)).emb x
      = ix3 ⟨slab k, hk⟩ ⟨n * 16 + (x 1).val, by omega⟩ (x 2) := by
    funext a
    refine Fin.ext ?_
    refine (Rect.idx_unit_val (s := S8x512x256) ![slab k, n * 16, 0] S1x16x256.size (block_inb k n hn) x a).trans ?_
    fin_cases a
    · show slab k + (x 0).val = slab k; omega
    · rfl
    · exact Nat.zero_add _
  rw [hz, rowBlock_apply]
  have hc : convAt (arg14.view.read (Elt Ideal) X14) (arg6.view.read (Elt Ideal) X6) (arg7.view.read (Elt Ideal) X7)
        (ix3 ⟨slab k, hk⟩ ⟨n * 16 + (x 1).val, by omega⟩ (x 2))
      = convEntry (arg14.view.read (Elt Ideal) X14) (arg6.view.read (Elt Ideal) X6) (arg7.view.read (Elt Ideal) X7) ⟨slab k, hk⟩ n (x 1) (x 2) := by
    have e1 : (n * 16 + (x 1).val) / 16 = n := by omega
    have e2 : (⟨(n * 16 + (x 1).val) % 16, Nat.mod_lt _ (by decide)⟩ : Fin 16) = x 1 := Fin.ext (by show (n * 16 + (x 1).val) % 16 = (x 1).val; omega)
    show convEntry _ _ _ ⟨slab k, hk⟩ ((n * 16 + (x 1).val) / 16) ⟨(n * 16 + (x 1).val) % 16, _⟩ (x 2) = _
    rw [e1, e2]
  refine Eq.trans ?_ hc.symm
  unfold convEntry
  congr 1
  · refine Finset.sum_congr rfl fun t ht => ?_
    by_cases h : t < 31 ∧ 15 ≤ n + t ∧ n + t < 47
    · rw [dif_pos h, dif_pos h]
      congr 1
      · unfold tripRows
        rw [dif_pos (show n + t - 15 < 32 by omega)]
        refine View.ld_unit_apply_of _ _ _ _ _ (ix4 ⟨slab k, hk⟩ ⟨n + t - 15, by omega⟩ (x 1) (x 2)) fun a => ?_
        fin_cases a
        · rfl
        · rfl
        · exact (Nat.zero_add _).symm
        · exact (Nat.zero_add _).symm
      · refine View.ld_unit_apply_of _ _ _ _ _ (ix3 ⟨slab k, hk⟩ ⟨t, h.1⟩ (x 2)) fun a => ?_
        fin_cases a
        · rfl
        · exact (Nat.zero_add _).symm
        · exact (Nat.zero_add _).symm
    · rw [dif_neg h, dif_neg h]
  · refine View.ld_unit_apply_of _ _ _ _ _ (ix3 ⟨slab k, hk⟩ 0 (x 2)) fun a => ?_
    fin_cases a
    · rfl
    · rfl
    · exact (Nat.zero_add _).symm

/-- Every piece of a trip holds the convolution. -/
theorem rows_agree (k : Fin k0_t1_loop.trips) (n : ℕ) :
    ∀ p ∈ rowPieces k (tripRows arg14 X14 k) (tripWeights arg6 X6 k) (tripBias arg7 X7 k) n, ∀ x,
      p.2 x = convAt (arg14.view.read (Elt Ideal) X14) (arg6.view.read (Elt Ideal) X6) (arg7.view.read (Elt Ideal) X7) (p.1.emb x) := by
  induction n with
  | zero => intro p hp; cases hp
  | succ n ih =>
    intro p hp
    unfold rowPieces at hp
    by_cases h : n < 32
    · rw [dif_pos h] at hp
      rcases List.mem_cons.mp hp with rfl | hp
      · exact row_value arg6 arg7 arg14 X6 X7 X14 k n h
      · exact ih p hp
    · rw [dif_neg h] at hp
      exact ih p hp

/-- A trip's pieces reach all of its slab. -/
theorem rows_cover (k : Fin k0_t1_loop.trips) (A : Rows) (W : Vec Ideal S1x31x256 .f32) (B : Vec Ideal S1x1x256 .f32) (y : S8x512x256.Idx)
    (hy : (y 0).val = slab k) (n : ℕ) (hn : n ≤ 32) (hr : (y 1).val < n * 16) : ∃ p ∈ rowPieces k A W B n, y ∈ p.1.set := by
  induction n with
  | zero => omega
  | succ n ih =>
    have h : n < 32 := hn
    unfold rowPieces
    rw [dif_pos h]
    by_cases hl : (y 1).val < n * 16
    · obtain ⟨p, hp, hm⟩ := ih h.le hl
      exact ⟨p, List.mem_cons_of_mem _ hp, hm⟩
    · refine ⟨⟨Rect.unit (s := S8x512x256) ![slab k, n * 16, 0] S1x16x256.size (block_inb k n h), rowBlock A W B n⟩, List.mem_cons_self .., ?_⟩
      refine (Rect.mem_set_unit (s := S8x512x256) (inb := block_inb k n h)).mpr fun a => ?_
      have h2 : (y 2).val < 256 := (y 2).isLt
      fin_cases a
      · exact ⟨hy.ge, by show (y 0).val < slab k + 1; omega⟩
      · exact ⟨by show n * 16 ≤ (y 1).val; omega, by show (y 1).val < n * 16 + 16; omega⟩
      · exact ⟨Nat.zero_le _, by show (y 2).val < 0 + 256; omega⟩

/-- After `n` trips every piece holds the convolution, and the first `n` slabs are reached. -/
theorem loop_pieces (n : ℕ) (hn : n ≤ k0_t1_loop.trips) :
    (∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v44 X6 X7 X14 n, ∀ x,
      p.2 x = convAt (arg14.view.read (Elt Ideal) X14) (arg6.view.read (Elt Ideal) X6) (arg7.view.read (Elt Ideal) X7) (p.1.emb x))
    ∧ ∀ y : S8x512x256.Idx, (y 0).val < n → ∃ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v44 X6 X7 X14 n, y ∈ p.1.set := by
  induction n with
  | zero =>
    refine ⟨fun p hp => ?_, fun y hy => absurd hy (Nat.not_lt_zero _)⟩
    rw [pb_k0_t1.eq_1] at hp
    exact absurd hp List.not_mem_nil
  | succ n ih =>
    obtain ⟨ha, hc⟩ := ih (Nat.le_of_succ_le hn)
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v44 X6 X7 X14 ⟨n, hn⟩
    have et : tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v44 X6 X7 X14 ⟨n, hn⟩ = rowPieces ⟨n, hn⟩ (tripRows arg14 X14 ⟨n, hn⟩)
        (tripWeights arg6 X6 ⟨n, hn⟩) (tripBias arg7 X7 ⟨n, hn⟩) 32 :=
      trip_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 v44 X6 X7 X14 ⟨n, hn⟩
    have hs : slab ⟨n, hn⟩ = n := slab_eq ⟨n, hn⟩
    refine ⟨fun p hp => ?_, fun y hy => ?_⟩
    · rcases List.mem_append.mp (e ▸ hp) with hp | hp
      · exact rows_agree arg6 arg7 arg14 X6 X7 X14 ⟨n, hn⟩ 32 p (et ▸ hp)
      · exact ha p hp
    · by_cases h : (y 0).val < n
      · obtain ⟨p, hp, hm⟩ := hc y h
        exact ⟨p, e ▸ List.mem_append_right _ hp, hm⟩
      · obtain ⟨p, hp, hm⟩ := rows_cover ⟨n, hn⟩ (tripRows arg14 X14 ⟨n, hn⟩) (tripWeights arg6 X6 ⟨n, hn⟩) (tripBias arg7 X7 ⟨n, hn⟩) y
          (by omega) 32 (Nat.le_refl _) (y 1).isLt
        exact ⟨p, e ▸ List.mem_append_left _ (et ▸ hp), hm⟩

/-- After the loop the second scratch array is the convolution. -/
theorem loop_value (y : S8x512x256.Idx) :
    View.canon (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v44 X6 X7 X14 k0_t1_loop.trips) y
      = convAt (arg14.view.read (Elt Ideal) X14) (arg6.view.read (Elt Ideal) X6) (arg7.view.read (Elt Ideal) X7) y := by
  obtain ⟨ha, hc⟩ := loop_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 v44 X6 X7 X14 k0_t1_loop.trips (Nat.le_refl _)
  refine canon_agrees _ _ ha y (hc y ?_)
  have h8 : k0_t1_loop.trips = 8 := by decide +kernel
  rw [h8]
  exact (y 0).isLt

end Loop

end Cert.ConvColsValue

end
-- ==== Proof.ConvColsPoint.lean ====
module

public import proofs.«01_k».proof.Proof.ConvColsTrip
public import proofs.«01_k».proof.Proof.Gen.ConvColsIdeal.Value

/-! # What one grid point of the column convolution stores

The point copies its input rows to a scratch array slab by slab, convolves the slabs into a second scratch array, and from
that forms the layer norm over all channels, the activation and gate, the output projection, and the final norm. -/

@[expose] public section

set_option maxRecDepth 16384
set_option maxHeartbeats 2000000

noncomputable section

namespace Cert.ConvColsValue

open Cert.ConvColsIdeal Cert.ConvColsIdeal.Gen Idealize.ShloMosaic Idealize.ShloMosaic.TcCoe Idealize.SL.Sem

/-- The first `n` slabs' channels added up, for every token. -/
def sums (C : ℕ → Vec Ideal S1x512x256 .f32) : ℕ → FVec Ideal S512x1 .f32
  | 0 => broadcast S512x1 (Scalar.ofBits .f32 0x00000000#32)
  | s + 1 => addf (sums C s) (shapeCast S512x1 (multiReduction .add [1] S512 (shapeCast S512x256 (C s) Gen.shapeCasts_S1x512x256_S512x256)
      0x00000000#32 Gen.reduces_S512x256_S512 (.inl rfl) rfl) Gen.shapeCasts_S512_S512x1)

/-- The mean over all channels. -/
def mean (C : ℕ → Vec Ideal S1x512x256 .f32) : FVec Ideal S512x1 .f32 :=
  divf (sums C 8) (broadcast S512x1 (Scalar.ofBits .f32 0x45000000#32))

/-- One slab less the mean. -/
def centred (μ : FVec Ideal S512x1 .f32) (c : Vec Ideal S1x512x256 .f32) : FVec Ideal S512x256 .f32 :=
  subf (shapeCast S512x256 c Gen.shapeCasts_S1x512x256_S512x256) (broadcastTo S512x256 μ Gen.broadcasts_S512x1_S512x256)

/-- The first `n` slabs' squared deviations added up. -/
def squares (μ : FVec Ideal S512x1 .f32) (C : ℕ → Vec Ideal S1x512x256 .f32) : ℕ → FVec Ideal S512x1 .f32
  | 0 => broadcast S512x1 (Scalar.ofBits .f32 0x00000000#32)
  | s + 1 => addf (squares μ C s) (shapeCast S512x1 (multiReduction .add [1] S512 (mulf (centred μ (C s)) (centred μ (C s)))
      0x00000000#32 Gen.reduces_S512x256_S512 (.inl rfl) rfl) Gen.shapeCasts_S512_S512x1)

/-- One over the standard deviation. -/
def scale (μ : FVec Ideal S512x1 .f32) (C : ℕ → Vec Ideal S1x512x256 .f32) : FVec Ideal S512x1 .f32 :=
  rsqrt (addf (divf (squares μ C 8) (broadcast S512x1 (Scalar.ofBits .f32 0x45000000#32))) (broadcast S512x1 (Scalar.ofBits .f32 0x358637BD#32)))

/-- One slab after the layer norm. -/
def normed (μ ρ : FVec Ideal S512x1 .f32) (c : Vec Ideal S1x512x256 .f32) (g b : Vec Ideal S1x256 .f32) : FVec Ideal S512x256 .f32 :=
  addf (mulf (mulf (centred μ c) (broadcastTo S512x256 ρ Gen.broadcasts_S512x1_S512x256))
      (broadcastTo S512x256 (shapeCast S1x256 g Gen.shapeCasts_S1x256_S1x256) Gen.broadcasts_S1x256_S512x256))
    (broadcastTo S512x256 (shapeCast S1x256 b Gen.shapeCasts_S1x256_S1x256) Gen.broadcasts_S1x256_S512x256)

/-- One slab's part of the output projection. -/
def part (μ ρ : FVec Ideal S512x1 .f32) (c : Vec Ideal S1x512x256 .f32) (g b : Vec Ideal S1x256 .f32) (G : Vec Ideal S1x32x16x256 .bf16)
    (W : Vec Ideal S1x256x1024 .bf16) : FVec Ideal S512x1024 .f32 :=
  matmul (F := Ideal) (φ₂ := .bf16) dot_S512x256_S256x1024_S512x1024_1_0_0_1_n_n none
    (truncf .bf16 (mulf (mulf (normed μ ρ c g b) (divf (broadcast S512x256 (Scalar.ofBits .f32 0x3F800000#32))
        (addf (broadcast S512x256 (Scalar.ofBits .f32 0x3F800000#32)) (exp (subf (broadcast S512x256 (Scalar.ofBits .f32 0x00000000#32)) (normed μ ρ c g b))))))
      (shapeCast S512x256 (extf .f32 (shapeCast S32x16x256 G Gen.shapeCasts_S1x32x16x256_S32x16x256) Gen.bitsLt_bf16_f32) Gen.shapeCasts_S32x16x256_S512x256))
      Gen.bitsLt_bf16_f32)
    (shapeCast S256x1024 W Gen.shapeCasts_S1x256x1024_S256x1024) (constant S512x1024 .f32 0x00000000#32)

/-- The first `n + 1` slabs' parts added up. -/
def parts (P : ℕ → FVec Ideal S512x1024 .f32) : ℕ → FVec Ideal S512x1024 .f32
  | 0 => P 0
  | s + 1 => addf (parts P s) (P (s + 1))

/-- The output projection with its bias. -/
def project (C : ℕ → Vec Ideal S1x512x256 .f32) (g b : ℕ → Vec Ideal S1x256 .f32) (G : ℕ → Vec Ideal S1x32x16x256 .bf16)
    (W : ℕ → Vec Ideal S1x256x1024 .bf16) (o : Vec Ideal S1x1024 .f32) : FVec Ideal S512x1024 .f32 :=
  addf (parts (fun s => part (mean C) (scale (mean C) C) (C s) (g s) (b s) (G s) (W s)) 7)
    (broadcastTo S512x1024 (shapeCast S1x1024 o Gen.shapeCasts_S1x1024_S1x1024) Gen.broadcasts_S1x1024_S512x1024)

theorem input_inb (s : ℕ) (hs : s < 8) : ∀ a, (![0, 0, 0, s * 256] : Fin 4 → ℕ) a + S1x32x16x256.size a ≤ S1x32x16x2048.size a := by
  intro a
  fin_cases a
  · exact Nat.le_refl _
  · exact Nat.le_refl _
  · exact Nat.le_refl _
  · show s * 256 + 256 ≤ 2048; omega

theorem copy_inb (s : ℕ) (hs : s < 8) : ∀ a, (![s, 0, 0, 0] : Fin 4 → ℕ) a + S1x32x16x256.size a ≤ S8x32x16x256.size a := by
  intro a
  fin_cases a
  · show s + 1 ≤ 8; omega
  · exact Nat.le_refl _
  · exact Nat.le_refl _
  · exact Nat.le_refl _

theorem lanes_inb (s : ℕ) (hs : s < 8) : ∀ a, (![0, s * 256] : Fin 2 → ℕ) a + S1x256.size a ≤ S1x2048.size a := by
  intro a
  fin_cases a
  · exact Nat.le_refl _
  · show s * 256 + 256 ≤ 2048; omega

theorem matrix_inb (s : ℕ) (hs : s < 8) : ∀ a, (![0, s * 256, 0] : Fin 3 → ℕ) a + S1x256x1024.size a ≤ S1x2048x1024.size a := by
  intro a
  fin_cases a
  · exact Nat.le_refl _
  · show s * 256 + 256 ≤ 2048; omega
  · exact Nat.le_refl _

theorem slab_inb (s : ℕ) (hs : s < 8) : ∀ a, (![s, 0, 0] : Fin 3 → ℕ) a + S1x512x256.size a ≤ S8x512x256.size a := by
  intro a
  fin_cases a
  · show s + 1 ≤ 8; omega
  · exact Nat.le_refl _
  · exact Nat.le_refl _

/-- Slab `s` of a block of rows. -/
def inputSlab (arg : Memref sig .tc .vmem S1x32x16x2048 .bf16) (harg : arg.IsWhole) (x : Vec Ideal S1x32x16x2048 .bf16) (s : ℕ) :
    Vec Ideal S1x32x16x256 .bf16 :=
  if h : s < 8 then arg.view.readAt (Elt Ideal) (Rect.unit (s := S1x32x16x2048) ![0, 0, 0, s * 256] S1x32x16x256.size (input_inb s h)).toLoadRect (harg.unread x)
  else fun _ => 0

/-- Slab `s` of a row of channels. -/
def lanes (arg : Memref sig .tc .vmem S1x2048 .f32) (harg : arg.IsWhole) (x : Vec Ideal S1x2048 .f32) (s : ℕ) : Vec Ideal S1x256 .f32 :=
  if h : s < 8 then arg.view.readAt (Elt Ideal) (Rect.unit (s := S1x2048) ![0, s * 256] S1x256.size (lanes_inb s h)).toLoadRect (harg.unread x)
  else fun _ => 0

/-- Slab `s` of the projection's weights. -/
def matrixSlab (arg : Memref sig .tc .vmem S1x2048x1024 .bf16) (harg : arg.IsWhole) (x : Vec Ideal S1x2048x1024 .bf16) (s : ℕ) :
    Vec Ideal S1x256x1024 .bf16 :=
  if h : s < 8 then arg.view.readAt (Elt Ideal) (Rect.unit (s := S1x2048x1024) ![0, s * 256, 0] S1x256x1024.size (matrix_inb s h)).toLoadRect (harg.unread x)
  else fun _ => 0

/-- The pieces that copy the first `n` slabs of the input, the last one first. -/
def copies (arg : Memref sig .tc .vmem S1x32x16x2048 .bf16) (harg : arg.IsWhole) (x : Vec Ideal S1x32x16x2048 .bf16) :
    ℕ → List (View.Piece (Elt Ideal) S8x32x16x256 .f32)
  | 0 => []
  | n + 1 => if h : n < 8 then
      ⟨Rect.unit (s := S8x32x16x256) ![n, 0, 0, 0] S1x32x16x256.size (copy_inb n h),
        shapeCast S1x32x16x256 (extf (F := Ideal) (φ := .bf16) .f32 (shapeCast S32x16x256 (inputSlab arg harg x n) Gen.shapeCasts_S1x32x16x256_S32x16x256) Gen.bitsLt_bf16_f32)
          Gen.shapeCasts_S32x16x256_S1x32x16x256⟩ :: copies arg harg x n
    else copies arg harg x n

section Point
variable (c : Dev nD) (i : grid0.Coords)
  (arg2 : Memref sig .tc .vmem S1x32x16x2048 .bf16) (harg2 : arg2.IsWhole) (arg3 : Memref sig .tc .vmem S1x32x16x2048 .bf16) (harg3 : arg3.IsWhole)
  (arg4 : Memref sig .tc .vmem S1x32x16x1024 .f32) (harg4 : arg4.IsWhole) (arg5 : Memref sig .tc .vmem S1x3x1024 .f32) (harg5 : arg5.IsWhole)
  (arg6 : Memref sig .tc .vmem S8x31x256 .f32) (harg6 : arg6.IsWhole) (arg7 : Memref sig .tc .vmem S8x1x256 .f32) (harg7 : arg7.IsWhole)
  (arg8 : Memref sig .tc .vmem S1x2048 .f32) (harg8 : arg8.IsWhole) (arg9 : Memref sig .tc .vmem S1x2048 .f32) (harg9 : arg9.IsWhole)
  (arg10 : Memref sig .tc .vmem S1x2048x1024 .bf16) (harg10 : arg10.IsWhole) (arg11 : Memref sig .tc .vmem S1x1024 .f32) (harg11 : arg11.IsWhole)
  (arg12 : Memref sig .tc .vmem S1x1024 .f32) (harg12 : arg12.IsWhole) (arg13 : Memref sig .tc .vmem S1x32x16x1024 .f32) (harg13 : arg13.IsWhole)
  (arg14 : Memref sig .tc .vmem S8x32x16x256 .f32) (harg14 : arg14.IsWhole) (arg15 : Memref sig .tc .vmem S8x512x256 .f32) (harg15 : arg15.IsWhole)
  (x0 : Vec Ideal S1x32x16x2048 .bf16) (x1 : Vec Ideal S1x32x16x2048 .bf16) (x2 : Vec Ideal S1x32x16x1024 .f32) (x3 : Vec Ideal S1x3x1024 .f32)
  (x4 : Vec Ideal S8x31x256 .f32) (x5 : Vec Ideal S8x1x256 .f32) (x6 : Vec Ideal S1x2048 .f32) (x7 : Vec Ideal S1x2048 .f32)
  (x8 : Vec Ideal S1x2048x1024 .bf16) (x9 : Vec Ideal S1x1024 .f32) (x10 : Vec Ideal S1x1024 .f32)

/-- The convolved slab `s`, read back after the loop. -/
def convSlab (v44 : FVec Ideal S32x16x256 .f32) (s : ℕ) : Vec Ideal S1x512x256 .f32 :=
  if h : s < 8 then arg15.view.readCov
    (pb_k0_t1 (F := Ideal) Variants.none c none i arg2 harg2 arg3 harg3 arg4 harg4 arg5 harg5 arg6 harg6 arg7 harg7 arg8 harg8 arg9 harg9 arg10 harg10
      arg11 harg11 arg12 harg12 arg13 harg13 arg14 harg14 arg15 harg15 v44 (harg6.unread x4) (harg7.unread x5)
      (arg14.view.writes (Elt Ideal) arg14.view.junk (copies arg2 harg2 x0 8)) k0_t1_loop.trips)
    (Rect.unit (s := S8x512x256) ![s, 0, 0] S1x512x256.size (slab_inb s h)).toLoadRect
  else fun _ => 0

set_option maxRecDepth 100000 in
/-- The point stores one block: the final norm of the residual and the projection. -/
theorem point_pieces : ∃ v44 : FVec Ideal S32x16x256 .f32,
    (kernelRun0_A (F := Ideal) c i arg2 harg2 arg3 harg3 arg4 harg4 arg5 harg5 arg6 harg6 arg7 harg7 arg8 harg8 arg9 harg9 arg10 harg10 arg11 harg11
      arg12 harg12 arg13 harg13 arg14 harg14 arg15 harg15 x0 x1 x2 x3 x4 x5 x6 x7 x8 x9 x10).1
      = [⟨Rect.unit (s := S1x32x16x1024) ![0, 0, 0, 0] S1x32x16x1024.size Gen.inb_S1x32x16x1024_S1x32x16x1024_0_0_0_0,
          k0_pay1 (project (convSlab c i arg2 harg2 arg3 harg3 arg4 harg4 arg5 harg5 arg6 harg6 arg7 harg7 arg8 harg8 arg9 harg9 arg10 harg10 arg11 harg11
              arg12 harg12 arg13 harg13 arg14 harg14 arg15 harg15 x0 x4 x5 v44)
            (lanes arg8 harg8 x6) (lanes arg9 harg9 x7) (inputSlab arg3 harg3 x1) (matrixSlab arg10 harg10 x8)
            (arg11.view.readAt (Elt Ideal) (Rect.unit (s := S1x1024) ![0, 0] S1x1024.size Gen.inb_S1x1024_S1x1024_0_0).toLoadRect (harg11.unread x9)))
          (arg4.view.readAt (Elt Ideal) (Rect.unit (s := S1x32x16x1024) ![0, 0, 0, 0] S1x32x16x1024.size Gen.inb_S1x32x16x1024_S1x32x16x1024_0_0_0_0).toLoadRect (harg4.unread x2))
          (arg5.view.readAt (Elt Ideal) (Rect.unit (s := S1x3x1024) ![0, 2, 0] S1x1x1024.size Gen.inb_S1x3x1024_S1x1x1024_0_2_0).toLoadRect (harg5.unread x3))
          (arg12.view.readAt (Elt Ideal) (Rect.unit (s := S1x1024) ![0, 0] S1x1024.size Gen.inb_S1x1024_S1x1024_0_0).toLoadRect (harg12.unread x10))⟩] := by
  unfold kernelRun0_A
  exact ⟨_, rfl⟩

end Point

end Cert.ConvColsValue

end
-- ==== Proof.ConvColsEntry.lean ====
module

public import proofs.«01_k».proof.Proof.ConvColsPoint

/-! # The column convolution's block, entry by entry

Each step of a grid point at one entry: sums over the slabs are sums over all channels. -/

@[expose] public section

set_option maxRecDepth 16384
set_option maxHeartbeats 2000000

noncomputable section

namespace Cert.ConvColsValue

open Cert.ConvColsIdeal Cert.ConvColsIdeal.Gen Idealize.ShloMosaic Idealize.ShloMosaic.TcCoe Idealize.SL.Sem

/-- The mean of a token's channels. -/
def mu (z : Fin 2048 → EReal) : EReal := Ideal.div (∑ k, z k) (Ideal.ofBits FTy.f32 1157627904#32)

/-- One over the standard deviation of a token's channels. -/
def rs (z : Fin 2048 → EReal) : EReal :=
  Ideal.rsqrt (Ideal.div (∑ k, (z k - mu z) * (z k - mu z)) (Ideal.ofBits FTy.f32 1157627904#32) + Ideal.ofBits FTy.f32 897988541#32)

/-- One channel after the layer norm. -/
def lnorm (a μ ρ g b : EReal) : EReal := (a - μ) * ρ * g + b

/-- The activation. -/
def silu (u : EReal) : EReal := u * Ideal.div 1 (1 + Ideal.exp (-u))

/-- One entry of the output projection of an activated and gated token. -/
def projEntry (z g b t w : Fin 2048 → EReal) (o : EReal) : EReal :=
  ∑ k, silu (lnorm (z k) (mu z) (rs z) (g k) (b k)) * t k * w k + o

/-- One entry of the final norm of a row. -/
def finalEntry (r : Fin 1024 → EReal) (g : EReal) (j : Fin 1024) : EReal :=
  r j * Ideal.rsqrt (Ideal.div (∑ k, r k * r k) (Ideal.ofBits FTy.f32 1149239296#32) + Ideal.ofBits FTy.f32 897988541#32) * g

/-- A sum over the eight slabs' lanes is a sum over the channels. -/
theorem sum_slabs (F : ℕ → Fin 256 → EReal) (f : Fin 2048 → EReal)
    (h : ∀ (s : ℕ) (hs : s < 8) (j : Fin 256), F s j = f ⟨s * 256 + j.val, by have := j.isLt; omega⟩) :
    ∑ s ∈ Finset.range 8, ∑ j, F s j = ∑ k, f k := by
  rw [Finset.sum_range, ← Fintype.sum_prod_type' (fun (s : Fin 8) (j : Fin 256) => F s.val j)]
  refine Fintype.sum_equiv (finProdFinEquiv (m := 8) (n := 256)) _ _ fun p => ?_
  refine (h p.1.val p.1.isLt p.2).trans (congrArg f (Fin.ext ?_))
  show p.1.val * 256 + p.2.val = p.2.val + 256 * p.1.val
  omega

theorem sums_apply (C : ℕ → Vec Ideal S1x512x256 .f32) (n : ℕ) (y : S512x1.Idx) :
    sums C n y = ∑ s ∈ Finset.range n, ∑ j, C s (ix3 0 (y 0) j) := by
  induction n with
  | zero =>
    unfold sums
    pointwise
    try simp
  | succ n ih =>
    rw [Finset.sum_range_succ, ← ih, sums.eq_2]
    pointwise

theorem centred_apply (μ : FVec Ideal S512x1 .f32) (c : Vec Ideal S1x512x256 .f32) (y : S512x256.Idx) :
    centred μ c y = c (ix3 0 (y 0) (y 1)) - μ (ix2 (y 0) 0) := by
  unfold centred
  pointwise

theorem squares_apply (μ : FVec Ideal S512x1 .f32) (C : ℕ → Vec Ideal S1x512x256 .f32) (n : ℕ) (y : S512x1.Idx) :
    squares μ C n y = ∑ s ∈ Finset.range n, ∑ j, (C s (ix3 0 (y 0) j) - μ (ix2 (y 0) 0)) * (C s (ix3 0 (y 0) j) - μ (ix2 (y 0) 0)) := by
  induction n with
  | zero =>
    unfold squares
    pointwise
    try simp
  | succ n ih =>
    rw [Finset.sum_range_succ, ← ih, squares.eq_2]
    unfold centred
    pointwise

theorem normed_apply (μ ρ : FVec Ideal S512x1 .f32) (c : Vec Ideal S1x512x256 .f32) (g b : Vec Ideal S1x256 .f32) (y : S512x256.Idx) :
    normed μ ρ c g b y = lnorm (c (ix3 0 (y 0) (y 1))) (μ (ix2 (y 0) 0)) (ρ (ix2 (y 0) 0)) (g (ix2 0 (y 1))) (b (ix2 0 (y 1))) := by
  unfold normed centred lnorm
  pointwise

theorem part_apply (μ ρ : FVec Ideal S512x1 .f32) (c : Vec Ideal S1x512x256 .f32) (g b : Vec Ideal S1x256 .f32) (G : Vec Ideal S1x32x16x256 .bf16)
    (W : Vec Ideal S1x256x1024 .bf16) (y : S512x1024.Idx) (r : Fin 32) (q : Fin 16) (hp : (y 0).val = r.val * 16 + q.val) :
    part μ ρ c g b G W y = ∑ j, silu (lnorm (c (ix3 0 (y 0) j)) (μ (ix2 (y 0) 0)) (ρ (ix2 (y 0) 0)) (g (ix2 0 j)) (b (ix2 0 j)))
      * G (ix4 0 r q j) * W (ix3 0 j (y 1)) := by
  have hq := q.isLt
  have hr := r.isLt
  have h0 : (y 0).val / 16 < 32 := by omega
  have h1 : (y 0).val % 16 < 16 := by omega
  have er : (⟨(y 0).val / 16, h0⟩ : Fin 32) = r := Fin.ext (by show (y 0).val / 16 = r.val; omega)
  have eq : (⟨(y 0).val % 16, h1⟩ : Fin 16) = q := Fin.ext (by show (y 0).val % 16 = q.val; omega)
  unfold part normed centred silu lnorm
  pointwise
  simp only [zero_sub, er, eq]

theorem parts_apply (P : ℕ → FVec Ideal S512x1024 .f32) (n : ℕ) (y : S512x1024.Idx) :
    parts P n y = ∑ s ∈ Finset.range (n + 1), P s y := by
  induction n with
  | zero => rw [Finset.sum_range_one]; rfl
  | succ n ih =>
    rw [Finset.sum_range_succ, ← ih, parts.eq_2]
    pointwise

section Token
variable (C : ℕ → Vec Ideal S1x512x256 .f32) (p : Fin 512) (z : Fin 2048 → EReal)
  (hC : ∀ (s : ℕ) (hs : s < 8) (j : Fin 256), C s (ix3 0 p j) = z ⟨s * 256 + j.val, by have := j.isLt; omega⟩)
include hC

theorem mean_apply : mean C (ix2 p 0) = mu z := by
  unfold mean mu
  pointwise
  rw [sums_apply]
  exact congrArg (fun a => Ideal.div a _) (sum_slabs _ z hC)

theorem scale_apply : scale (mean C) C (ix2 p 0) = rs z := by
  unfold scale rs
  pointwise
  rw [squares_apply]
  have e : mean C (ix2 p 0) = mu z := mean_apply C p z hC
  refine congrArg (fun a => Ideal.rsqrt (Ideal.div a _ + _)) (sum_slabs _ (fun k => (z k - mu z) * (z k - mu z)) fun s hs j => ?_)
  show (C s (ix3 0 p j) - mean C (ix2 p 0)) * (C s (ix3 0 p j) - mean C (ix2 p 0)) = _
  rw [e, hC s hs j]

theorem project_apply (g b : ℕ → Vec Ideal S1x256 .f32) (G : ℕ → Vec Ideal S1x32x16x256 .bf16) (W : ℕ → Vec Ideal S1x256x1024 .bf16)
    (o : Vec Ideal S1x1024 .f32) (n : Fin 1024) (r : Fin 32) (q : Fin 16) (hp : p.val = r.val * 16 + q.val) (gz bz tz wz : Fin 2048 → EReal)
    (hg : ∀ (s : ℕ) (hs : s < 8) (j : Fin 256), g s (ix2 0 j) = gz ⟨s * 256 + j.val, by have := j.isLt; omega⟩)
    (hb : ∀ (s : ℕ) (hs : s < 8) (j : Fin 256), b s (ix2 0 j) = bz ⟨s * 256 + j.val, by have := j.isLt; omega⟩)
    (ht : ∀ (s : ℕ) (hs : s < 8) (j : Fin 256), G s (ix4 0 r q j) = tz ⟨s * 256 + j.val, by have := j.isLt; omega⟩)
    (hw : ∀ (s : ℕ) (hs : s < 8) (j : Fin 256), W s (ix3 0 j n) = wz ⟨s * 256 + j.val, by have := j.isLt; omega⟩) :
    project C g b G W o (ix2 p n) = projEntry z gz bz tz wz (o (ix2 0 n)) := by
  unfold project projEntry
  pointwise
  rw [parts_apply]
  refine congrArg (· + _) ?_
  refine (Finset.sum_congr rfl fun s _ => part_apply _ _ _ _ _ _ _ (ix2 p n) r q hp).trans (sum_slabs _ _ fun s hs j => ?_)
  show silu (lnorm (C s (ix3 0 p j)) (mean C (ix2 p 0)) (scale (mean C) C (ix2 p 0)) (g s (ix2 0 j)) (b s (ix2 0 j))) * G s (ix4 0 r q j) * W s (ix3 0 j n) = _
  rw [hC s hs j, mean_apply C p z hC, scale_apply C p z hC, hg s hs j, hb s hs j, ht s hs j, hw s hs j]

end Token

theorem block_apply (Y : FVec Ideal S512x1024 .f32) (X : Vec Ideal S1x32x16x1024 .f32) (M : Vec Ideal S1x1x1024 .f32) (F : Vec Ideal S1x1024 .f32)
    (y : S1x32x16x1024.Idx) (p : Fin 512) (hp : p.val = (y 1).val * 16 + (y 2).val) :
    k0_pay1 Y X M F y = finalEntry (fun k => X (ix4 0 (y 1) (y 2) k) + M (ix3 0 0 k) * Y (ix2 p k)) (F (ix2 0 (y 3))) (y 3) := by
  have hl : (y 1).val * 16 + (y 2).val < 512 := hp ▸ p.isLt
  rw [show p = ⟨(y 1).val * 16 + (y 2).val, hl⟩ from Fin.ext hp]
  have hy : ix4 (n0 := 1) (n1 := 32) (n2 := 16) (n3 := 1024) 0 (y 1) (y 2) (y 3) = y := by
    have h0 : (y 0).val < 1 := (y 0).isLt
    funext a
    fin_cases a
    · exact Fin.ext (by show 0 = (y 0).val; omega)
    · rfl
    · rfl
    · rfl
  unfold k0_pay1 finalEntry
  pointwise
  rw [hy]

end Cert.ConvColsValue

end
-- ==== Proof.ConvColsBlock.lean ====
module

public import proofs.«01_k».proof.Proof.ConvColsSlab
public import proofs.«01_k».proof.Proof.ConvColsEntry

/-! # The column convolution's block as a function of its operands -/

@[expose] public section

set_option maxRecDepth 16384
set_option maxHeartbeats 400000

noncomputable section

namespace Cert.ConvColsValue

open Cert.ConvColsIdeal Cert.ConvColsIdeal.Gen Idealize.ShloMosaic Idealize.ShloMosaic.TcCoe Idealize.SL.Sem

/-- One entry of the convolution down a column `A` of 32 rows, at row `r`: the taps inside the grid, and the bias. -/
def colConv (A : Fin 32 → EReal) (w : Fin 31 → EReal) (b : EReal) (r : ℕ) : EReal :=
  ∑ k ∈ Finset.range 31, (if h : k < 31 ∧ 15 ≤ r + k ∧ r + k < 47 then A ⟨r + k - 15, by omega⟩ * w ⟨k, h.1⟩ else 0) + b

/-- The slab of a channel. -/
def slabOf (ch : Fin 2048) : Fin 8 := ⟨ch.val / 256, by have := ch.isLt; omega⟩

/-- The lane of a channel in its slab. -/
def laneOf (ch : Fin 2048) : Fin 256 := ⟨ch.val % 256, Nat.mod_lt _ (by decide)⟩

theorem inputSlab_apply (arg : Memref sig .tc .vmem S1x32x16x2048 .bf16) (harg : arg.IsWhole) (x : Vec Ideal S1x32x16x2048 .bf16) (s : ℕ) (hs : s < 8)
    (r : Fin 32) (q : Fin 16) (j : Fin 256) : inputSlab arg harg x s (ix4 0 r q j) = x (ix4 0 r q ⟨s * 256 + j.val, by have := j.isLt; omega⟩) := by
  unfold inputSlab
  rw [dif_pos hs, View.readAt_eq_ld, harg.read_unread]
  refine View.ld_unit_apply_of _ _ _ _ _ _ fun a => ?_
  fin_cases a
  · rfl
  · exact (Nat.zero_add _).symm
  · exact (Nat.zero_add _).symm
  · rfl

theorem lanes_apply (arg : Memref sig .tc .vmem S1x2048 .f32) (harg : arg.IsWhole) (x : Vec Ideal S1x2048 .f32) (s : ℕ) (hs : s < 8) (j : Fin 256) :
    lanes arg harg x s (ix2 0 j) = x (ix2 0 ⟨s * 256 + j.val, by have := j.isLt; omega⟩) := by
  unfold lanes
  rw [dif_pos hs, View.readAt_eq_ld, harg.read_unread]
  refine View.ld_unit_apply_of _ _ _ _ _ _ fun a => ?_
  fin_cases a
  · rfl
  · rfl

theorem matrixSlab_apply (arg : Memref sig .tc .vmem S1x2048x1024 .bf16) (harg : arg.IsWhole) (x : Vec Ideal S1x2048x1024 .bf16) (s : ℕ) (hs : s < 8)
    (j : Fin 256) (n : Fin 1024) : matrixSlab arg harg x s (ix3 0 j n) = x (ix3 0 ⟨s * 256 + j.val, by have := j.isLt; omega⟩ n) := by
  unfold matrixSlab
  rw [dif_pos hs, View.readAt_eq_ld, harg.read_unread]
  refine View.ld_unit_apply_of _ _ _ _ _ _ fun a => ?_
  fin_cases a
  · rfl
  · rfl
  · exact (Nat.zero_add _).symm

/-- The first scratch array after the copies. -/
def copyAt (x : Vec Ideal S1x32x16x2048 .bf16) : Vec Ideal S8x32x16x256 .f32 := fun z =>
  x (ix4 0 (z 1) (z 2) ⟨(z 0).val * 256 + (z 3).val, by have h0 : (z 0).val < 8 := (z 0).isLt; have h3 : (z 3).val < 256 := (z 3).isLt; omega⟩)

theorem copy_place (n : ℕ) (h : n < 8) (y : S1x32x16x256.Idx) :
    (Rect.unit (s := S8x32x16x256) ![n, 0, 0, 0] S1x32x16x256.size (copy_inb n h)).emb y = ix4 ⟨n, h⟩ (y 1) (y 2) (y 3) := by
  have h0 : (y 0).val < 1 := (y 0).isLt
  funext a
  refine Fin.ext ?_
  refine (Rect.idx_unit_val (s := S8x32x16x256) ![n, 0, 0, 0] S1x32x16x256.size (copy_inb n h) y a).trans ?_
  fin_cases a
  · show n + (y 0).val = n; omega
  · exact Nat.zero_add _
  · exact Nat.zero_add _
  · exact Nat.zero_add _

theorem cast_value (G : Vec Ideal S1x32x16x256 .bf16) (y : S1x32x16x256.Idx) :
    shapeCast S1x32x16x256 (extf (F := Ideal) (φ := .bf16) .f32 (shapeCast S32x16x256 G Gen.shapeCasts_S1x32x16x256_S32x16x256) Gen.bitsLt_bf16_f32)
      Gen.shapeCasts_S32x16x256_S1x32x16x256 y = G (ix4 0 (y 1) (y 2) (y 3)) := by
  pointwise
  try
    congr 1
    have h0 : (y 0).val < 1 := (y 0).isLt
    funext a
    fin_cases a
    · exact Fin.ext (by show (y 0).val = 0; omega)
    · rfl
    · rfl
    · rfl

theorem copy_value (arg : Memref sig .tc .vmem S1x32x16x2048 .bf16) (harg : arg.IsWhole) (x : Vec Ideal S1x32x16x2048 .bf16) (n : ℕ) (h : n < 8)
    (y : S1x32x16x256.Idx) :
    shapeCast S1x32x16x256 (extf (F := Ideal) (φ := .bf16) .f32 (shapeCast S32x16x256 (inputSlab arg harg x n) Gen.shapeCasts_S1x32x16x256_S32x16x256) Gen.bitsLt_bf16_f32)
      Gen.shapeCasts_S32x16x256_S1x32x16x256 y
      = copyAt x ((Rect.unit (s := S8x32x16x256) ![n, 0, 0, 0] S1x32x16x256.size (copy_inb n h)).emb y) := by
  rw [copy_place n h y, cast_value]
  exact inputSlab_apply arg harg x n h (y 1) (y 2) (y 3)

theorem copies_agree (arg : Memref sig .tc .vmem S1x32x16x2048 .bf16) (harg : arg.IsWhole) (x : Vec Ideal S1x32x16x2048 .bf16) (n : ℕ) :
    ∀ p ∈ copies arg harg x n, ∀ y, p.2 y = copyAt x (p.1.emb y) := by
  induction n with
  | zero => intro p hp; cases hp
  | succ n ih =>
    intro p hp
    unfold copies at hp
    by_cases h : n < 8
    · rw [dif_pos h] at hp
      rcases List.mem_cons.mp hp with rfl | hp
      · exact copy_value arg harg x n h
      · exact ih p hp
    · rw [dif_neg h] at hp
      exact ih p hp

theorem copies_cover (arg : Memref sig .tc .vmem S1x32x16x2048 .bf16) (harg : arg.IsWhole) (x : Vec Ideal S1x32x16x2048 .bf16) (y : S8x32x16x256.Idx)
    (n : ℕ) (hn : n ≤ 8) (hy : (y 0).val < n) : ∃ p ∈ copies arg harg x n, y ∈ p.1.set := by
  induction n with
  | zero => omega
  | succ n ih =>
    have h : n < 8 := hn
    unfold copies
    rw [dif_pos h]
    by_cases hl : (y 0).val < n
    · obtain ⟨p, hp, hm⟩ := ih h.le hl
      exact ⟨p, List.mem_cons_of_mem _ hp, hm⟩
    · refine ⟨_, List.mem_cons_self .., ?_⟩
      refine (Rect.mem_set_unit (s := S8x32x16x256) (inb := copy_inb n h)).mpr fun a => ?_
      have h1 : (y 1).val < 32 := (y 1).isLt
      have h2 : (y 2).val < 16 := (y 2).isLt
      have h3 : (y 3).val < 256 := (y 3).isLt
      fin_cases a
      · exact ⟨by show n ≤ (y 0).val; omega, by show (y 0).val < n + 1; omega⟩
      · exact ⟨Nat.zero_le _, by show (y 1).val < 0 + 32; omega⟩
      · exact ⟨Nat.zero_le _, by show (y 2).val < 0 + 16; omega⟩
      · exact ⟨Nat.zero_le _, by show (y 3).val < 0 + 256; omega⟩

/-- The token in row `r`, column `q` of the grid. -/
def tok (r : Fin 32) (q : Fin 64) : Fin 2048 := ⟨r.val * 64 + q.val, by have h0 := r.isLt; have h1 := q.isLt; omega⟩

/-- The convolved channels of one token of one image. -/
def column (u : Vec Ideal S16x2048x2048 .bf16) (dw : Vec Ideal S2x31x2048 .f32) (db : Vec Ideal S2x2048 .f32) (b : Fin 16) (r : Fin 32) (q : Fin 64)
    (ch : Fin 2048) : EReal :=
  colConv (fun t => u (ix3 b (tok t q) ch)) (fun k => dw (ix3 1 k ch)) (db (ix2 1 ch)) r.val

/-- The residual with the gated projection, before the final norm. -/
def resid (u gate : Vec Ideal S16x2048x2048 .bf16) (x : Vec Ideal S16x2048x1024 .f32) (ml : Vec Ideal S16x3x1024 .f32) (dw : Vec Ideal S2x31x2048 .f32)
    (db lg lb : Vec Ideal S2x2048 .f32) (w : Vec Ideal S2x2048x1024 .f32) (bo : Vec Ideal S2x1024 .f32) (b : Fin 16) (r : Fin 32) (q : Fin 64)
    (k : Fin 1024) : EReal :=
  x (ix3 b (tok r q) k) + ml (ix3 b 2 k) * projEntry (column u dw db b r q) (fun ch => lg (ix2 1 ch)) (fun ch => lb (ix2 1 ch))
    (fun ch => gate (ix3 b (tok r q) ch)) (fun ch => w (ix3 1 ch k)) (bo (ix2 1 k))

/-- The whole output. -/
def spec (u gate : Vec Ideal S16x2048x2048 .bf16) (x : Vec Ideal S16x2048x1024 .f32) (ml : Vec Ideal S16x3x1024 .f32) (dw : Vec Ideal S2x31x2048 .f32)
    (db lg lb : Vec Ideal S2x2048 .f32) (w : Vec Ideal S2x2048x1024 .f32) (bo : Vec Ideal S2x1024 .f32) (fg : Vec Ideal S1024 .f32) :
    Vec Ideal S16x32x64x1024 .f32 := fun i =>
  finalEntry (resid u gate x ml dw db lg lb w bo (i 0) (i 1) (i 2)) (fg (ix1 (i 3))) (i 3)

section Point
variable (c : Dev nD) (i : grid0.Coords)
  (arg2 : Memref sig .tc .vmem S1x32x16x2048 .bf16) (harg2 : arg2.IsWhole) (arg3 : Memref sig .tc .vmem S1x32x16x2048 .bf16) (harg3 : arg3.IsWhole)
  (arg4 : Memref sig .tc .vmem S1x32x16x1024 .f32) (harg4 : arg4.IsWhole) (arg5 : Memref sig .tc .vmem S1x3x1024 .f32) (harg5 : arg5.IsWhole)
  (arg6 : Memref sig .tc .vmem S8x31x256 .f32) (harg6 : arg6.IsWhole) (arg7 : Memref sig .tc .vmem S8x1x256 .f32) (harg7 : arg7.IsWhole)
  (arg8 : Memref sig .tc .vmem S1x2048 .f32) (harg8 : arg8.IsWhole) (arg9 : Memref sig .tc .vmem S1x2048 .f32) (harg9 : arg9.IsWhole)
  (arg10 : Memref sig .tc .vmem S1x2048x1024 .bf16) (harg10 : arg10.IsWhole) (arg11 : Memref sig .tc .vmem S1x1024 .f32) (harg11 : arg11.IsWhole)
  (arg12 : Memref sig .tc .vmem S1x1024 .f32) (harg12 : arg12.IsWhole) (arg13 : Memref sig .tc .vmem S1x32x16x1024 .f32) (harg13 : arg13.IsWhole)
  (arg14 : Memref sig .tc .vmem S8x32x16x256 .f32) (harg14 : arg14.IsWhole) (arg15 : Memref sig .tc .vmem S8x512x256 .f32) (harg15 : arg15.IsWhole)
  (x0 : Vec Ideal S1x32x16x2048 .bf16) (x1 : Vec Ideal S1x32x16x2048 .bf16) (x2 : Vec Ideal S1x32x16x1024 .f32) (x3 : Vec Ideal S1x3x1024 .f32)
  (x4 : Vec Ideal S8x31x256 .f32) (x5 : Vec Ideal S8x1x256 .f32) (x6 : Vec Ideal S1x2048 .f32) (x7 : Vec Ideal S1x2048 .f32)
  (x8 : Vec Ideal S1x2048x1024 .bf16) (x9 : Vec Ideal S1x1024 .f32) (x10 : Vec Ideal S1x1024 .f32)

/-- The convolved channels of the token in row `r`, column `q` of the block. -/
def token (r : Fin 32) (q : Fin 16) (ch : Fin 2048) : EReal :=
  colConv (fun t => x0 (ix4 0 t q ch)) (fun k => x4 (ix3 (slabOf ch) k (laneOf ch))) (x5 (ix3 (slabOf ch) 0 (laneOf ch))) r.val

theorem convSlab_apply (v44 : FVec Ideal S32x16x256 .f32) (r : Fin 32) (q : Fin 16) (p : Fin 512) (hp : p.val = r.val * 16 + q.val) (s : ℕ) (hs : s < 8)
    (j : Fin 256) : convSlab c i arg2 harg2 arg3 harg3 arg4 harg4 arg5 harg5 arg6 harg6 arg7 harg7 arg8 harg8 arg9 harg9 arg10 harg10 arg11 harg11 arg12 harg12 arg13 harg13 arg14 harg14 arg15 harg15 x0 x4 x5 v44 s (ix3 0 p j)
      = token x0 x4 x5 r q ⟨s * 256 + j.val, by have := j.isLt; omega⟩ := by
  have hq := q.isLt
  have hj := j.isLt
  have hz : (Rect.unit (s := S8x512x256) ![s, 0, 0] S1x512x256.size (slab_inb s hs)).idx (ix3 0 p j) = ix3 ⟨s, hs⟩ p j := by
    funext a
    refine Fin.ext ?_
    refine (Rect.idx_unit_val (s := S8x512x256) ![s, 0, 0] S1x512x256.size (slab_inb s hs) _ a).trans ?_
    fin_cases a
    · rfl
    · exact Nat.zero_add _
    · exact Nat.zero_add _
  have hU : arg14.view.read (Elt Ideal) (arg14.view.writes (Elt Ideal) arg14.view.junk (copies arg2 harg2 x0 8)) = copyAt x0 := by
    rw [View.read_writes_junk_eq_canon]
    exact funext fun y => canon_agrees (copyAt x0) _ (copies_agree arg2 harg2 x0 8) y (copies_cover arg2 harg2 x0 y 8 (Nat.le_refl _) (y 0).isLt)
  unfold convSlab
  rw [dif_pos hs, View.readCov_eq_canon']
  refine (congrArg (View.canon _) hz).trans ?_
  rw [loop_value, hU, harg6.read_unread, harg7.read_unread]
  have e1 : p.val / 16 = r.val := by omega
  have e2 : (⟨p.val % 16, Nat.mod_lt _ (by decide)⟩ : Fin 16) = q := Fin.ext (by show p.val % 16 = q.val; omega)
  have e3 : slabOf ⟨s * 256 + j.val, by omega⟩ = ⟨s, hs⟩ := Fin.ext (by show (s * 256 + j.val) / 256 = s; omega)
  have e4 : laneOf ⟨s * 256 + j.val, by omega⟩ = j := Fin.ext (by show (s * 256 + j.val) % 256 = j.val; omega)
  unfold token
  rw [e3, e4]
  show convEntry (copyAt x0) x4 x5 ⟨s, hs⟩ (p.val / 16) ⟨p.val % 16, _⟩ j = _
  rw [e1, e2]
  rfl

/-- The block a point leaves, entry by entry. -/
theorem point_apply (y : S1x32x16x1024.Idx) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 y
      = finalEntry (fun k => x2 (ix4 0 (y 1) (y 2) k) + x3 (ix3 0 2 k) * projEntry (token x0 x4 x5 (y 1) (y 2)) (fun ch => x6 (ix2 0 ch))
          (fun ch => x7 (ix2 0 ch)) (fun ch => x1 (ix4 0 (y 1) (y 2) ch)) (fun ch => x8 (ix3 0 ch k)) (x9 (ix2 0 k))) (x10 (ix2 0 (y 3))) (y 3) := by
  obtain ⟨v44, e⟩ := point_pieces c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10
  have h1 : (y 1).val < 32 := (y 1).isLt
  have h2 : (y 2).val < 16 := (y 2).isLt
  unfold out0_A_11
  rw [e, View.read_writes_junk_eq_canon]
  rw [View.canon_cons_unit_zero (by funext a; fin_cases a <;> rfl)]
  refine (block_apply _ _ _ _ y ⟨(y 1).val * 16 + (y 2).val, by omega⟩ rfl).trans ?_
  have hx : ∀ k : Fin 1024, arg4.view.readAt (Elt Ideal) (Rect.unit (s := S1x32x16x1024) ![0, 0, 0, 0] S1x32x16x1024.size Gen.inb_S1x32x16x1024_S1x32x16x1024_0_0_0_0).toLoadRect
      (harg4.unread x2) (ix4 0 (y 1) (y 2) k) = x2 (ix4 0 (y 1) (y 2) k) := fun k => by
    rw [View.readAt_eq_ld, harg4.read_unread]
    refine View.ld_unit_apply_of _ _ _ _ _ _ fun a => ?_
    fin_cases a <;> exact (Nat.zero_add _).symm
  have hm : ∀ k : Fin 1024, arg5.view.readAt (Elt Ideal) (Rect.unit (s := S1x3x1024) ![0, 2, 0] S1x1x1024.size Gen.inb_S1x3x1024_S1x1x1024_0_2_0).toLoadRect
      (harg5.unread x3) (ix3 0 0 k) = x3 (ix3 0 2 k) := fun k => by
    rw [View.readAt_eq_ld, harg5.read_unread]
    refine View.ld_unit_apply_of _ _ _ _ _ _ fun a => ?_
    fin_cases a
    · rfl
    · rfl
    · exact (Nat.zero_add _).symm
  have hb : ∀ k : Fin 1024, arg11.view.readAt (Elt Ideal) (Rect.unit (s := S1x1024) ![0, 0] S1x1024.size Gen.inb_S1x1024_S1x1024_0_0).toLoadRect
      (harg11.unread x9) (ix2 0 k) = x9 (ix2 0 k) := fun k => by
    rw [View.readAt_eq_ld, harg11.read_unread]
    refine View.ld_unit_apply_of _ _ _ _ _ _ fun a => ?_
    fin_cases a <;> exact (Nat.zero_add _).symm
  have hf : ∀ k : Fin 1024, arg12.view.readAt (Elt Ideal) (Rect.unit (s := S1x1024) ![0, 0] S1x1024.size Gen.inb_S1x1024_S1x1024_0_0).toLoadRect
      (harg12.unread x10) (ix2 0 k) = x10 (ix2 0 k) := fun k => by
    rw [View.readAt_eq_ld, harg12.read_unread]
    refine View.ld_unit_apply_of _ _ _ _ _ _ fun a => ?_
    fin_cases a <;> exact (Nat.zero_add _).symm
  refine congrArg₂ (fun R g => finalEntry R g (y 3)) (funext fun k => ?_) (hf (y 3))
  refine congrArg₂ (· + ·) (hx k) (congrArg₂ (· * ·) (hm k) ?_)
  refine (project_apply _ ⟨(y 1).val * 16 + (y 2).val, by omega⟩ (token x0 x4 x5 (y 1) (y 2))
    (fun s hs j => convSlab_apply c i arg2 harg2 arg3 harg3 arg4 harg4 arg5 harg5 arg6 harg6 arg7 harg7 arg8 harg8 arg9 harg9 arg10 harg10 arg11 harg11 arg12 harg12 arg13 harg13 arg14 harg14 arg15 harg15 x0 x4 x5 v44 (y 1) (y 2) _ rfl s hs j) _ _ _ _ _ k (y 1) (y 2) rfl
    (fun ch => x6 (ix2 0 ch)) (fun ch => x7 (ix2 0 ch)) (fun ch => x1 (ix4 0 (y 1) (y 2) ch)) (fun ch => x8 (ix3 0 ch k))
    (fun s hs j => lanes_apply arg8 harg8 x6 s hs j) (fun s hs j => lanes_apply arg9 harg9 x7 s hs j)
    (fun s hs j => inputSlab_apply arg3 harg3 x1 s hs (y 1) (y 2) j) (fun s hs j => matrixSlab_apply arg10 harg10 x8 s hs j k)).trans ?_
  rw [hb k]

end Point

end Cert.ConvColsValue

end
-- ==== Proof.ConvColsValue.lean ====
module

public import proofs.«01_k».proof.Proof.ConvColsBlock

/-! # The column convolution's output array

The operands' blocks read back as the arguments, and the blocks the grid points leave put together as the whole output. -/

@[expose] public section

set_option maxRecDepth 16384
set_option maxHeartbeats 200000

noncomputable section

namespace Cert.ConvColsValue

open Cert.ConvColsIdeal Cert.ConvColsIdeal.Gen Idealize.ShloMosaic Idealize.ShloMosaic.TcCoe Idealize.SL.Sem

variable (m : (ℓ : Loc nD τ sig) → Buf (Elt Ideal) ℓ)

/-- The image of a grid point. -/
def image (t : Fin cfg0.N) : Fin 16 := ⟨t.val / 4, by have h : t.val < 64 := t.isLt; omega⟩

/-- The grid column that a grid point's column `q` is. -/
def gridCol (t : Fin cfg0.N) (q : Fin 16) : Fin 64 := ⟨t.val % 4 * 16 + q.val, by have h := q.isLt; omega⟩

theorem index_w (t : Fin cfg0.N) : win0_0.index t = ![t.val / 4, 0, t.val % 4, 0] ∧ win0_1.index t = ![t.val / 4, 0, t.val % 4, 0]
    ∧ win0_2.index t = ![t.val / 4, 0, t.val % 4, 0] ∧ win0_3.index t = ![t.val / 4, 0, 0] ∧ win0_4.index t = ![0, 0, 0] ∧ win0_5.index t = ![0, 0, 0]
    ∧ win0_6.index t = ![0, 0] ∧ win0_7.index t = ![0, 0] ∧ win0_8.index t = ![1, 0, 0] ∧ win0_9.index t = ![0, 0] ∧ win0_10.index t = ![0, 0]
    ∧ win0_11.index t = ![t.val / 4, 0, t.val % 4, 0] := by
  revert t; decide +kernel

theorem input_read (c : Dev nD) (t : Fin cfg0.N) (r : Fin 32) (q : Fin 16) (ch : Fin 2048) :
    iblk m c 0 t (ix4 0 r q ch) = m ((c : Thread nD τ).loc main_arg0) (ix3 (image t) (tok r (gridCol t q)) ch) := by
  obtain ⟨e0, e1, e2, e3, e4, e5, e6, e7, e8, e9, e10, e11⟩ := index_w t
  blk_simp [iblk]
  entry_read
  pointwise
  blk_ext [e0, image, tok, gridCol]

theorem gate_read (c : Dev nD) (t : Fin cfg0.N) (r : Fin 32) (q : Fin 16) (ch : Fin 2048) :
    iblk m c 1 t (ix4 0 r q ch) = m ((c : Thread nD τ).loc main_arg1) (ix3 (image t) (tok r (gridCol t q)) ch) := by
  obtain ⟨e0, e1, e2, e3, e4, e5, e6, e7, e8, e9, e10, e11⟩ := index_w t
  blk_simp [iblk]
  entry_read
  pointwise
  blk_ext [e1, image, tok, gridCol]

theorem residual_read (c : Dev nD) (t : Fin cfg0.N) (r : Fin 32) (q : Fin 16) (k : Fin 1024) :
    iblk m c 2 t (ix4 0 r q k) = m ((c : Thread nD τ).loc main_arg2) (ix3 (image t) (tok r (gridCol t q)) k) := by
  obtain ⟨e0, e1, e2, e3, e4, e5, e6, e7, e8, e9, e10, e11⟩ := index_w t
  blk_simp [iblk]
  entry_read
  pointwise
  blk_ext [e2, image, tok, gridCol]

theorem mod_read (c : Dev nD) (t : Fin cfg0.N) (k : Fin 1024) :
    iblk m c 3 t (ix3 0 2 k) = m ((c : Thread nD τ).loc main_arg3) (ix3 (image t) 2 k) := by
  obtain ⟨e0, e1, e2, e3, e4, e5, e6, e7, e8, e9, e10, e11⟩ := index_w t
  blk_ext [iblk, V_main_arg3, e3, image]

theorem taps_read (c : Dev nD) (t : Fin cfg0.N) (k : Fin 31) (ch : Fin 2048) :
    iblk m c 4 t (ix3 (slabOf ch) k (laneOf ch)) = m ((c : Thread nD τ).loc main_arg4) (ix3 1 k ch) := by
  obtain ⟨e0, e1, e2, e3, e4, e5, e6, e7, e8, e9, e10, e11⟩ := index_w t
  blk_simp [iblk]
  entry_read
  pointwise
  blk_ext [e4, slabOf, laneOf]

theorem tapBias_read (c : Dev nD) (t : Fin cfg0.N) (ch : Fin 2048) :
    iblk m c 5 t (ix3 (slabOf ch) 0 (laneOf ch)) = m ((c : Thread nD τ).loc main_arg5) (ix2 1 ch) := by
  obtain ⟨e0, e1, e2, e3, e4, e5, e6, e7, e8, e9, e10, e11⟩ := index_w t
  blk_simp [iblk]
  entry_read
  pointwise
  blk_ext [e5, slabOf, laneOf]

theorem gain_read (c : Dev nD) (t : Fin cfg0.N) (ch : Fin 2048) :
    iblk m c 6 t (ix2 0 ch) = m ((c : Thread nD τ).loc main_arg6) (ix2 1 ch) := by
  obtain ⟨e0, e1, e2, e3, e4, e5, e6, e7, e8, e9, e10, e11⟩ := index_w t
  blk_simp [iblk]
  entry_read
  pointwise
  blk_ext [e6]

theorem shift_read (c : Dev nD) (t : Fin cfg0.N) (ch : Fin 2048) :
    iblk m c 7 t (ix2 0 ch) = m ((c : Thread nD τ).loc main_arg7) (ix2 1 ch) := by
  obtain ⟨e0, e1, e2, e3, e4, e5, e6, e7, e8, e9, e10, e11⟩ := index_w t
  blk_simp [iblk]
  entry_read
  pointwise
  blk_ext [e7]

theorem weight_read (c : Dev nD) (t : Fin cfg0.N) (ch : Fin 2048) (k : Fin 1024) :
    iblk m c 8 t (ix3 0 ch k) = m ((c : Thread nD τ).loc main_arg8) (ix3 1 ch k) := by
  obtain ⟨e0, e1, e2, e3, e4, e5, e6, e7, e8, e9, e10, e11⟩ := index_w t
  blk_simp [iblk]
  entry_read
  pointwise
  blk_ext [e8]

theorem bias_read (c : Dev nD) (t : Fin cfg0.N) (k : Fin 1024) :
    iblk m c 9 t (ix2 0 k) = m ((c : Thread nD τ).loc main_arg9) (ix2 1 k) := by
  obtain ⟨e0, e1, e2, e3, e4, e5, e6, e7, e8, e9, e10, e11⟩ := index_w t
  blk_simp [iblk]
  entry_read
  pointwise
  blk_ext [e9]

theorem finalGain_read (c : Dev nD) (t : Fin cfg0.N) (k : Fin 1024) :
    iblk m c 10 t (ix2 0 k) = m ((c : Thread nD τ).loc main_arg10) (ix1 k) := by
  obtain ⟨e0, e1, e2, e3, e4, e5, e6, e7, e8, e9, e10, e11⟩ := index_w t
  blk_simp [iblk]
  entry_read
  pointwise
  blk_ext [e10]

theorem token_read (c : Dev nD) (t : Fin cfg0.N) (r : Fin 32) (q : Fin 16) : token (iblk m c 0 t) (iblk m c 4 t) (iblk m c 5 t) r q
    = column (m ((c : Thread nD τ).loc main_arg0)) (m ((c : Thread nD τ).loc main_arg4)) (m ((c : Thread nD τ).loc main_arg5)) (image t) r (gridCol t q) := by
  funext ch
  unfold token column
  rw [tapBias_read m c t ch]
  refine congrArg₂ (fun A w => colConv A w _ _) (funext fun s => input_read m c t s q ch) (funext fun k => taps_read m c t k ch)

/-- The whole output of the arguments as the memory holds them. -/
def whole (c : Dev nD) : Vec Ideal S16x32x64x1024 .f32 := spec (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg10))

/-- What a point leaves, entry by entry. -/
theorem left_apply (c : Dev nD) (t : Fin cfg0.N) (y : S1x32x16x1024.Idx) :
    outsAt0 m c t y = whole m c (ix4 (image t) (y 1) (gridCol t (y 2)) (y 3)) := by
  unfold outsAt0
  rw [point_apply]
  unfold whole spec
  refine congrArg₂ (fun R g => finalEntry R g (y 3)) (funext fun k => ?_) (finalGain_read m c t (y 3))
  unfold resid
  refine congrArg₂ (· + ·) (residual_read m c t (y 1) (y 2) k) (congrArg₂ (· * ·) (mod_read m c t k) ?_)
  rw [token_read m c t (y 1) (y 2), funext (gain_read m c t), funext (shift_read m c t),
    funext (gate_read m c t (y 1) (y 2)), funext fun ch => weight_read m c t ch k]
  exact congrArg (projEntry _ _ _ _ _) (bias_read m c t k)

attribute [local irreducible] whole outsAt0

/-- After the run the output array is the whole output. -/
theorem final (c : Dev nD) : (dats m 0 c).arrAt 11 cfg0.N = whole m c := by
  refine (dats m 0 c).arrAt_eq_of_covers 11 _ (by decide +kernel) fun t hf y => ?_
  have e11 := (index_w t).2.2.2.2.2.2.2.2.2.2.2
  have e : outsAt0 m c t = fun y => whole m c (ix4 (image t) (y 1) (gridCol t (y 2)) (y 3)) := funext fun y => left_apply m c t y
  rw [after0_11, e]
  refine congrArg (whole m c) ?_
  blk_ext [e11, image, gridCol]

end Cert.ConvColsValue

end
-- ==== Proof.ConvColsRefTaps.lean ====
module

public import proofs.«01_k».proof.Proof.ConvColsBlock
public import proofs.«01_k».proof.Proof.Gen.ConvColsRefIdeal.Read
public import Idealize.ShloMosaic.Lib.KernelVsHost

/-! # The column convolution's reference: the padded grid and its taps -/

@[expose] public section

set_option maxRecDepth 16384
set_option maxHeartbeats 200000

noncomputable section

namespace Cert.ConvColsValue

open Cert.ConvColsRefIdeal Cert.ConvColsRefIdeal.Gen Cert.ConvColsRefIdeal.Read Idealize.ShloMosaic Idealize.ShloMosaic.TcCoe

theorem grid_slices (k : ℕ) (hk : k < 31) : S16x62x64x2048.Slices ![0, k, 0, 0] S16x32x64x2048 := by
  refine ⟨rfl, fun a => ?_⟩
  fin_cases a
  · exact Nat.le_refl _
  · show k + 32 ≤ 62; omega
  · exact Nat.le_refl _
  · exact Nat.le_refl _

theorem weight_slices (k : ℕ) (hk : k < 31) : S2x31x2048.Slices ![1, k, 0] S1x1x2048 := by
  refine ⟨rfl, fun a => ?_⟩
  fin_cases a
  · exact Nat.le_refl _
  · show k + 1 ≤ 31; omega
  · exact Nat.le_refl _

/-- The reference's first `n` taps over the padded grid. -/
def refTaps (G : Vec Ideal S16x62x64x2048 .f32) (D : Vec Ideal S2x31x2048 .f32) : ℕ → FVec Ideal S16x32x64x2048 .f32
  | 0 => val_main_v9 (F := Ideal)
  | k + 1 => if h : k < 31 then
      addf (refTaps G D k) (mulf (extractStridedSlice S16x32x64x2048 ![0, k, 0, 0] G (grid_slices k h))
        (broadcastInDim S16x32x64x2048 ![0, 1, 2, 3] bcast_S1x1x1x2048_S16x32x64x2048_0_1_2_3
          (broadcastInDim S1x1x1x2048 ![3] bcast_S2048_S1x1x1x2048_3
            (shapeCast S2048 (extractStridedSlice S1x1x2048 ![1, k, 0] D (weight_slices k h)) shapeCasts_S1x1x2048_S2048))))
    else refTaps G D k

theorem refTaps_apply (G : Vec Ideal S16x62x64x2048 .f32) (D : Vec Ideal S2x31x2048 .f32) (n : ℕ) (b : Fin 16) (r : Fin 32) (q : Fin 64) (ch : Fin 2048) :
    refTaps G D n (ix4 b r q ch)
      = ∑ k ∈ Finset.range n, (if h : k < 31 then G (ix4 b ⟨r.val + k, by have := r.isLt; omega⟩ q ch) * D (ix3 1 ⟨k, h⟩ ch) else 0) := by
  induction n with
  | zero =>
    unfold refTaps val_main_v9 val_main_cst
    pointwise
    try simp
  | succ n ih =>
    rw [Finset.sum_range_succ, ← ih]
    by_cases h : n < 31
    · rw [refTaps.eq_2, dif_pos h, dif_pos h]
      pointwise
      try (refine congrArg₂ (· + ·) rfl (congrArg₂ (· * ·) (congrArg G ?_) rfl); blk_ext [])
    · rw [refTaps.eq_2, dif_neg h, dif_neg h, add_zero]

variable (x0 : (⟨S16x2048x2048, .bf16⟩ : BufTy).Contents (Elt Ideal)) (x1 : (⟨S16x2048x2048, .bf16⟩ : BufTy).Contents (Elt Ideal))
  (x2 : (⟨S16x2048x1024, .f32⟩ : BufTy).Contents (Elt Ideal)) (x3 : (⟨S16x3x1024, .f32⟩ : BufTy).Contents (Elt Ideal))
  (x4 : (⟨S2x31x2048, .f32⟩ : BufTy).Contents (Elt Ideal)) (x5 x6 x7 : (⟨S2x2048, .f32⟩ : BufTy).Contents (Elt Ideal))
  (x8 : (⟨S2x2048x1024, .f32⟩ : BufTy).Contents (Elt Ideal)) (x9 : (⟨S2x1024, .f32⟩ : BufTy).Contents (Elt Ideal))
  (x10 : (⟨S1024, .f32⟩ : BufTy).Contents (Elt Ideal))

set_option maxRecDepth 100000 in
/-- The reference's sum of shifted products is the recursion's. -/
theorem ref_taps : val_main_v220 (F := Ideal) x0 x4 = refTaps (val_main_v2 (F := Ideal) x0) x4 31 := rfl

/-- The padded grid: zero outside the 32 rows. -/
theorem ref_grid (b : Fin 16) (s : Fin 62) (q : Fin 64) (ch : Fin 2048) : val_main_v2 (F := Ideal) x0 (ix4 b s q ch)
    = if h : 15 ≤ s.val ∧ s.val < 47 then x0 (ix3 b (tok ⟨s.val - 15, by omega⟩ q) ch) else 0 := by
  unfold val_main_v2 val_main_v1 val_main_v0 val_main_call0_v0 val_main_c
  pointwise
  by_cases h : 15 ≤ s.val ∧ s.val < 47
  · rw [dif_pos h, dif_pos (show 15 ≤ s.val ∧ s.val - 15 < 32 by omega)]
    rfl
  · rw [dif_neg h, dif_neg (show ¬ (15 ≤ s.val ∧ s.val - 15 < 32) by omega)]
    exact sitofp_zero (φ := .f32)

end Cert.ConvColsValue

end
-- ==== Proof.ConvColsReference.lean ====
module

public import proofs.«01_k».proof.Proof.ConvColsRefTaps

/-! # The column convolution's reference computes the same function -/

@[expose] public section

set_option maxRecDepth 16384
set_option maxHeartbeats 200000

noncomputable section

namespace Cert.ConvColsValue

open Cert.ConvColsRefIdeal Cert.ConvColsRefIdeal.Gen Cert.ConvColsRefIdeal.Read Idealize.ShloMosaic Idealize.ShloMosaic.TcCoe

attribute [local irreducible] val_main_v220 refTaps val_main_v2 val_main_v225 val_main_v226 val_main_v234 val_main_v236 val_main_v244 val_main_v252 val_main_v255 val_main_v263 val_main_v269

variable (x0 : (⟨S16x2048x2048, .bf16⟩ : BufTy).Contents (Elt Ideal)) (x1 : (⟨S16x2048x2048, .bf16⟩ : BufTy).Contents (Elt Ideal))
  (x2 : (⟨S16x2048x1024, .f32⟩ : BufTy).Contents (Elt Ideal)) (x3 : (⟨S16x3x1024, .f32⟩ : BufTy).Contents (Elt Ideal))
  (x4 : (⟨S2x31x2048, .f32⟩ : BufTy).Contents (Elt Ideal)) (x5 x6 x7 : (⟨S2x2048, .f32⟩ : BufTy).Contents (Elt Ideal))
  (x8 : (⟨S2x2048x1024, .f32⟩ : BufTy).Contents (Elt Ideal)) (x9 : (⟨S2x1024, .f32⟩ : BufTy).Contents (Elt Ideal))
  (x10 : (⟨S1024, .f32⟩ : BufTy).Contents (Elt Ideal))

/-- The convolved grid: a tap outside it multiplies the padding's zero. -/
theorem ref_conv (b : Fin 16) (r : Fin 32) (q : Fin 64) (ch : Fin 2048) : val_main_v225 (F := Ideal) x0 x4 x5 (ix4 b r q ch) = column x0 x4 x5 b r q ch := by
  have e : val_main_v225 (F := Ideal) x0 x4 x5 (ix4 b r q ch) = refTaps (val_main_v2 (F := Ideal) x0) x4 31 (ix4 b r q ch) + x5 (ix2 1 ch) := by
    rw [← ref_taps]
    unfold val_main_v225 val_main_v224 val_main_v223 val_main_v222 val_main_v221
    pointwise
  rw [e, refTaps_apply]
  unfold column colConv
  refine congrArg (· + _) (Finset.sum_congr rfl fun k hk => ?_)
  have hr := r.isLt
  have h31 : k < 31 := Finset.mem_range.mp hk
  rw [dif_pos h31, ref_grid]
  by_cases h : 15 ≤ r.val + k ∧ r.val + k < 47
  · rw [dif_pos h, dif_pos ⟨h31, h⟩]
  · rw [dif_neg h, dif_neg fun h' => h h'.2, zero_mul]

/-- The gain and shift of the layer norm at an entry, whatever is scaled. -/
theorem norm_entry (Z : FVec Ideal S16x2048x2048 .f32) (R : FVec Ideal S16x2048x1 .f32) (i : S16x2048x2048.Idx) :
    addf (mulf (mulf Z (broadcastInDim S16x2048x2048 ![0, 1, 2] bcast_S16x2048x1_S16x2048x2048_0_1_2 R)) (val_main_v248 (F := Ideal) x6)) (val_main_v251 (F := Ideal) x7) i
      = Z i * R (ix3 (i 0) (i 1) 0) * x6 (ix2 1 (i 2)) + x7 (ix2 1 (i 2)) := by
  unfold val_main_v251 val_main_v250 val_main_v248 val_main_v247 val_main_v230 val_main_v229 val_main_v228 val_main_v227
  pointwise

/-- The activation and the gate at an entry, whatever is activated. -/
theorem gate_entry (Z : FVec Ideal S16x2048x2048 .f32) (i : S16x2048x2048.Idx) :
    mulf (mulf Z (Host.divf (val_main_call1_v4 (F := Ideal)) (addf (val_main_call1_v2 (F := Ideal)) (Host.exp (Host.negf Z))))) (extf .f32 x1 bitsLt_bf16_f32) i
      = silu (Z i) * x1 i := by
  unfold val_main_call1_v4 val_main_call1_v2 val_main_call1_cst val_main_call1_cst_0 silu
  pointwise

/-- The projection at an entry, whatever is projected. -/
theorem project_entry (Z : FVec Ideal S16x2048x2048 .f32) (i : S16x2048x1024.Idx) :
    addf (Host.dotGeneral (φ₂ := .f32) dot_S16x2048x2048_S2048x1024_S16x2048x1024_2_0_01_1_n_n none Z (val_main_v257 (F := Ideal) x8)) (val_main_v262 (F := Ideal) x9) i
      = ∑ k : Fin 2048, Z (ix3 (i 0) (i 1) k) * x8 (ix3 1 k (i 2)) + x9 (ix2 1 (i 2)) := by
  unfold val_main_v262 val_main_v261 val_main_v260 val_main_v259 val_main_v257 val_main_v256
  pointwise

section Token
variable (b : Fin 16) (r : Fin 32) (q : Fin 64)

theorem ref_flat (ch : Fin 2048) : val_main_v226 (F := Ideal) x0 x4 x5 (ix3 b (tok r q) ch) = column x0 x4 x5 b r q ch := by
  have hr := r.isLt
  have hq := q.isLt
  have h0 : (r.val * 64 + q.val) / 64 < 32 := by omega
  have h1 : (r.val * 64 + q.val) % 64 < 64 := by omega
  have e0 : (⟨(r.val * 64 + q.val) / 64, h0⟩ : Fin 32) = r := Fin.ext (by show (r.val * 64 + q.val) / 64 = r.val; omega)
  have e1 : (⟨(r.val * 64 + q.val) % 64, h1⟩ : Fin 64) = q := Fin.ext (by show (r.val * 64 + q.val) % 64 = q.val; omega)
  refine Eq.trans ?_ (ref_conv x0 x4 x5 b r q ch)
  unfold val_main_v226 tok
  pointwise

theorem ref_mean : val_main_v234 (F := Ideal) x0 x4 x5 (ix3 b (tok r q) 0) = mu (column x0 x4 x5 b r q) := by
  unfold val_main_v234 val_main_v233 val_main_v232 val_main_v231 val_main_cst_0 val_main_cst_1 mu
  pointwise
  refine congrArg (fun a => Ideal.div a _) ?_
  exact Finset.sum_congr rfl fun k _ => ref_flat x0 x4 x5 b r q k

theorem ref_centred (ch : Fin 2048) : val_main_v236 (F := Ideal) x0 x4 x5 (ix3 b (tok r q) ch)
    = column x0 x4 x5 b r q ch - mu (column x0 x4 x5 b r q) := by
  rw [val_main_v236_apply, val_main_v235_apply, ref_flat]
  rw [show idx_main_v235 (ix3 b (tok r q) ch) = ix3 b (tok r q) 0 from by funext a; fin_cases a <;> rfl, ref_mean]
  rfl

theorem ref_scale : val_main_v244 (F := Ideal) x0 x4 x5 (ix3 b (tok r q) 0) = rs (column x0 x4 x5 b r q) := by
  unfold val_main_v244 val_main_v243 val_main_v242 val_main_v241 val_main_v240 val_main_v239 val_main_v238 val_main_cst_2 val_main_cst_3 val_main_cst_4 rs
  pointwise
  refine congrArg (fun a => Ideal.rsqrt (Ideal.div a _ + _)) (Finset.sum_congr rfl fun k _ => ?_)
  refine (val_main_v237_apply (F := Ideal) x0 x4 x5 (ix3 b (tok r q) k)).trans ?_
  rw [ref_centred x0 x4 x5 b r q k]
  rfl

theorem ref_norm (ch : Fin 2048) : val_main_v252 (F := Ideal) x0 x4 x5 x6 x7 (ix3 b (tok r q) ch)
    = lnorm (column x0 x4 x5 b r q ch) (mu (column x0 x4 x5 b r q)) (rs (column x0 x4 x5 b r q)) (x6 (ix2 1 ch)) (x7 (ix2 1 ch)) := by
  unfold val_main_v252 val_main_v249 val_main_v246 val_main_v245
  refine (norm_entry x6 x7 _ _ (ix3 b (tok r q) ch)).trans ?_
  unfold lnorm
  refine congrArg (· + _) (congrArg (· * _) ?_)
  exact congrArg₂ (fun u v : EReal => u * v) (ref_centred x0 x4 x5 b r q ch) (ref_scale x0 x4 x5 b r q)

theorem ref_gated (ch : Fin 2048) : val_main_v255 (F := Ideal) x0 x1 x4 x5 x6 x7 (ix3 b (tok r q) ch)
    = silu (lnorm (column x0 x4 x5 b r q ch) (mu (column x0 x4 x5 b r q)) (rs (column x0 x4 x5 b r q)) (x6 (ix2 1 ch)) (x7 (ix2 1 ch)))
      * x1 (ix3 b (tok r q) ch) := by
  unfold val_main_v255 val_main_v254 val_main_v253 val_main_call1_v5 val_main_call1_v3 val_main_call1_v1 val_main_call1_v0
  refine (gate_entry x1 _ (ix3 b (tok r q) ch)).trans ?_
  exact congrArg (fun u : EReal => silu u * _) (ref_norm x0 x4 x5 x6 x7 b r q ch)

theorem ref_project (n : Fin 1024) : val_main_v263 (F := Ideal) x0 x1 x4 x5 x6 x7 x8 x9 (ix3 b (tok r q) n)
    = projEntry (column x0 x4 x5 b r q) (fun ch => x6 (ix2 1 ch)) (fun ch => x7 (ix2 1 ch)) (fun ch => x1 (ix3 b (tok r q) ch))
        (fun ch => x8 (ix3 1 ch n)) (x9 (ix2 1 n)) := by
  unfold val_main_v263 val_main_v258 projEntry
  refine (project_entry x8 x9 _ (ix3 b (tok r q) n)).trans ?_
  refine congrArg (· + _) (Finset.sum_congr rfl fun k _ => ?_)
  exact congrArg (fun u : EReal => u * _) (ref_gated x0 x1 x4 x5 x6 x7 b r q k)

theorem ref_resid (n : Fin 1024) : val_main_v269 (F := Ideal) x0 x1 x2 x3 x4 x5 x6 x7 x8 x9 (ix3 b (tok r q) n)
    = resid x0 x1 x2 x3 x4 x5 x6 x7 x8 x9 b r q n := by
  unfold resid
  rw [← ref_project x0 x1 x4 x5 x6 x7 x8 x9 b r q n]
  unfold val_main_v269 val_main_v268 val_main_v267 val_main_v266 val_main_v265 val_main_v264
  pointwise

theorem ref_final (n : Fin 1024) : val_main_v282 (F := Ideal) x0 x1 x2 x3 x4 x5 x6 x7 x8 x9 x10 (ix3 b (tok r q) n)
    = finalEntry (resid x0 x1 x2 x3 x4 x5 x6 x7 x8 x9 b r q) (x10 (ix1 n)) n := by
  unfold finalEntry
  simp only [← ref_resid x0 x1 x2 x3 x4 x5 x6 x7 x8 x9 b r q]
  unfold val_main_v282 val_main_v281 val_main_v280 val_main_v279 val_main_v278 val_main_v277 val_main_v276 val_main_v275 val_main_v274 val_main_v273
    val_main_v272 val_main_v271 val_main_v270 val_main_cst_5 val_main_cst_6 val_main_cst_7
  pointwise

end Token

/-- The reference's result is the whole output. -/
theorem ref_spec : val_main_v283 (F := Ideal) x0 x1 x2 x3 x4 x5 x6 x7 x8 x9 x10 = spec x0 x1 x2 x3 x4 x5 x6 x7 x8 x9 x10 := by
  funext i
  refine Eq.trans ?_ (ref_final x0 x1 x2 x3 x4 x5 x6 x7 x8 x9 x10 (i 0) (i 1) (i 2) (i 3))
  unfold val_main_v283 tok
  pointwise

end Cert.ConvColsValue

end
-- ==== Proof.ConvColsClaim.lean ====
module

public import proofs.«01_k».proof.Proof.ConvColsValue
public import proofs.«01_k».proof.Proof.ConvColsReference
public import proofs.«01_k».proof.Proof.Gen.ConvColsRefIdeal.Run
public import proofs.«01_k».proof.Defs

/-! # The column convolution's claims -/

@[expose] public section

set_option maxRecDepth 16384
set_option maxHeartbeats 2000000

noncomputable section

namespace Cert.ConvColsValue

open Idealize.ShloMosaic Idealize.ShloMosaic.TcCoe Idealize.SL.Sem

attribute [local irreducible] whole spec

/-- The kernel's result is the reference's, element by element over the extended reals. -/
theorem conforms : Cert.algebraic_ConvColsIdeal_ConvColsRefIdeal := by
  intro m g m' g' _ hagree
  refine ⟨fun c => _, (θ_run _ _ _).mono (fun r h c => ⟨(h c).1.trans (final m c), (h c).2⟩) (Cert.ConvColsIdeal.Value.run_blocks m g),
    (θ_run _ _ _).mono (fun r h c => ⟨(h c).1.trans ?_, (h c).2⟩) (Cert.ConvColsRefIdeal.Value.run m' g')⟩
  obtain ⟨e0, e1, e2, e3, e4, e5, e6, e7, e8, e9, e10⟩ := hagree c
  refine (Cert.ConvColsRefIdeal.Read.val_main_v283_eq _).trans ((ref_spec _ _ _ _ _ _ _ _ _ _ _).trans ?_)
  unfold whole
  show spec (m' ((c : Thread Cert.ConvColsRefIdeal.nD Cert.ConvColsRefIdeal.τ).loc Cert.ConvColsRefIdeal.main_arg0))
      (m' ((c : Thread Cert.ConvColsRefIdeal.nD Cert.ConvColsRefIdeal.τ).loc Cert.ConvColsRefIdeal.main_arg1))
      (m' ((c : Thread Cert.ConvColsRefIdeal.nD Cert.ConvColsRefIdeal.τ).loc Cert.ConvColsRefIdeal.main_arg2))
      (m' ((c : Thread Cert.ConvColsRefIdeal.nD Cert.ConvColsRefIdeal.τ).loc Cert.ConvColsRefIdeal.main_arg3))
      (m' ((c : Thread Cert.ConvColsRefIdeal.nD Cert.ConvColsRefIdeal.τ).loc Cert.ConvColsRefIdeal.main_arg4))
      (m' ((c : Thread Cert.ConvColsRefIdeal.nD Cert.ConvColsRefIdeal.τ).loc Cert.ConvColsRefIdeal.main_arg5))
      (m' ((c : Thread Cert.ConvColsRefIdeal.nD Cert.ConvColsRefIdeal.τ).loc Cert.ConvColsRefIdeal.main_arg6))
      (m' ((c : Thread Cert.ConvColsRefIdeal.nD Cert.ConvColsRefIdeal.τ).loc Cert.ConvColsRefIdeal.main_arg7))
      (m' ((c : Thread Cert.ConvColsRefIdeal.nD Cert.ConvColsRefIdeal.τ).loc Cert.ConvColsRefIdeal.main_arg8))
      (m' ((c : Thread Cert.ConvColsRefIdeal.nD Cert.ConvColsRefIdeal.τ).loc Cert.ConvColsRefIdeal.main_arg9))
      (m' ((c : Thread Cert.ConvColsRefIdeal.nD Cert.ConvColsRefIdeal.τ).loc Cert.ConvColsRefIdeal.main_arg10))
    = spec (m ((c : Thread Cert.ConvColsIdeal.nD Cert.ConvColsIdeal.τ).loc Cert.ConvColsIdeal.main_arg0))
      (m ((c : Thread Cert.ConvColsIdeal.nD Cert.ConvColsIdeal.τ).loc Cert.ConvColsIdeal.main_arg1))
      (m ((c : Thread Cert.ConvColsIdeal.nD Cert.ConvColsIdeal.τ).loc Cert.ConvColsIdeal.main_arg2))
      (m ((c : Thread Cert.ConvColsIdeal.nD Cert.ConvColsIdeal.τ).loc Cert.ConvColsIdeal.main_arg3))
      (m ((c : Thread Cert.ConvColsIdeal.nD Cert.ConvColsIdeal.τ).loc Cert.ConvColsIdeal.main_arg4))
      (m ((c : Thread Cert.ConvColsIdeal.nD Cert.ConvColsIdeal.τ).loc Cert.ConvColsIdeal.main_arg5))
      (m ((c : Thread Cert.ConvColsIdeal.nD Cert.ConvColsIdeal.τ).loc Cert.ConvColsIdeal.main_arg6))
      (m ((c : Thread Cert.ConvColsIdeal.nD Cert.ConvColsIdeal.τ).loc Cert.ConvColsIdeal.main_arg7))
      (m ((c : Thread Cert.ConvColsIdeal.nD Cert.ConvColsIdeal.τ).loc Cert.ConvColsIdeal.main_arg8))
      (m ((c : Thread Cert.ConvColsIdeal.nD Cert.ConvColsIdeal.τ).loc Cert.ConvColsIdeal.main_arg9))
      (m ((c : Thread Cert.ConvColsIdeal.nD Cert.ConvColsIdeal.τ).loc Cert.ConvColsIdeal.main_arg10))
  rw [e0, e1, e2, e3, e4, e5, e6, e7, e8, e9, e10]

/-- The reference keeps its arguments, and having no semaphore ends with none raised. -/
theorem ref_frame : Cert.quiescent_ConvColsRefIdeal := fun m g _ =>
  (θ_run _ _ _).mono (fun r h => ⟨fun c => (h c).2, sem_eq_zero_of_no_sems (by decide) r.2⟩) (Cert.ConvColsRefIdeal.Value.run m g)

end Cert.ConvColsValue

end
-- ==== Proof.lean ====
module

public import proofs.«01_k».proof.Defs
public import proofs.«01_k».proof.Proof.ConvProjBits
public import proofs.«01_k».proof.Proof.ConvProjClaim
public import proofs.«01_k».proof.Proof.Gen.HgrnOut.Frame
public import proofs.«01_k».proof.Proof.Gen.HgrnOutIdeal.Frame
public import proofs.«01_k».proof.Proof.Gen.HgrnOutIdeal.Value
public import proofs.«01_k».proof.Proof.Gen.HgrnOutRefIdeal.Run
public import proofs.«01_k».proof.Proof.Gen.HgrnOutRefIdeal.Read
public import proofs.«01_k».proof.Proof.HgrnOutClaim
public import proofs.«01_k».proof.Proof.HgrnProjBits
public import proofs.«01_k».proof.Proof.HgrnProjClaim
public import proofs.«01_k».proof.Proof.Gen.HgrnProjRefIdeal.Run
public import proofs.«01_k».proof.Proof.Gen.HgrnProjRefIdeal.Read
public import proofs.«01_k».proof.Proof.Gen.HgrnProj.Frame
public import proofs.«01_k».proof.Proof.Gen.HgrnProjIdeal.Launch
public import proofs.«01_k».proof.Proof.Gen.HgrnProjIdeal.Points
public import proofs.«01_k».proof.Proof.Gen.HgrnProjIdeal.Frame
public import proofs.«01_k».proof.Proof.Gen.ConvProjRefIdeal.Run
public import proofs.«01_k».proof.Proof.Gen.ConvProjRefIdeal.Read
public import proofs.«01_k».proof.Proof.Gen.ConvCols.Frame
public import proofs.«01_k».proof.Proof.Gen.ConvColsIdeal.Value
public import proofs.«01_k».proof.Proof.Gen.ConvColsRefIdeal.Run
public import proofs.«01_k».proof.Proof.Gen.ConvColsRefIdeal.Read
public import proofs.«01_k».proof.Proof.ConvColsClaim

@[expose] public section

noncomputable section

namespace Cert.Proof

open Idealize.ShloMosaic

theorem claim : Cert.Claim :=
  ⟨Cert.HgrnProj.Gen.facts, Cert.HgrnProjIdeal.Gen.facts, Cert.HgrnProjRefIdeal.Gen.facts,
    Cert.ConvProj.Gen.facts, Cert.ConvProjIdeal.Gen.facts, Cert.ConvProjRefIdeal.Gen.facts,
    Cert.HgrnOut.Gen.facts, Cert.HgrnOutIdeal.Gen.facts, Cert.HgrnOutRefIdeal.Gen.facts,
    Cert.ConvCols.Gen.facts, Cert.ConvColsIdeal.Gen.facts, Cert.ConvColsRefIdeal.Gen.facts,
    Cert.HgrnProjBits.printed_frame, Cert.HgrnProjValue.ideal_frame, Cert.HgrnProjValue.ref_frame,
    Cert.ConvProjBits.printed_frame, Cert.ConvProjValue.ideal_frame, Cert.ConvProjValue.ref_frame,
    fun m ρ _ => Cert.HgrnOut.Gen.frame m ρ, fun m ρ _ => Cert.HgrnOutIdeal.Gen.frame m ρ, Cert.HgrnOutValue.ref_frame,
    fun m ρ _ => Cert.ConvCols.Gen.frame m ρ, fun m ρ _ => Cert.ConvColsIdeal.Gen.frame m ρ, Cert.ConvColsValue.ref_frame,
    Cert.HgrnProjValue.preserves, Cert.HgrnProjValue.conforms, trivial, Cert.ConvProjValue.conforms, trivial, Cert.HgrnOutValue.conforms,
    trivial, Cert.ConvColsValue.conforms⟩

end Cert.Proof

end
